-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_finite_mix [hPre_finite_mix : Cert.Pre_finite_mix.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mix [hPre_finite_mix : Cert.Pre_finite_mix.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7))) = (fun _ => 1#1)

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_RecKernel (m : (ℓ : Loc Cert.RecKernel.nD Cert.RecKernel.τ Cert.RecKernel.sig) → Buf (Elt Bits) ℓ) : Prop :=
  True

def Pre_RecKernelIdeal (m : (ℓ : Loc Cert.RecKernelIdeal.nD Cert.RecKernelIdeal.τ Cert.RecKernelIdeal.sig) → Buf (Elt Ideal) ℓ) : Prop :=
  True

def Pre_RecReferenceIdeal (m : (ℓ : Loc Cert.RecReferenceIdeal.nD Cert.RecReferenceIdeal.τ Cert.RecReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixKernelIdeal_pre_finite_mix [hMixKernelIdeal : Cert.MixKernelIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_finite_mix m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_MixReferenceIdeal_pre_finite_mix [hMixReferenceIdeal : Cert.MixReferenceIdeal.Facts] [hPre_finite_mix : Cert.Pre_finite_mix.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mix m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5)
      ∧ r.2.mem ((c.tc : Thread Cert.PrepKernel.nD Cert.PrepKernel.τ).loc Cert.PrepKernel.main_arg6) = m ((c.tc : Thread Cert.PrepKernel.nD Cert.PrepKernel.τ).loc Cert.PrepKernel.main_arg6))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6))
      ∧ r.2.sem = fun _ => 0)

def quiescent_RecKernel [hRecKernel : Cert.RecKernel.Facts] : Prop :=
  ∀ (m : (ℓ : Loc Cert.RecKernel.nD Cert.RecKernel.τ Cert.RecKernel.sig) → Buf (Elt Bits) ℓ) (g : Dev Cert.RecKernel.nD → PrngReg), Pre_RecKernel m →
    θ_run (Cert.RecKernel.defs (F := Bits)) (onTc (τ := Cert.RecKernel.τ) (Cert.RecKernel.main (F := Bits))) ⟨m, fun _ => 0, g⟩ (fun r => (∀ c : Dev Cert.RecKernel.nD,
      r.2.mem ((c.tc : Thread Cert.RecKernel.nD Cert.RecKernel.τ).loc Cert.RecKernel.main_arg0) = m ((c.tc : Thread Cert.RecKernel.nD Cert.RecKernel.τ).loc Cert.RecKernel.main_arg0)
      ∧ r.2.mem ((c.tc : Thread Cert.RecKernel.nD Cert.RecKernel.τ).loc Cert.RecKernel.main_arg1) = m ((c.tc : Thread Cert.RecKernel.nD Cert.RecKernel.τ).loc Cert.RecKernel.main_arg1)
      ∧ r.2.mem ((c.tc : Thread Cert.RecKernel.nD Cert.RecKernel.τ).loc Cert.RecKernel.main_arg2) = m ((c.tc : Thread Cert.RecKernel.nD Cert.RecKernel.τ).loc Cert.RecKernel.main_arg2)
      ∧ r.2.mem ((c.tc : Thread Cert.RecKernel.nD Cert.RecKernel.τ).loc Cert.RecKernel.main_arg3) = m ((c.tc : Thread Cert.RecKernel.nD Cert.RecKernel.τ).loc Cert.RecKernel.main_arg3)
      ∧ r.2.mem ((c.tc : Thread Cert.RecKernel.nD Cert.RecKernel.τ).loc Cert.RecKernel.main_arg4) = m ((c.tc : Thread Cert.RecKernel.nD Cert.RecKernel.τ).loc Cert.RecKernel.main_arg4)
      ∧ r.2.mem ((c.tc : Thread Cert.RecKernel.nD Cert.RecKernel.τ).loc Cert.RecKernel.main_arg5) = m ((c.tc : Thread Cert.RecKernel.nD Cert.RecKernel.τ).loc Cert.RecKernel.main_arg5)
      ∧ r.2.mem ((c.tc : Thread Cert.RecKernel.nD Cert.RecKernel.τ).loc Cert.RecKernel.main_arg6) = m ((c.tc : Thread Cert.RecKernel.nD Cert.RecKernel.τ).loc Cert.RecKernel.main_arg6)
      ∧ r.2.mem ((c.tc : Thread Cert.RecKernel.nD Cert.RecKernel.τ).loc Cert.RecKernel.main_arg7) = m ((c.tc : Thread Cert.RecKernel.nD Cert.RecKernel.τ).loc Cert.RecKernel.main_arg7))
      ∧ r.2.sem = fun _ => 0)

def quiescent_RecKernelIdeal [hRecKernelIdeal : Cert.RecKernelIdeal.Facts] : Prop :=
  ∀ (m : (ℓ : Loc Cert.RecKernelIdeal.nD Cert.RecKernelIdeal.τ Cert.RecKernelIdeal.sig) → Buf (Elt Ideal) ℓ) (g : Dev Cert.RecKernelIdeal.nD → PrngReg), Pre_RecKernelIdeal m →
    θ_run (Cert.RecKernelIdeal.defs (F := Ideal)) (onTc (τ := Cert.RecKernelIdeal.τ) (Cert.RecKernelIdeal.main (F := Ideal))) ⟨m, fun _ => 0, g⟩ (fun r => (∀ c : Dev Cert.RecKernelIdeal.nD,
      r.2.mem ((c.tc : Thread Cert.RecKernelIdeal.nD Cert.RecKernelIdeal.τ).loc Cert.RecKernelIdeal.main_arg0) = m ((c.tc : Thread Cert.RecKernelIdeal.nD Cert.RecKernelIdeal.τ).loc Cert.RecKernelIdeal.main_arg0)
      ∧ r.2.mem ((c.tc : Thread Cert.RecKernelIdeal.nD Cert.RecKernelIdeal.τ).loc Cert.RecKernelIdeal.main_arg1) = m ((c.tc : Thread Cert.RecKernelIdeal.nD Cert.RecKernelIdeal.τ).loc Cert.RecKernelIdeal.main_arg1)
      ∧ r.2.mem ((c.tc : Thread Cert.RecKernelIdeal.nD Cert.RecKernelIdeal.τ).loc Cert.RecKernelIdeal.main_arg2) = m ((c.tc : Thread Cert.RecKernelIdeal.nD Cert.RecKernelIdeal.τ).loc Cert.RecKernelIdeal.main_arg2)
      ∧ r.2.mem ((c.tc : Thread Cert.RecKernelIdeal.nD Cert.RecKernelIdeal.τ).loc Cert.RecKernelIdeal.main_arg3) = m ((c.tc : Thread Cert.RecKernelIdeal.nD Cert.RecKernelIdeal.τ).loc Cert.RecKernelIdeal.main_arg3)
      ∧ r.2.mem ((c.tc : Thread Cert.RecKernelIdeal.nD Cert.RecKernelIdeal.τ).loc Cert.RecKernelIdeal.main_arg4) = m ((c.tc : Thread Cert.RecKernelIdeal.nD Cert.RecKernelIdeal.τ).loc Cert.RecKernelIdeal.main_arg4)
      ∧ r.2.mem ((c.tc : Thread Cert.RecKernelIdeal.nD Cert.RecKernelIdeal.τ).loc Cert.RecKernelIdeal.main_arg5) = m ((c.tc : Thread Cert.RecKernelIdeal.nD Cert.RecKernelIdeal.τ).loc Cert.RecKernelIdeal.main_arg5)
      ∧ r.2.mem ((c.tc : Thread Cert.RecKernelIdeal.nD Cert.RecKernelIdeal.τ).loc Cert.RecKernelIdeal.main_arg6) = m ((c.tc : Thread Cert.RecKernelIdeal.nD Cert.RecKernelIdeal.τ).loc Cert.RecKernelIdeal.main_arg6)
      ∧ r.2.mem ((c.tc : Thread Cert.RecKernelIdeal.nD Cert.RecKernelIdeal.τ).loc Cert.RecKernelIdeal.main_arg7) = m ((c.tc : Thread Cert.RecKernelIdeal.nD Cert.RecKernelIdeal.τ).loc Cert.RecKernelIdeal.main_arg7))
      ∧ r.2.sem = fun _ => 0)

def quiescent_RecReferenceIdeal [hRecReferenceIdeal : Cert.RecReferenceIdeal.Facts] : Prop :=
  ∀ (m : (ℓ : Loc Cert.RecReferenceIdeal.nD Cert.RecReferenceIdeal.τ Cert.RecReferenceIdeal.sig) → Buf (Elt Ideal) ℓ) (g : Dev Cert.RecReferenceIdeal.nD → PrngReg), Pre_RecReferenceIdeal m →
    θ_run (Cert.RecReferenceIdeal.defs (F := Ideal)) (onTc (τ := Cert.RecReferenceIdeal.τ) (Cert.RecReferenceIdeal.main (F := Ideal))) ⟨m, fun _ => 0, g⟩ (fun r => (∀ c : Dev Cert.RecReferenceIdeal.nD,
      r.2.mem ((c.tc : Thread Cert.RecReferenceIdeal.nD Cert.RecReferenceIdeal.τ).loc Cert.RecReferenceIdeal.main_arg0) = m ((c.tc : Thread Cert.RecReferenceIdeal.nD Cert.RecReferenceIdeal.τ).loc Cert.RecReferenceIdeal.main_arg0)
      ∧ r.2.mem ((c.tc : Thread Cert.RecReferenceIdeal.nD Cert.RecReferenceIdeal.τ).loc Cert.RecReferenceIdeal.main_arg1) = m ((c.tc : Thread Cert.RecReferenceIdeal.nD Cert.RecReferenceIdeal.τ).loc Cert.RecReferenceIdeal.main_arg1)
      ∧ r.2.mem ((c.tc : Thread Cert.RecReferenceIdeal.nD Cert.RecReferenceIdeal.τ).loc Cert.RecReferenceIdeal.main_arg2) = m ((c.tc : Thread Cert.RecReferenceIdeal.nD Cert.RecReferenceIdeal.τ).loc Cert.RecReferenceIdeal.main_arg2)
      ∧ r.2.mem ((c.tc : Thread Cert.RecReferenceIdeal.nD Cert.RecReferenceIdeal.τ).loc Cert.RecReferenceIdeal.main_arg3) = m ((c.tc : Thread Cert.RecReferenceIdeal.nD Cert.RecReferenceIdeal.τ).loc Cert.RecReferenceIdeal.main_arg3)
      ∧ r.2.mem ((c.tc : Thread Cert.RecReferenceIdeal.nD Cert.RecReferenceIdeal.τ).loc Cert.RecReferenceIdeal.main_arg4) = m ((c.tc : Thread Cert.RecReferenceIdeal.nD Cert.RecReferenceIdeal.τ).loc Cert.RecReferenceIdeal.main_arg4)
      ∧ r.2.mem ((c.tc : Thread Cert.RecReferenceIdeal.nD Cert.RecReferenceIdeal.τ).loc Cert.RecReferenceIdeal.main_arg5) = m ((c.tc : Thread Cert.RecReferenceIdeal.nD Cert.RecReferenceIdeal.τ).loc Cert.RecReferenceIdeal.main_arg5)
      ∧ r.2.mem ((c.tc : Thread Cert.RecReferenceIdeal.nD Cert.RecReferenceIdeal.τ).loc Cert.RecReferenceIdeal.main_arg6) = m ((c.tc : Thread Cert.RecReferenceIdeal.nD Cert.RecReferenceIdeal.τ).loc Cert.RecReferenceIdeal.main_arg6)
      ∧ r.2.mem ((c.tc : Thread Cert.RecReferenceIdeal.nD Cert.RecReferenceIdeal.τ).loc Cert.RecReferenceIdeal.main_arg7) = m ((c.tc : Thread Cert.RecReferenceIdeal.nD Cert.RecReferenceIdeal.τ).loc Cert.RecReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v8)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v8) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v17) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v2) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_MixKernel_MixKernelIdeal : Prop :=
  True

def algebraic_MixKernelIdeal_MixReferenceIdeal_pre_finite_mix [hMixKernelIdeal : Cert.MixKernelIdeal.Facts] [hMixReferenceIdeal : Cert.MixReferenceIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_finite_mix m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v13_0)) (v1 : (c : Dev Cert.MixKernelIdeal.nD) → Buf (Elt Ideal) ((c.tc : Thread Cert.MixKernelIdeal.nD Cert.MixKernelIdeal.τ).loc Cert.MixKernelIdeal.main_v13_1)) (v2 : (c : Dev Cert.MixKernelIdeal.nD) → Buf (Elt Ideal) ((c.tc : Thread Cert.MixKernelIdeal.nD Cert.MixKernelIdeal.τ).loc Cert.MixKernelIdeal.main_v13_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v13_0) = v0 c
          ∧ r.2.mem ((c.tc : Thread Cert.MixKernelIdeal.nD Cert.MixKernelIdeal.τ).loc Cert.MixKernelIdeal.main_v13_1) = v1 c
          ∧ r.2.mem ((c.tc : Thread Cert.MixKernelIdeal.nD Cert.MixKernelIdeal.τ).loc Cert.MixKernelIdeal.main_v13_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v36) = v0 c
          ∧ r.2.mem ((c.tc : Thread Cert.MixReferenceIdeal.nD Cert.MixReferenceIdeal.τ).loc Cert.MixReferenceIdeal.main_v37) = v1 c
          ∧ r.2.mem ((c.tc : Thread Cert.MixReferenceIdeal.nD Cert.MixReferenceIdeal.τ).loc Cert.MixReferenceIdeal.main_v38) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_PrepKernel_PrepKernelIdeal : Prop :=
  IdealRules.named_const.Statement Cert.PrepKernelIdeal.κ "per_lane" .f32 0x3BAAAAAB#32 ((1 / 192 : ℝ) : EReal)
  ∧ IdealRules.named_const.Statement Cert.PrepKernelIdeal.κ "scale" .f32 0x3DD53B95#32 (((Real.sqrt 192)⁻¹ * (Real.log 2)⁻¹ : ℝ) : EReal)

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)
      ∧ m' ((c.tc : Thread Cert.PrepReferenceIdeal.nD Cert.PrepReferenceIdeal.τ).loc Cert.PrepReferenceIdeal.main_arg6) = m ((c.tc : Thread Cert.PrepKernelIdeal.nD Cert.PrepKernelIdeal.τ).loc Cert.PrepKernelIdeal.main_arg6)) →
    ∃ (v0 : (c : Dev Cert.PrepKernelIdeal.nD) → Buf (Elt Ideal) ((c.tc : Thread Cert.PrepKernelIdeal.nD Cert.PrepKernelIdeal.τ).loc Cert.PrepKernelIdeal.main_v51_0)) (v1 : (c : Dev Cert.PrepKernelIdeal.nD) → Buf (Elt Ideal) ((c.tc : Thread Cert.PrepKernelIdeal.nD Cert.PrepKernelIdeal.τ).loc Cert.PrepKernelIdeal.main_v51_1)) (v2 : (c : Dev Cert.PrepKernelIdeal.nD) → Buf (Elt Ideal) ((c.tc : Thread Cert.PrepKernelIdeal.nD Cert.PrepKernelIdeal.τ).loc Cert.PrepKernelIdeal.main_v51_2)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v51_0) = v0 c
          ∧ r.2.mem ((c.tc : Thread Cert.PrepKernelIdeal.nD Cert.PrepKernelIdeal.τ).loc Cert.PrepKernelIdeal.main_v51_1) = v1 c
          ∧ r.2.mem ((c.tc : Thread Cert.PrepKernelIdeal.nD Cert.PrepKernelIdeal.τ).loc Cert.PrepKernelIdeal.main_v51_2) = v2 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
          ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v146) = v0 c
          ∧ r.2.mem ((c.tc : Thread Cert.PrepReferenceIdeal.nD Cert.PrepReferenceIdeal.τ).loc Cert.PrepReferenceIdeal.main_v147) = v1 c
          ∧ r.2.mem ((c.tc : Thread Cert.PrepReferenceIdeal.nD Cert.PrepReferenceIdeal.τ).loc Cert.PrepReferenceIdeal.main_v148) = v2 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6))

def preserves_RecKernel_RecKernelIdeal : Prop :=
  True

def algebraic_RecKernelIdeal_RecReferenceIdeal [hRecKernelIdeal : Cert.RecKernelIdeal.Facts] [hRecReferenceIdeal : Cert.RecReferenceIdeal.Facts] : Prop :=
  ∀ (m : (ℓ : Loc Cert.RecKernelIdeal.nD Cert.RecKernelIdeal.τ Cert.RecKernelIdeal.sig) → Buf (Elt Ideal) ℓ) (g : Dev Cert.RecKernelIdeal.nD → PrngReg)
    (m' : (ℓ : Loc Cert.RecReferenceIdeal.nD Cert.RecReferenceIdeal.τ Cert.RecReferenceIdeal.sig) → Buf (Elt Ideal) ℓ) (g' : Dev Cert.RecReferenceIdeal.nD → PrngReg), Pre_RecKernelIdeal m →
    (∀ c : Dev Cert.RecKernelIdeal.nD,
      m' ((c.tc : Thread Cert.RecReferenceIdeal.nD Cert.RecReferenceIdeal.τ).loc Cert.RecReferenceIdeal.main_arg0) = m ((c.tc : Thread Cert.RecKernelIdeal.nD Cert.RecKernelIdeal.τ).loc Cert.RecKernelIdeal.main_arg0)
      ∧ m' ((c.tc : Thread Cert.RecReferenceIdeal.nD Cert.RecReferenceIdeal.τ).loc Cert.RecReferenceIdeal.main_arg1) = m ((c.tc : Thread Cert.RecKernelIdeal.nD Cert.RecKernelIdeal.τ).loc Cert.RecKernelIdeal.main_arg1)
      ∧ m' ((c.tc : Thread Cert.RecReferenceIdeal.nD Cert.RecReferenceIdeal.τ).loc Cert.RecReferenceIdeal.main_arg2) = m ((c.tc : Thread Cert.RecKernelIdeal.nD Cert.RecKernelIdeal.τ).loc Cert.RecKernelIdeal.main_arg2)
      ∧ m' ((c.tc : Thread Cert.RecReferenceIdeal.nD Cert.RecReferenceIdeal.τ).loc Cert.RecReferenceIdeal.main_arg3) = m ((c.tc : Thread Cert.RecKernelIdeal.nD Cert.RecKernelIdeal.τ).loc Cert.RecKernelIdeal.main_arg3)
      ∧ m' ((c.tc : Thread Cert.RecReferenceIdeal.nD Cert.RecReferenceIdeal.τ).loc Cert.RecReferenceIdeal.main_arg4) = m ((c.tc : Thread Cert.RecKernelIdeal.nD Cert.RecKernelIdeal.τ).loc Cert.RecKernelIdeal.main_arg4)
      ∧ m' ((c.tc : Thread Cert.RecReferenceIdeal.nD Cert.RecReferenceIdeal.τ).loc Cert.RecReferenceIdeal.main_arg5) = m ((c.tc : Thread Cert.RecKernelIdeal.nD Cert.RecKernelIdeal.τ).loc Cert.RecKernelIdeal.main_arg5)
      ∧ m' ((c.tc : Thread Cert.RecReferenceIdeal.nD Cert.RecReferenceIdeal.τ).loc Cert.RecReferenceIdeal.main_arg6) = m ((c.tc : Thread Cert.RecKernelIdeal.nD Cert.RecKernelIdeal.τ).loc Cert.RecKernelIdeal.main_arg6)
      ∧ m' ((c.tc : Thread Cert.RecReferenceIdeal.nD Cert.RecReferenceIdeal.τ).loc Cert.RecReferenceIdeal.main_arg7) = m ((c.tc : Thread Cert.RecKernelIdeal.nD Cert.RecKernelIdeal.τ).loc Cert.RecKernelIdeal.main_arg7)) →
    ∃ (v0 : (c : Dev Cert.RecKernelIdeal.nD) → Buf (Elt Ideal) ((c.tc : Thread Cert.RecKernelIdeal.nD Cert.RecKernelIdeal.τ).loc Cert.RecKernelIdeal.main_v6_1)),
      θ_run (Cert.RecKernelIdeal.defs (F := Ideal)) (onTc (τ := Cert.RecKernelIdeal.τ) (Cert.RecKernelIdeal.main (F := Ideal))) ⟨m, fun _ => 0, g⟩ (fun r => ∀ c : Dev Cert.RecKernelIdeal.nD,
          r.2.mem ((c.tc : Thread Cert.RecKernelIdeal.nD Cert.RecKernelIdeal.τ).loc Cert.RecKernelIdeal.main_v6_1) = v0 c
          ∧ r.2.mem ((c.tc : Thread Cert.RecKernelIdeal.nD Cert.RecKernelIdeal.τ).loc Cert.RecKernelIdeal.main_arg0) = m ((c.tc : Thread Cert.RecKernelIdeal.nD Cert.RecKernelIdeal.τ).loc Cert.RecKernelIdeal.main_arg0)
          ∧ r.2.mem ((c.tc : Thread Cert.RecKernelIdeal.nD Cert.RecKernelIdeal.τ).loc Cert.RecKernelIdeal.main_arg1) = m ((c.tc : Thread Cert.RecKernelIdeal.nD Cert.RecKernelIdeal.τ).loc Cert.RecKernelIdeal.main_arg1)
          ∧ r.2.mem ((c.tc : Thread Cert.RecKernelIdeal.nD Cert.RecKernelIdeal.τ).loc Cert.RecKernelIdeal.main_arg2) = m ((c.tc : Thread Cert.RecKernelIdeal.nD Cert.RecKernelIdeal.τ).loc Cert.RecKernelIdeal.main_arg2)
          ∧ r.2.mem ((c.tc : Thread Cert.RecKernelIdeal.nD Cert.RecKernelIdeal.τ).loc Cert.RecKernelIdeal.main_arg3) = m ((c.tc : Thread Cert.RecKernelIdeal.nD Cert.RecKernelIdeal.τ).loc Cert.RecKernelIdeal.main_arg3)
          ∧ r.2.mem ((c.tc : Thread Cert.RecKernelIdeal.nD Cert.RecKernelIdeal.τ).loc Cert.RecKernelIdeal.main_arg4) = m ((c.tc : Thread Cert.RecKernelIdeal.nD Cert.RecKernelIdeal.τ).loc Cert.RecKernelIdeal.main_arg4)
          ∧ r.2.mem ((c.tc : Thread Cert.RecKernelIdeal.nD Cert.RecKernelIdeal.τ).loc Cert.RecKernelIdeal.main_arg5) = m ((c.tc : Thread Cert.RecKernelIdeal.nD Cert.RecKernelIdeal.τ).loc Cert.RecKernelIdeal.main_arg5)
          ∧ r.2.mem ((c.tc : Thread Cert.RecKernelIdeal.nD Cert.RecKernelIdeal.τ).loc Cert.RecKernelIdeal.main_arg6) = m ((c.tc : Thread Cert.RecKernelIdeal.nD Cert.RecKernelIdeal.τ).loc Cert.RecKernelIdeal.main_arg6)
          ∧ r.2.mem ((c.tc : Thread Cert.RecKernelIdeal.nD Cert.RecKernelIdeal.τ).loc Cert.RecKernelIdeal.main_arg7) = m ((c.tc : Thread Cert.RecKernelIdeal.nD Cert.RecKernelIdeal.τ).loc Cert.RecKernelIdeal.main_arg7))
      ∧ θ_run (Cert.RecReferenceIdeal.defs (F := Ideal)) (onTc (τ := Cert.RecReferenceIdeal.τ) (Cert.RecReferenceIdeal.main (F := Ideal))) ⟨m', fun _ => 0, g'⟩ (fun r => ∀ c : Dev Cert.RecReferenceIdeal.nD,
          r.2.mem ((c.tc : Thread Cert.RecReferenceIdeal.nD Cert.RecReferenceIdeal.τ).loc Cert.RecReferenceIdeal.main_v31) = v0 c
          ∧ r.2.mem ((c.tc : Thread Cert.RecReferenceIdeal.nD Cert.RecReferenceIdeal.τ).loc Cert.RecReferenceIdeal.main_arg0) = m' ((c.tc : Thread Cert.RecReferenceIdeal.nD Cert.RecReferenceIdeal.τ).loc Cert.RecReferenceIdeal.main_arg0)
          ∧ r.2.mem ((c.tc : Thread Cert.RecReferenceIdeal.nD Cert.RecReferenceIdeal.τ).loc Cert.RecReferenceIdeal.main_arg1) = m' ((c.tc : Thread Cert.RecReferenceIdeal.nD Cert.RecReferenceIdeal.τ).loc Cert.RecReferenceIdeal.main_arg1)
          ∧ r.2.mem ((c.tc : Thread Cert.RecReferenceIdeal.nD Cert.RecReferenceIdeal.τ).loc Cert.RecReferenceIdeal.main_arg2) = m' ((c.tc : Thread Cert.RecReferenceIdeal.nD Cert.RecReferenceIdeal.τ).loc Cert.RecReferenceIdeal.main_arg2)
          ∧ r.2.mem ((c.tc : Thread Cert.RecReferenceIdeal.nD Cert.RecReferenceIdeal.τ).loc Cert.RecReferenceIdeal.main_arg3) = m' ((c.tc : Thread Cert.RecReferenceIdeal.nD Cert.RecReferenceIdeal.τ).loc Cert.RecReferenceIdeal.main_arg3)
          ∧ r.2.mem ((c.tc : Thread Cert.RecReferenceIdeal.nD Cert.RecReferenceIdeal.τ).loc Cert.RecReferenceIdeal.main_arg4) = m' ((c.tc : Thread Cert.RecReferenceIdeal.nD Cert.RecReferenceIdeal.τ).loc Cert.RecReferenceIdeal.main_arg4)
          ∧ r.2.mem ((c.tc : Thread Cert.RecReferenceIdeal.nD Cert.RecReferenceIdeal.τ).loc Cert.RecReferenceIdeal.main_arg5) = m' ((c.tc : Thread Cert.RecReferenceIdeal.nD Cert.RecReferenceIdeal.τ).loc Cert.RecReferenceIdeal.main_arg5)
          ∧ r.2.mem ((c.tc : Thread Cert.RecReferenceIdeal.nD Cert.RecReferenceIdeal.τ).loc Cert.RecReferenceIdeal.main_arg6) = m' ((c.tc : Thread Cert.RecReferenceIdeal.nD Cert.RecReferenceIdeal.τ).loc Cert.RecReferenceIdeal.main_arg6)
          ∧ r.2.mem ((c.tc : Thread Cert.RecReferenceIdeal.nD Cert.RecReferenceIdeal.τ).loc Cert.RecReferenceIdeal.main_arg7) = m' ((c.tc : Thread Cert.RecReferenceIdeal.nD Cert.RecReferenceIdeal.τ).loc Cert.RecReferenceIdeal.main_arg7))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hNormKernel : Cert.NormKernel.Facts) (hNormKernelIdeal : Cert.NormKernelIdeal.Facts) (hNormReferenceIdeal : Cert.NormReferenceIdeal.Facts) (hMixKernel : Cert.MixKernel.Facts) (hMixKernelIdeal : Cert.MixKernelIdeal.Facts) (hMixReferenceIdeal : Cert.MixReferenceIdeal.Facts) (hPrepKernel : Cert.PrepKernel.Facts) (hPrepKernelIdeal : Cert.PrepKernelIdeal.Facts) (hPrepReferenceIdeal : Cert.PrepReferenceIdeal.Facts) (hRecKernel : Cert.RecKernel.Facts) (hRecKernelIdeal : Cert.RecKernelIdeal.Facts) (hRecReferenceIdeal : Cert.RecReferenceIdeal.Facts) (hPre_finite : Cert.Pre_finite.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_MixKernel (hMixKernel := hMixKernel)
    ∧ quiescent_MixKernelIdeal (hMixKernelIdeal := hMixKernelIdeal)
    ∧ quiescent_MixKernelIdeal_pre_finite_mix (hMixKernelIdeal := hMixKernelIdeal) (hPre_finite_mix := hPre_finite_mix)
    ∧ quiescent_MixReferenceIdeal (hMixReferenceIdeal := hMixReferenceIdeal)
    ∧ quiescent_MixReferenceIdeal_pre_finite_mix (hMixReferenceIdeal := hMixReferenceIdeal) (hPre_finite_mix := hPre_finite_mix)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ quiescent_RecKernel (hRecKernel := hRecKernel)
    ∧ quiescent_RecKernelIdeal (hRecKernelIdeal := hRecKernelIdeal)
    ∧ quiescent_RecReferenceIdeal (hRecReferenceIdeal := hRecReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InKernel_InKernelIdeal
    ∧ algebraic_InKernelIdeal_InReferenceIdeal (hInKernelIdeal := hInKernelIdeal) (hInReferenceIdeal := hInReferenceIdeal)
    ∧ preserves_NormKernel_NormKernelIdeal
    ∧ algebraic_NormKernelIdeal_NormReferenceIdeal (hNormKernelIdeal := hNormKernelIdeal) (hNormReferenceIdeal := hNormReferenceIdeal)
    ∧ preserves_MixKernel_MixKernelIdeal
    ∧ algebraic_MixKernelIdeal_MixReferenceIdeal_pre_finite_mix (hMixKernelIdeal := hMixKernelIdeal) (hMixReferenceIdeal := hMixReferenceIdeal) (hPre_finite_mix := hPre_finite_mix)
    ∧ preserves_PrepKernel_PrepKernelIdeal
    ∧ algebraic_PrepKernelIdeal_PrepReferenceIdeal (hPrepKernelIdeal := hPrepKernelIdeal) (hPrepReferenceIdeal := hPrepReferenceIdeal)
    ∧ preserves_RecKernel_RecKernelIdeal
    ∧ algebraic_RecKernelIdeal_RecReferenceIdeal (hRecKernelIdeal := hRecKernelIdeal) (hRecReferenceIdeal := hRecReferenceIdeal)
-- ==== Pre_finite.lean ====
abbrev S5x8192x8x192 : Shape := ⟨4, ![5, 8192, 8, 192]⟩
abbrev S5x8192x8x128 : Shape := ⟨4, ![5, 8192, 8, 128]⟩
abbrev S_ : Shape := ⟨0, ![]⟩

class Facts : Prop where
  bcast_S_S5x8192x8x192 : S_.BroadcastsInDim S5x8192x8x192 (![] : Fin 0 → Fin S5x8192x8x192.rank)
  reducesTo_S5x8192x8x192_S_d0_1_2_3 : S5x8192x8x192.ReducesTo [0, 1, 2, 3] S_
  h_S_ : 0 < S_.numel
  bcast_S_S5x8192x8x128 : S_.BroadcastsInDim S5x8192x8x128 (![] : Fin 0 → Fin S5x8192x8x128.rank)
  reducesTo_S5x8192x8x128_S_d0_1_2_3 : S5x8192x8x128.ReducesTo [0, 1, 2, 3] S_

variable [Facts]

def fn {F : FTy → Type} [FloatOps F] (main_arg0 : FVec F S5x8192x8x192 .f32) (main_arg1 : FVec F S5x8192x8x192 .f32) (main_arg2 : FVec F S5x8192x8x128 .f32) : IVec S_ 1 :=
  let main_v0 : FVec F S5x8192x8x192 .f32 := Host.absf main_arg0
  let main_cst : FVec F S_ .f32 := constant S_ .f32 0x7F800000#32
  let main_v1 : FVec F S5x8192x8x192 .f32 := broadcastInDim S5x8192x8x192 ![] bcast_S_S5x8192x8x192 main_cst
  let main_v2 : IVec S5x8192x8x192 1 := cmpf .olt main_v0 main_v1
  let main_c : IVec S_ 1 := constantI S_ 1 1#1
  let main_v3 : IVec S_ 1 := (fun x v => Host.reduce IntOp.andi x v reducesTo_S5x8192x8x192_S_d0_1_2_3 h_S_) main_v2 main_c
  let main_v4 : FVec F S5x8192x8x192 .f32 := Host.absf main_arg1
  let main_cst_0 : FVec F S_ .f32 := constant S_ .f32 0x7F800000#32
  let main_v5 : FVec F S5x8192x8x192 .f32 := broadcastInDim S5x8192x8x192 ![] bcast_S_S5x8192x8x192 main_cst_0
  let main_v6 : IVec S5x8192x8x192 1 := cmpf .olt main_v4 main_v5
  let main_c_1 : IVec S_ 1 := constantI S_ 1 1#1
  let main_v7 : IVec S_ 1 := (fun x v => Host.reduce IntOp.andi x v reducesTo_S5x8192x8x192_S_d0_1_2_3 h_S_) main_v6 main_c_1
  let main_v8 : IVec S_ 1 := andi main_v3 main_v7
  let main_v9 : FVec F S5x8192x8x128 .f32 := Host.absf main_arg2
  let main_cst_2 : FVec F S_ .f32 := constant S_ .f32 0x7F800000#32
  let main_v10 : FVec F S5x8192x8x128 .f32 := broadcastInDim S5x8192x8x128 ![] bcast_S_S5x8192x8x128 main_cst_2
  let main_v11 : IVec S5x8192x8x128 1 := cmpf .olt main_v9 main_v10
  let main_c_3 : IVec S_ 1 := constantI S_ 1 1#1
  let main_v12 : IVec S_ 1 := (fun x v => Host.reduce IntOp.andi x v reducesTo_S5x8192x8x128_S_d0_1_2_3 h_S_) main_v11 main_c_3
  let main_v13 : IVec S_ 1 := andi main_v8 main_v12
  main_v13
-- ==== Pre_finite_mix.lean ====
abbrev S5x8192x1024 : Shape := ⟨3, ![5, 8192, 1024]⟩
abbrev S40960x2944 : Shape := ⟨2, ![40960, 2944]⟩
abbrev S5x8192x2048 : Shape := ⟨3, ![5, 8192, 2048]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x16 : S_.BroadcastsInDim S2048x16 (![] : Fin 0 → Fin S2048x16.rank)
  reducesTo_S2048x16_S_d0_1 : S2048x16.ReducesTo [0, 1] S_

variable [Facts]

def fn {F : FTy → Type} [FloatOps F] (main_arg0 : FVec F S5x8192x1024 .f32) (main_arg1 : FVec F S5x8192x1024 .f32) (main_arg2 : FVec F S40960x2944 .f32) (main_arg3 : FVec F S5x8192x1024 .bf16) (main_arg4 : FVec F S5x8192x2048 .f32) (main_arg5 : FVec F S2048x2048 .f32) (main_arg6 : FVec F S2048 .f32) (main_arg7 : FVec F S2048x16 .f32) : IVec S_ 1 :=
  let main_v0 : FVec F S2048 .f32 := Host.absf main_arg6
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x16 .f32 := Host.absf main_arg7
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  main_v8
-- ==== Kernel.lean ====
abbrev S5x8192x8x192 : Shape := ⟨4, ![5, 8192, 8, 192]⟩
abbrev S5x8192x8x128 : Shape := ⟨4, ![5, 8192, 8, 128]⟩
abbrev S_ : Shape := ⟨0, ![]⟩
abbrev S5x8192x8x64 : Shape := ⟨4, ![5, 8192, 8, 64]⟩
abbrev S5x8192x8x256 : Shape := ⟨4, ![5, 8192, 8, 256]⟩
abbrev S5x8x8192x256 : Shape := ⟨4, ![5, 8, 8192, 256]⟩
abbrev S5x8192x1024 : Shape := ⟨3, ![5, 8192, 1024]⟩
abbrev S1x1x1024x256 : Shape := ⟨4, ![1, 1, 1024, 256]⟩
abbrev S1x1x8192x256 : Shape := ⟨4, ![1, 1, 8192, 256]⟩
abbrev S1x1024x128 : Shape := ⟨3, ![1, 1024, 128]⟩
abbrev S1024x1024 : Shape := ⟨2, ![1024, 1024]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 25
  | .vmem => 16
  | .smem => 0
  | _ => 0

abbrev bufTy : (tb : Table) → Fin (tcTables nBuf tb) → BufTy
  | .hbm, ⟨0, _⟩ => ⟨S5x8192x8x192, .f32⟩
  | .hbm, ⟨1, _⟩ => ⟨S5x8192x8x192, .f32⟩
  | .hbm, ⟨2, _⟩ => ⟨S5x8192x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S5x8192x8x192, .f32⟩
  | .hbm, ⟨9, _⟩ => ⟨S5x8192x8x192, .f32⟩
  | .hbm, ⟨10, _⟩ => ⟨S5x8192x8x64, .f32⟩
  | .hbm, ⟨11, _⟩ => ⟨S5x8192x8x256, .f32⟩
  | .hbm, ⟨12, _⟩ => ⟨S5x8192x8x256, .bf16⟩
  | .hbm, ⟨13, _⟩ => ⟨S_, .f32⟩
  | .hbm, ⟨14, _⟩ => ⟨S5x8192x8x64, .f32⟩
  | .hbm, ⟨15, _⟩ => ⟨S5x8192x8x256, .f32⟩
  | .hbm, ⟨16, _⟩ => ⟨S5x8192x8x256, .bf16⟩
  | .hbm, ⟨17, _⟩ => ⟨S_, .f32⟩
  | .hbm, ⟨18, _⟩ => ⟨S5x8192x8x128, .f32⟩
  | .hbm, ⟨19, _⟩ => ⟨S5x8192x8x256, .f32⟩
  | .hbm, ⟨20, _⟩ => ⟨S5x8192x8x256, .bf16⟩
  | .hbm, ⟨21, _⟩ => ⟨S5x8x8192x256, .bf16⟩
  | .hbm, ⟨22, _⟩ => ⟨S5x8x8192x256, .bf16⟩
  | .hbm, ⟨23, _⟩ => ⟨S5x8x8192x256, .bf16⟩
  | .hbm, ⟨24, _⟩ => ⟨S5x8192x1024, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x8192x256, .bf16⟩
  | .local _ .vmem, ⟨3, _⟩ => ⟨S1x1x8192x256, .bf16⟩
  | .local _ .vmem, ⟨4, _⟩ => ⟨S1x1x8192x256, .bf16⟩
  | .local _ .vmem, ⟨5, _⟩ => ⟨S1x1x8192x256, .bf16⟩
  | .local _ .vmem, ⟨6, _⟩ => ⟨S1x1024x128, .bf16⟩
  | .local _ .vmem, ⟨7, _⟩ => ⟨S1x1024x128, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x256, .f32⟩
  | _, _ => ⟨S5x8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 8, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S5x8192x8x192 : Shape := ⟨4, ![5, 8192, 8, 192]⟩
abbrev S5x8192x8x128 : Shape := ⟨4, ![5, 8192, 8, 128]⟩
abbrev S5x8x8192x8192 : Shape := ⟨4, ![5, 8, 8192, 8192]⟩
abbrev S_ : Shape := ⟨0, ![]⟩
abbrev S5x8x8192 : Shape := ⟨3, ![5, 8, 8192]⟩
abbrev S5x8x8192x1 : Shape := ⟨4, ![5, 8, 8192, 1]⟩
abbrev S5x8x128x8192 : Shape := ⟨4, ![5, 8, 128, 8192]⟩
abbrev S5x8192x1024 : Shape := ⟨3, ![5, 8192, 1024]⟩

abbrev nBuf : Space → Nat
  | .hbm => 26
  | .vmem => 0
  | .smem => 0
  | _ => 0

abbrev bufTy : (tb : Table) → Fin (tcTables nBuf tb) → BufTy
  | .hbm, ⟨0, _⟩ => ⟨S5x8192x8x192, .f32⟩
  | .hbm, ⟨1, _⟩ => ⟨S5x8192x8x192, .f32⟩
  | .hbm, ⟨2, _⟩ => ⟨S5x8192x8x128, .f32⟩
  | .hbm, ⟨3, _⟩ => ⟨S5x8x8192x8192, .f32⟩
  | .hbm, ⟨4, _⟩ => ⟨S_, .f32⟩
  | .hbm, ⟨5, _⟩ => ⟨S_, .f32⟩
  | .hbm, ⟨6, _⟩ => ⟨S5x8x8192x8192, .f32⟩
  | .hbm, ⟨7, _⟩ => ⟨S5x8x8192x8192, .f32⟩
  | .hbm, ⟨8, _⟩ => ⟨S_, .f32⟩
  | .hbm, ⟨9, _⟩ => ⟨S5x8x8192, .f32⟩
  | .hbm, ⟨10, _⟩ => ⟨S_, .f32⟩
  | .hbm, ⟨11, _⟩ => ⟨S5x8x8192, .f32⟩
  | .hbm, ⟨12, _⟩ => ⟨S5x8x8192, .f32⟩
  | .hbm, ⟨13, _⟩ => ⟨S5x8x8192x1, .f32⟩
  | .hbm, ⟨14, _⟩ => ⟨S5x8x8192x8192, .f32⟩
  | .hbm, ⟨15, _⟩ => ⟨S5x8x8192x8192, .f32⟩
  | .hbm, ⟨16, _⟩ => ⟨S5x8x8192x8192, .f32⟩
  | .hbm, ⟨17, _⟩ => ⟨S_, .f32⟩
  | .hbm, ⟨18, _⟩ => ⟨S5x8x8192, .f32⟩
  | .hbm, ⟨19, _⟩ => ⟨S5x8x8192x1, .f32⟩
  | .hbm, ⟨20, _⟩ => ⟨S5x8x8192x8192, .f32⟩
  | .hbm, ⟨21, _⟩ => ⟨S5x8x8192x8192, .f32⟩
  | .hbm, ⟨22, _⟩ => ⟨S5x8x128x8192, .f32⟩
  | .hbm, ⟨23, _⟩ => ⟨S5x8192x8x128, .f32⟩
  | .hbm, ⟨24, _⟩ => ⟨S5x8192x1024, .f32⟩
  | .hbm, ⟨25, _⟩ => ⟨S5x8192x1024, .bf16⟩
  | _, _ => ⟨S5x8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InKernel.lean ====
abbrev S5x8192x2048 : Shape := ⟨3, ![5, 8192, 2048]⟩
abbrev S2048 : Shape := ⟨1, ![2048]⟩
abbrev S2048x2880 : Shape := ⟨2, ![2048, 2880]⟩
abbrev S2048x64 : Shape := ⟨2, ![2048, 64]⟩
abbrev S2048x32 : Shape := ⟨2, ![2048, 32]⟩
abbrev S2048x2944 : Shape := ⟨2, ![2048, 2944]⟩
abbrev S40960x2048 : Shape := ⟨2, ![40960, 2048]⟩
abbrev S1x2048 : Shape := ⟨2, ![1, 2048]⟩
abbrev S40960x2944 : Shape := ⟨2, ![40960, 2944]⟩
abbrev S256x2048 : Shape := ⟨2, ![256, 2048]⟩
abbrev S256x2944 : Shape := ⟨2, ![256, 2944]⟩
abbrev S256 : Shape := ⟨1, ![256]⟩
abbrev S256x1 : Shape := ⟨2, ![256, 1]⟩

abbrev nBuf : Space → Nat
  | .hbm => 12
  | .vmem => 6
  | .smem => 0
  | _ => 0

abbrev bufTy : (tb : Table) → Fin (tcTables nBuf tb) → BufTy
  | .hbm, ⟨0, _⟩ => ⟨S5x8192x2048, .f32⟩
  | .hbm, ⟨1, _⟩ => ⟨S2048, .f32⟩
  | .hbm, ⟨2, _⟩ => ⟨S2048x2880, .f32⟩
  | .hbm, ⟨3, _⟩ => ⟨S2048x64, .f32⟩
  | .hbm, ⟨4, _⟩ => ⟨S2048x32, .f32⟩
  | .hbm, ⟨5, _⟩ => ⟨S2048x32, .f32⟩
  | .hbm, ⟨6, _⟩ => ⟨S2048x64, .f32⟩
  | .hbm, ⟨7, _⟩ => ⟨S2048x2944, .f32⟩
  | .hbm, ⟨8, _⟩ => ⟨S2048x2944, .bf16⟩
  | .hbm, ⟨9, _⟩ => ⟨S40960x2048, .f32⟩
  | .hbm, ⟨10, _⟩ => ⟨S1x2048, .f32⟩
  | .hbm, ⟨11, _⟩ => ⟨S40960x2944, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2944, .bf16⟩
  | .local _ .vmem, ⟨4, _⟩ => ⟨S256x2944, .f32⟩
  | .local _ .vmem, ⟨5, _⟩ => ⟨S256x2944, .f32⟩
  | _, _ => ⟨S5x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InReferenceIdeal.lean ====
abbrev S5x8192x2048 : Shape := ⟨3, ![5, 8192, 2048]⟩
abbrev S2048 : Shape := ⟨1, ![2048]⟩
abbrev S2048x2880 : Shape := ⟨2, ![2048, 2880]⟩
abbrev S_ : Shape := ⟨0, ![]⟩
abbrev S5x8192 : Shape := ⟨2, ![5, 8192]⟩
abbrev S5x8192x1 : Shape := ⟨3, ![5, 8192, 1]⟩
abbrev S1x1x2048 : Shape := ⟨3, ![1, 1, 2048]⟩
abbrev S5x8192x2880 : Shape := ⟨3, ![5, 8192, 2880]⟩
abbrev S5x8192x32 : Shape := ⟨3, ![5, 8192, 32]⟩
abbrev S5x8192x2944 : Shape := ⟨3, ![5, 8192, 2944]⟩
abbrev S40960x2944 : Shape := ⟨2, ![40960, 2944]⟩

abbrev nBuf : Space → Nat
  | .hbm => 24
  | .vmem => 0
  | .smem => 0
  | _ => 0

abbrev bufTy : (tb : Table) → Fin (tcTables nBuf tb) → BufTy
  | .hbm, ⟨0, _⟩ => ⟨S5x8192x2048, .f32⟩
  | .hbm, ⟨1, _⟩ => ⟨S2048, .f32⟩
  | .hbm, ⟨2, _⟩ => ⟨S2048x2880, .f32⟩
  | .hbm, ⟨3, _⟩ => ⟨S5x8192x2048, .f32⟩
  | .hbm, ⟨4, _⟩ => ⟨S_, .f32⟩
  | .hbm, ⟨5, _⟩ => ⟨S5x8192, .f32⟩
  | .hbm, ⟨6, _⟩ => ⟨S5x8192x1, .f32⟩
  | .hbm, ⟨7, _⟩ => ⟨S_, .f32⟩
  | .hbm, ⟨8, _⟩ => ⟨S5x8192x1, .f32⟩
  | .hbm, ⟨9, _⟩ => ⟨S5x8192x1, .f32⟩
  | .hbm, ⟨10, _⟩ => ⟨S_, .f32⟩
  | .hbm, ⟨11, _⟩ => ⟨S5x8192x1, .f32⟩
  | .hbm, ⟨12, _⟩ => ⟨S5x8192x1, .f32⟩
  | .hbm, ⟨13, _⟩ => ⟨S5x8192x1, .f32⟩
  | .hbm, ⟨14, _⟩ => ⟨S5x8192x2048, .f32⟩
  | .hbm, ⟨15, _⟩ => ⟨S5x8192x2048, .f32⟩
  | .hbm, ⟨16, _⟩ => ⟨S1x1x2048, .f32⟩
  | .hbm, ⟨17, _⟩ => ⟨S5x8192x2048, .f32⟩
  | .hbm, ⟨18, _⟩ => ⟨S5x8192x2048, .f32⟩
  | .hbm, ⟨19, _⟩ => ⟨S5x8192x2880, .f32⟩
  | .hbm, ⟨20, _⟩ => ⟨S5x8192x32, .f32⟩
  | .hbm, ⟨21, _⟩ => ⟨S5x8192x32, .f32⟩
  | .hbm, ⟨22, _⟩ => ⟨S5x8192x2944, .f32⟩
  | .hbm, ⟨23, _⟩ => ⟨S40960x2944, .f32⟩
  | _, _ => ⟨S5x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== NormKernel.lean ====
abbrev S5x8192x2048 : Shape := ⟨3, ![5, 8192, 2048]⟩
abbrev S2048 : Shape := ⟨1, ![2048]⟩
abbrev S40960x2048 : Shape := ⟨2, ![40960, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S5x8192x2048, .f32⟩
  | .hbm, ⟨1, _⟩ => ⟨S2048, .f32⟩
  | .hbm, ⟨2, _⟩ => ⟨S40960x2048, .f32⟩
  | .hbm, ⟨3, _⟩ => ⟨S1x2048, .f32⟩
  | .hbm, ⟨4, _⟩ => ⟨S40960x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S5x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S5x8192x2048 : Shape := ⟨3, ![5, 8192, 2048]⟩
abbrev S2048 : Shape := ⟨1, ![2048]⟩
abbrev S_ : Shape := ⟨0, ![]⟩
abbrev S5x8192 : Shape := ⟨2, ![5, 8192]⟩
abbrev S5x8192x1 : Shape := ⟨3, ![5, 8192, 1]⟩
abbrev S1x1x2048 : Shape := ⟨3, ![1, 1, 2048]⟩
abbrev S40960x2048 : Shape := ⟨2, ![40960, 2048]⟩

abbrev nBuf : Space → Nat
  | .hbm => 19
  | .vmem => 0
  | .smem => 0
  | _ => 0

abbrev bufTy : (tb : Table) → Fin (tcTables nBuf tb) → BufTy
  | .hbm, ⟨0, _⟩ => ⟨S5x8192x2048, .f32⟩
  | .hbm, ⟨1, _⟩ => ⟨S2048, .f32⟩
  | .hbm, ⟨2, _⟩ => ⟨S5x8192x2048, .f32⟩
  | .hbm, ⟨3, _⟩ => ⟨S_, .f32⟩
  | .hbm, ⟨4, _⟩ => ⟨S5x8192, .f32⟩
  | .hbm, ⟨5, _⟩ => ⟨S5x8192x1, .f32⟩
  | .hbm, ⟨6, _⟩ => ⟨S_, .f32⟩
  | .hbm, ⟨7, _⟩ => ⟨S5x8192x1, .f32⟩
  | .hbm, ⟨8, _⟩ => ⟨S5x8192x1, .f32⟩
  | .hbm, ⟨9, _⟩ => ⟨S_, .f32⟩
  | .hbm, ⟨10, _⟩ => ⟨S5x8192x1, .f32⟩
  | .hbm, ⟨11, _⟩ => ⟨S5x8192x1, .f32⟩
  | .hbm, ⟨12, _⟩ => ⟨S5x8192x1, .f32⟩
  | .hbm, ⟨13, _⟩ => ⟨S5x8192x2048, .f32⟩
  | .hbm, ⟨14, _⟩ => ⟨S5x8192x2048, .f32⟩
  | .hbm, ⟨15, _⟩ => ⟨S1x1x2048, .f32⟩
  | .hbm, ⟨16, _⟩ => ⟨S5x8192x2048, .f32⟩
  | .hbm, ⟨17, _⟩ => ⟨S5x8192x2048, .f32⟩
  | .hbm, ⟨18, _⟩ => ⟨S40960x2048, .f32⟩
  | _, _ => ⟨S5x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MixKernel.lean ====
abbrev S5x8192x1024 : Shape := ⟨3, ![5, 8192, 1024]⟩
abbrev S40960x2944 : Shape := ⟨2, ![40960, 2944]⟩
abbrev S5x8192x2048 : Shape := ⟨3, ![5, 8192, 2048]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩
abbrev S2048x128 : Shape := ⟨2, ![2048, 128]⟩
abbrev S2048x256 : Shape := ⟨2, ![2048, 256]⟩
abbrev S40960x1024 : Shape := ⟨2, ![40960, 1024]⟩
abbrev S40960x2048 : Shape := ⟨2, ![40960, 2048]⟩
abbrev S1x2048 : Shape := ⟨2, ![1, 2048]⟩
abbrev S655360x128 : Shape := ⟨2, ![655360, 128]⟩
abbrev S16x40960 : Shape := ⟨2, ![16, 40960]⟩
abbrev S256x1024 : Shape := ⟨2, ![256, 1024]⟩
abbrev S256x2048 : Shape := ⟨2, ![256, 2048]⟩
abbrev S4096x128 : Shape := ⟨2, ![4096, 128]⟩
abbrev S16x256 : Shape := ⟨2, ![16, 256]⟩
abbrev S1024x2048 : Shape := ⟨2, ![1024, 2048]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S128x256 : Shape := ⟨2, ![128, 256]⟩

abbrev nBuf : Space → Nat
  | .hbm => 28
  | .vmem => 19
  | .smem => 0
  | _ => 0

abbrev bufTy : (tb : Table) → Fin (tcTables nBuf tb) → BufTy
  | .hbm, ⟨0, _⟩ => ⟨S5x8192x1024, .f32⟩
  | .hbm, ⟨1, _⟩ => ⟨S5x8192x1024, .f32⟩
  | .hbm, ⟨2, _⟩ => ⟨S40960x2944, .f32⟩
  | .hbm, ⟨3, _⟩ => ⟨S5x8192x1024, .bf16⟩
  | .hbm, ⟨4, _⟩ => ⟨S5x8192x2048, .f32⟩
  | .hbm, ⟨5, _⟩ => ⟨S2048x2048, .f32⟩
  | .hbm, ⟨6, _⟩ => ⟨S2048, .f32⟩
  | .hbm, ⟨7, _⟩ => ⟨S2048x16, .f32⟩
  | .hbm, ⟨8, _⟩ => ⟨S2048x16, .bf16⟩
  | .hbm, ⟨9, _⟩ => ⟨S2048x16, .f32⟩
  | .hbm, ⟨10, _⟩ => ⟨S2048x16, .f32⟩
  | .hbm, ⟨11, _⟩ => ⟨S2048x16, .bf16⟩
  | .hbm, ⟨12, _⟩ => ⟨S_, .i32⟩
  | .hbm, ⟨13, _⟩ => ⟨S_, .bf16⟩
  | .hbm, ⟨14, _⟩ => ⟨S2048x128, .bf16⟩
  | .hbm, ⟨15, _⟩ => ⟨S_, .i32⟩
  | .hbm, ⟨16, _⟩ => ⟨S_, .bf16⟩
  | .hbm, ⟨17, _⟩ => ⟨S2048x128, .bf16⟩
  | .hbm, ⟨18, _⟩ => ⟨S2048x256, .bf16⟩
  | .hbm, ⟨19, _⟩ => ⟨S40960x1024, .f32⟩
  | .hbm, ⟨20, _⟩ => ⟨S40960x1024, .f32⟩
  | .hbm, ⟨21, _⟩ => ⟨S40960x1024, .bf16⟩
  | .hbm, ⟨22, _⟩ => ⟨S40960x2048, .f32⟩
  | .hbm, ⟨23, _⟩ => ⟨S2048x2048, .bf16⟩
  | .hbm, ⟨24, _⟩ => ⟨S1x2048, .f32⟩
  | .hbm, ⟨25, _⟩ => ⟨S655360x128, .f32⟩
  | .hbm, ⟨26, _⟩ => ⟨S655360x128, .f32⟩
  | .hbm, ⟨27, _⟩ => ⟨S16x40960, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S1x2048, .f32⟩
  | .local _ .vmem, ⟨12, _⟩ => ⟨S2048x256, .bf16⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S16x256, .f32⟩
  | .local _ .vmem, ⟨18, _⟩ => ⟨S16x256, .f32⟩
  | _, _ => ⟨S5x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixReferenceIdeal.lean ====
abbrev S5x8192x1024 : Shape := ⟨3, ![5, 8192, 1024]⟩
abbrev S40960x2944 : Shape := ⟨2, ![40960, 2944]⟩
abbrev S5x8192x2048 : Shape := ⟨3, ![5, 8192, 2048]⟩
abbrev S2048x2048 : Shape := ⟨2, ![2048, 2048]⟩
abbrev S2048 : Shape := ⟨1, ![2048]⟩
abbrev S2048x16 : Shape := ⟨2, ![2048, 16]⟩
abbrev S40960x1024 : Shape := ⟨2, ![40960, 1024]⟩
abbrev S_ : Shape := ⟨0, ![]⟩
abbrev S5x8192 : Shape := ⟨2, ![5, 8192]⟩
abbrev S5x8192x1 : Shape := ⟨3, ![5, 8192, 1]⟩
abbrev S1x1x2048 : Shape := ⟨3, ![1, 1, 2048]⟩
abbrev S40960x2048 : Shape := ⟨2, ![40960, 2048]⟩
abbrev S40960x16 : Shape := ⟨2, ![40960, 16]⟩
abbrev S655360x128 : Shape := ⟨2, ![655360, 128]⟩
abbrev S16x40960 : Shape := ⟨2, ![16, 40960]⟩

abbrev nBuf : Space → Nat
  | .hbm => 54
  | .vmem => 0
  | .smem => 0
  | _ => 0

abbrev bufTy : (tb : Table) → Fin (tcTables nBuf tb) → BufTy
  | .hbm, ⟨0, _⟩ => ⟨S5x8192x1024, .f32⟩
  | .hbm, ⟨1, _⟩ => ⟨S5x8192x1024, .f32⟩
  | .hbm, ⟨2, _⟩ => ⟨S40960x2944, .f32⟩
  | .hbm, ⟨3, _⟩ => ⟨S5x8192x1024, .bf16⟩
  | .hbm, ⟨4, _⟩ => ⟨S5x8192x2048, .f32⟩
  | .hbm, ⟨5, _⟩ => ⟨S2048x2048, .f32⟩
  | .hbm, ⟨6, _⟩ => ⟨S2048, .f32⟩
  | .hbm, ⟨7, _⟩ => ⟨S2048x16, .f32⟩
  | .hbm, ⟨8, _⟩ => ⟨S40960x1024, .f32⟩
  | .hbm, ⟨9, _⟩ => ⟨S5x8192x1024, .f32⟩
  | .hbm, ⟨10, _⟩ => ⟨S5x8192x1024, .f32⟩
  | .hbm, ⟨11, _⟩ => ⟨S5x8192x1024, .f32⟩
  | .hbm, ⟨12, _⟩ => ⟨S5x8192x1024, .f32⟩
  | .hbm, ⟨13, _⟩ => ⟨S_, .f32⟩
  | .hbm, ⟨14, _⟩ => ⟨S5x8192x1024, .f32⟩
  | .hbm, ⟨15, _⟩ => ⟨S5x8192x1024, .f32⟩
  | .hbm, ⟨16, _⟩ => ⟨S5x8192x1024, .f32⟩
  | .hbm, ⟨17, _⟩ => ⟨S_, .f32⟩
  | .hbm, ⟨18, _⟩ => ⟨S5x8192x1024, .f32⟩
  | .hbm, ⟨19, _⟩ => ⟨S5x8192x1024, .f32⟩
  | .hbm, ⟨20, _⟩ => ⟨S5x8192x1024, .f32⟩
  | .hbm, ⟨21, _⟩ => ⟨S_, .f32⟩
  | .hbm, ⟨22, _⟩ => ⟨S5x8192x1024, .f32⟩
  | .hbm, ⟨23, _⟩ => ⟨S5x8192x1024, .f32⟩
  | .hbm, ⟨24, _⟩ => ⟨S_, .f32⟩
  | .hbm, ⟨25, _⟩ => ⟨S5x8192x1024, .f32⟩
  | .hbm, ⟨26, _⟩ => ⟨S5x8192x1024, .f32⟩
  | .hbm, ⟨27, _⟩ => ⟨S5x8192x1024, .f32⟩
  | .hbm, ⟨28, _⟩ => ⟨S5x8192x1024, .f32⟩
  | .hbm, ⟨29, _⟩ => ⟨S5x8192x1024, .f32⟩
  | .hbm, ⟨30, _⟩ => ⟨S5x8192x2048, .f32⟩
  | .hbm, ⟨31, _⟩ => ⟨S5x8192x2048, .f32⟩
  | .hbm, ⟨32, _⟩ => ⟨S5x8192x2048, .f32⟩
  | .hbm, ⟨33, _⟩ => ⟨S5x8192x2048, .f32⟩
  | .hbm, ⟨34, _⟩ => ⟨S_, .f32⟩
  | .hbm, ⟨35, _⟩ => ⟨S5x8192, .f32⟩
  | .hbm, ⟨36, _⟩ => ⟨S5x8192x1, .f32⟩
  | .hbm, ⟨37, _⟩ => ⟨S_, .f32⟩
  | .hbm, ⟨38, _⟩ => ⟨S5x8192x1, .f32⟩
  | .hbm, ⟨39, _⟩ => ⟨S5x8192x1, .f32⟩
  | .hbm, ⟨40, _⟩ => ⟨S_, .f32⟩
  | .hbm, ⟨41, _⟩ => ⟨S5x8192x1, .f32⟩
  | .hbm, ⟨42, _⟩ => ⟨S5x8192x1, .f32⟩
  | .hbm, ⟨43, _⟩ => ⟨S5x8192x1, .f32⟩
  | .hbm, ⟨44, _⟩ => ⟨S5x8192x2048, .f32⟩
  | .hbm, ⟨45, _⟩ => ⟨S5x8192x2048, .f32⟩
  | .hbm, ⟨46, _⟩ => ⟨S1x1x2048, .f32⟩
  | .hbm, ⟨47, _⟩ => ⟨S5x8192x2048, .f32⟩
  | .hbm, ⟨48, _⟩ => ⟨S5x8192x2048, .f32⟩
  | .hbm, ⟨49, _⟩ => ⟨S40960x2048, .f32⟩
  | .hbm, ⟨50, _⟩ => ⟨S40960x16, .f32⟩
  | .hbm, ⟨51, _⟩ => ⟨S655360x128, .f32⟩
  | .hbm, ⟨52, _⟩ => ⟨S655360x128, .f32⟩
  | .hbm, ⟨53, _⟩ => ⟨S16x40960, .f32⟩
  | _, _ => ⟨S5x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== PrepKernel.lean ====
abbrev S5x8192x2880 : Shape := ⟨3, ![5, 8192, 2880]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S192 : Shape := ⟨1, ![192]⟩
abbrev S5x8192x64 : Shape := ⟨3, ![5, 8192, 64]⟩
abbrev S5x8192x32 : Shape := ⟨3, ![5, 8192, 32]⟩
abbrev S5x8192x2944 : Shape := ⟨3, ![5, 8192, 2944]⟩
abbrev S512x8x192 : Shape := ⟨3, ![512, 8, 192]⟩
abbrev S512x8x64 : Shape := ⟨3, ![512, 8, 64]⟩
abbrev S512x8x128 : Shape := ⟨3, ![512, 8, 128]⟩
abbrev S512x8x32 : Shape := ⟨3, ![512, 8, 32]⟩
abbrev S512x8x256 : Shape := ⟨3, ![512, 8, 256]⟩
abbrev S512x2048 : Shape := ⟨2, ![512, 2048]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S64 : Shape := ⟨1, ![64]⟩
abbrev S128 : Shape := ⟨1, ![128]⟩
abbrev S1x256 : Shape := ⟨2, ![1, 256]⟩
abbrev S1x512 : Shape := ⟨2, ![1, 512]⟩
abbrev S5x8x8192x256 : Shape := ⟨4, ![5, 8, 8192, 256]⟩
abbrev S1x512x512 : Shape := ⟨3, ![1, 512, 512]⟩
abbrev S1x512x256 : Shape := ⟨3, ![1, 512, 256]⟩
abbrev S1x512x128 : Shape := ⟨3, ![1, 512, 128]⟩
abbrev S512x128 : Shape := ⟨2, ![512, 128]⟩
abbrev S1x8x512x256 : Shape := ⟨4, ![1, 8, 512, 256]⟩
abbrev S512x512 : Shape := ⟨2, ![512, 512]⟩
abbrev S512x256 : Shape := ⟨2, ![512, 256]⟩
abbrev S512x1 : Shape := ⟨2, ![512, 1]⟩
abbrev S1x128 : Shape := ⟨2, ![1, 128]⟩
abbrev S1x1x512x128 : Shape := ⟨4, ![1, 1, 512, 128]⟩

abbrev nBuf : Space → Nat
  | .hbm => 65
  | .vmem => 20
  | .smem => 0
  | _ => 0

abbrev bufTy : (tb : Table) → Fin (tcTables nBuf tb) → BufTy
  | .hbm, ⟨0, _⟩ => ⟨S5x8192x2880, .f32⟩
  | .hbm, ⟨1, _⟩ => ⟨S512, .f32⟩
  | .hbm, ⟨2, _⟩ => ⟨S512x1536, .f32⟩
  | .hbm, ⟨3, _⟩ => ⟨S256, .f32⟩
  | .hbm, ⟨4, _⟩ => ⟨S256x2048, .f32⟩
  | .hbm, ⟨5, _⟩ => ⟨S192, .f32⟩
  | .hbm, ⟨6, _⟩ => ⟨S192, .f32⟩
  | .hbm, ⟨7, _⟩ => ⟨S5x8192x64, .f32⟩
  | .hbm, ⟨8, _⟩ => ⟨S5x8192x32, .f32⟩
  | .hbm, ⟨9, _⟩ => ⟨S5x8192x32, .f32⟩
  | .hbm, ⟨10, _⟩ => ⟨S5x8192x64, .f32⟩
  | .hbm, ⟨11, _⟩ => ⟨S5x8192x2944, .f32⟩
  | .hbm, ⟨12, _⟩ => ⟨S512x8x192, .f32⟩
  | .hbm, ⟨13, _⟩ => ⟨S512x8x64, .f32⟩
  | .hbm, ⟨14, _⟩ => ⟨S512x8x128, .f32⟩
  | .hbm, ⟨15, _⟩ => ⟨S512x8x32, .f32⟩
  | .hbm, ⟨16, _⟩ => ⟨S512x8x32, .f32⟩
  | .hbm, ⟨17, _⟩ => ⟨S512x8x64, .f32⟩
  | .hbm, ⟨18, _⟩ => ⟨S512x8x256, .f32⟩
  | .hbm, ⟨19, _⟩ => ⟨S512x2048, .f32⟩
  | .hbm, ⟨20, _⟩ => ⟨S512x2048, .bf16⟩
  | .hbm, ⟨21, _⟩ => ⟨S8192, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S8192x1, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S8192x128, .f32⟩
  | .hbm, ⟨45, _⟩ => ⟨S256x2048, .bf16⟩
  | .hbm, ⟨46, _⟩ => ⟨S64, .f32⟩
  | .hbm, ⟨47, _⟩ => ⟨S128, .f32⟩
  | .hbm, ⟨48, _⟩ => ⟨S32, .f32⟩
  | .hbm, ⟨49, _⟩ => ⟨S32, .f32⟩
  | .hbm, ⟨50, _⟩ => ⟨S64, .f32⟩
  | .hbm, ⟨51, _⟩ => ⟨S256, .f32⟩
  | .hbm, ⟨52, _⟩ => ⟨S1x256, .f32⟩
  | .hbm, ⟨53, _⟩ => ⟨S64, .f32⟩
  | .hbm, ⟨54, _⟩ => ⟨S128, .f32⟩
  | .hbm, ⟨55, _⟩ => ⟨S32, .f32⟩
  | .hbm, ⟨56, _⟩ => ⟨S32, .f32⟩
  | .hbm, ⟨57, _⟩ => ⟨S64, .f32⟩
  | .hbm, ⟨58, _⟩ => ⟨S256, .f32⟩
  | .hbm, ⟨59, _⟩ => ⟨S1x256, .f32⟩
  | .hbm, ⟨60, _⟩ => ⟨S1x512, .f32⟩
  | .hbm, ⟨61, _⟩ => ⟨S1x256, .f32⟩
  | .hbm, ⟨62, _⟩ => ⟨S5x8x8192x256, .bf16⟩
  | .hbm, ⟨63, _⟩ => ⟨S5x8x8192x256, .bf16⟩
  | .hbm, ⟨64, _⟩ => ⟨S5x8x8192x256, .bf16⟩
  | .local _ .vmem, ⟨0, _⟩ => ⟨S1x512x512, .f32⟩
  | .local _ .vmem, ⟨1, _⟩ => ⟨S1x512x512, .f32⟩
  | .local _ .vmem, ⟨2, _⟩ => ⟨S1x512x256, .f32⟩
  | .local _ .vmem, ⟨3, _⟩ => ⟨S1x512x256, .f32⟩
  | .local _ .vmem, ⟨4, _⟩ => ⟨S1x512x128, .f32⟩
  | .local _ .vmem, ⟨5, _⟩ => ⟨S1x512x128, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x256, .f32⟩
  | .local _ .vmem, ⟨10, _⟩ => ⟨S512x2048, .bf16⟩
  | .local _ .vmem, ⟨11, _⟩ => ⟨S256x2048, .bf16⟩
  | .local _ .vmem, ⟨12, _⟩ => ⟨S1x256, .f32⟩
  | .local _ .vmem, ⟨13, _⟩ => ⟨S1x256, .f32⟩
  | .local _ .vmem, ⟨14, _⟩ => ⟨S1x8x512x256, .bf16⟩
  | .local _ .vmem, ⟨15, _⟩ => ⟨S1x8x512x256, .bf16⟩
  | .local _ .vmem, ⟨16, _⟩ => ⟨S1x8x512x256, .bf16⟩
  | .local _ .vmem, ⟨17, _⟩ => ⟨S1x8x512x256, .bf16⟩
  | .local _ .vmem, ⟨18, _⟩ => ⟨S1x8x512x256, .bf16⟩
  | .local _ .vmem, ⟨19, _⟩ => ⟨S1x8x512x256, .bf16⟩
  | _, _ => ⟨S5x8192x2880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51_0 : Ref sig .tc := ⟨.hbm, 62, rfl⟩
abbrev main_v51_1 : Ref sig .tc := ⟨.hbm, 63, rfl⟩
abbrev main_v51_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![5, 16], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_2 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg0.toNat, arg1.toNat, c22_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PrepKernelIdeal.lean ====
variable {F : FTy → Type} [FloatOps F] [Named F]
def κ : String → Option EReal := fun
  | "per_lane" => some ((1 / 192 : ℝ) : EReal)
  | "scale" => some (((Real.sqrt 192)⁻¹ * (Real.log 2)⁻¹ : ℝ) : EReal)
  | _ => none
-- ==== PrepReferenceIdeal.lean ====
abbrev S5x8192x2880 : Shape := ⟨3, ![5, 8192, 2880]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S192 : Shape := ⟨1, ![192]⟩
abbrev S5x8192x512 : Shape := ⟨3, ![5, 8192, 512]⟩
abbrev S5x8192x256 : Shape := ⟨3, ![5, 8192, 256]⟩
abbrev S5x8192x64 : Shape := ⟨3, ![5, 8192, 64]⟩
abbrev S_ : Shape := ⟨0, ![]⟩
abbrev S5x8192 : Shape := ⟨2, ![5, 8192]⟩
abbrev S5x8192x1 : Shape := ⟨3, ![5, 8192, 1]⟩
abbrev S1x1x512 : Shape := ⟨3, ![1, 1, 512]⟩
abbrev S5x8192x1536 : Shape := ⟨3, ![5, 8192, 1536]⟩
abbrev S5x8192x8x192 : Shape := ⟨4, ![5, 8192, 8, 192]⟩
abbrev S1x1x256 : Shape := ⟨3, ![1, 1, 256]⟩
abbrev S5x8192x2048 : Shape := ⟨3, ![5, 8192, 2048]⟩
abbrev S5x8192x8x256 : Shape := ⟨4, ![5, 8192, 8, 256]⟩
abbrev S5x8192x8x128 : Shape := ⟨4, ![5, 8192, 8, 128]⟩
abbrev S5x8192x1x64 : Shape := ⟨4, ![5, 8192, 1, 64]⟩
abbrev S5x8192x8x64 : Shape := ⟨4, ![5, 8192, 8, 64]⟩
abbrev S5x8192x8 : Shape := ⟨3, ![5, 8192, 8]⟩
abbrev S5x8192x8x1 : Shape := ⟨4, ![5, 8192, 8, 1]⟩
abbrev S1x1x1x192 : Shape := ⟨4, ![1, 1, 1, 192]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S5x8192x8x32 : Shape := ⟨4, ![5, 8192, 8, 32]⟩
abbrev S5x8x8192x256 : Shape := ⟨4, ![5, 8, 8192, 256]⟩

abbrev nBuf : Space → Nat
  | .hbm => 180
  | .vmem => 0
  | .smem => 0
  | _ => 0

abbrev hbmTy0_0 (i : Nat) : BufTy := match i % 128 with
  | 0 => ⟨S5x8192x2880, .f32⟩
  | 1 => ⟨S512, .f32⟩
  | 2 => ⟨S512x1536, .f32⟩
  | 3 => ⟨S256, .f32⟩
  | 4 => ⟨S256x2048, .f32⟩
  | 5 => ⟨S192, .f32⟩
  | 6 => ⟨S192, .f32⟩
  | 7 => ⟨S5x8192x512, .f32⟩
  | 8 => ⟨S5x8192x256, .f32⟩
  | 9 => ⟨S5x8192x64, .f32⟩
  | 10 => ⟨S5x8192x512, .f32⟩
  | 11 => ⟨S_, .f32⟩
  | 12 => ⟨S5x8192, .f32⟩
  | 13 => ⟨S5x8192x1, .f32⟩
  | 14 => ⟨S_, .f32⟩
  | 15 => ⟨S5x8192x1, .f32⟩
  | 16 => ⟨S5x8192x1, .f32⟩
  | 17 => ⟨S_, .f32⟩
  | 18 => ⟨S5x8192x1, .f32⟩
  | 19 => ⟨S5x8192x1, .f32⟩
  | 20 => ⟨S5x8192x1, .f32⟩
  | 21 => ⟨S5x8192x512, .f32⟩
  | 22 => ⟨S5x8192x512, .f32⟩
  | 23 => ⟨S1x1x512, .f32⟩
  | 24 => ⟨S5x8192x512, .f32⟩
  | 25 => ⟨S5x8192x512, .f32⟩
  | 26 => ⟨S5x8192x1536, .f32⟩
  | 27 => ⟨S5x8192x8x192, .f32⟩
  | 28 => ⟨S5x8192x256, .f32⟩
  | 29 => ⟨S_, .f32⟩
  | 30 => ⟨S5x8192, .f32⟩
  | 31 => ⟨S5x8192x1, .f32⟩
  | 32 => ⟨S_, .f32⟩
  | 33 => ⟨S5x8192x1, .f32⟩
  | 34 => ⟨S5x8192x1, .f32⟩
  | 35 => ⟨S_, .f32⟩
  | 36 => ⟨S5x8192x1, .f32⟩
  | 37 => ⟨S5x8192x1, .f32⟩
  | 38 => ⟨S5x8192x1, .f32⟩
  | 39 => ⟨S5x8192x256, .f32⟩
  | 40 => ⟨S5x8192x256, .f32⟩
  | 41 => ⟨S1x1x256, .f32⟩
  | 42 => ⟨S5x8192x256, .f32⟩
  | 43 => ⟨S5x8192x256, .f32⟩
  | 44 => ⟨S5x8192x2048, .f32⟩
  | 45 => ⟨S5x8192x8x256, .f32⟩
  | 46 => ⟨S5x8192x8x128, .f32⟩
  | 47 => ⟨S5x8192x8x128, .f32⟩
  | 48 => ⟨S5x8192x1x64, .f32⟩
  | 49 => ⟨S5x8192x8x64, .f32⟩
  | 50 => ⟨S5x8192x8x192, .f32⟩
  | 51 => ⟨S5x8192x8x192, .f32⟩
  | 52 => ⟨S_, .f32⟩
  | 53 => ⟨S5x8192x8, .f32⟩
  | 54 => ⟨S5x8192x8x1, .f32⟩
  | 55 => ⟨S_, .f32⟩
  | 56 => ⟨S5x8192x8x1, .f32⟩
  | 57 => ⟨S5x8192x8x1, .f32⟩
  | 58 => ⟨S_, .f32⟩
  | 59 => ⟨S5x8192x8x1, .f32⟩
  | 60 => ⟨S5x8192x8x1, .f32⟩
  | 61 => ⟨S5x8192x8x1, .f32⟩
  | 62 => ⟨S5x8192x8x192, .f32⟩
  | 63 => ⟨S5x8192x8x192, .f32⟩
  | 64 => ⟨S1x1x1x192, .f32⟩
  | 65 => ⟨S5x8192x8x192, .f32⟩
  | 66 => ⟨S5x8192x8x192, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S8192, .f32⟩
  | 82 => ⟨S8192x1, .f32⟩
  | 83 => ⟨S1x32, .f32⟩
  | 84 => ⟨S8192x32, .f32⟩
  | 85 => ⟨S8192x32, .f32⟩
  | 86 => ⟨S8192x32, .f32⟩
  | 87 => ⟨S8192x32, .f32⟩
  | 88 => ⟨S1x8192x1x32, .f32⟩
  | 89 => ⟨S8192x32, .f32⟩
  | 90 => ⟨S1x8192x1x32, .f32⟩
  | 91 => ⟨S5x8192x8x32, .f32⟩
  | 92 => ⟨S5x8192x8x32, .f32⟩
  | 93 => ⟨S5x8192x8x128, .f32⟩
  | 94 => ⟨S5x8192x8x32, .f32⟩
  | 95 => ⟨S5x8192x8x32, .f32⟩
  | 96 => ⟨S5x8192x8x32, .f32⟩
  | 97 => ⟨S5x8192x8x32, .f32⟩
  | 98 => ⟨S5x8192x8x32, .f32⟩
  | 99 => ⟨S5x8192x8x32, .f32⟩
  | 100 => ⟨S5x8192x8x32, .f32⟩
  | 101 => ⟨S5x8192x8x32, .f32⟩
  | 102 => ⟨S5x8192x8x32, .f32⟩
  | 103 => ⟨S5x8192x8x32, .f32⟩
  | 104 => ⟨S5x8192x8x192, .f32⟩
  | 105 => ⟨S_, .f32⟩
  | 106 => ⟨S_, .f32⟩
  | 107 => ⟨S_, .f32⟩
  | 108 => ⟨S_, .f32⟩
  | 109 => ⟨S_, .f32⟩
  | 110 => ⟨S5x8192x8x192, .f32⟩
  | 111 => ⟨S5x8192x8x192, .f32⟩
  | 112 => ⟨S5x8192x8x192, .f32⟩
  | 113 => ⟨S_, .f32⟩
  | 114 => ⟨S5x8192x8, .f32⟩
  | 115 => ⟨S5x8192x8x1, .f32⟩
  | 116 => ⟨S_, .f32⟩
  | 117 => ⟨S5x8192x8x1, .f32⟩
  | 118 => ⟨S5x8192x8x1, .f32⟩
  | 119 => ⟨S_, .f32⟩
  | 120 => ⟨S5x8192x8x1, .f32⟩
  | 121 => ⟨S5x8192x8x1, .f32⟩
  | 122 => ⟨S5x8192x8x1, .f32⟩
  | 123 => ⟨S5x8192x8x192, .f32⟩
  | 124 => ⟨S5x8192x8x192, .f32⟩
  | 125 => ⟨S1x1x1x192, .f32⟩
  | 126 => ⟨S5x8192x8x192, .f32⟩
  | 127 => ⟨S5x8192x8x192, .f32⟩
  | _ => ⟨S5x8192x2880, .f32⟩

abbrev hbmTy0_1 (i : Nat) : BufTy := match i % 128 with
  | 0 => ⟨S32, .f32⟩
  | 1 => ⟨S_, .f32⟩
  | 2 => ⟨S32, .f32⟩
  | 3 => ⟨S32, .f32⟩
  | 4 => ⟨S_, .f32⟩
  | 5 => ⟨S32, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S8192, .f32⟩
  | 15 => ⟨S8192x1, .f32⟩
  | 16 => ⟨S1x32, .f32⟩
  | 17 => ⟨S8192x32, .f32⟩
  | 18 => ⟨S8192x32, .f32⟩
  | 19 => ⟨S8192x32, .f32⟩
  | 20 => ⟨S8192x32, .f32⟩
  | 21 => ⟨S1x8192x1x32, .f32⟩
  | 22 => ⟨S8192x32, .f32⟩
  | 23 => ⟨S1x8192x1x32, .f32⟩
  | 24 => ⟨S5x8192x8x32, .f32⟩
  | 25 => ⟨S5x8192x8x32, .f32⟩
  | 26 => ⟨S5x8192x8x128, .f32⟩
  | 27 => ⟨S5x8192x8x32, .f32⟩
  | 28 => ⟨S5x8192x8x32, .f32⟩
  | 29 => ⟨S5x8192x8x32, .f32⟩
  | 30 => ⟨S5x8192x8x32, .f32⟩
  | 31 => ⟨S5x8192x8x32, .f32⟩
  | 32 => ⟨S5x8192x8x32, .f32⟩
  | 33 => ⟨S5x8192x8x32, .f32⟩
  | 34 => ⟨S5x8192x8x32, .f32⟩
  | 35 => ⟨S5x8192x8x32, .f32⟩
  | 36 => ⟨S5x8192x8x32, .f32⟩
  | 37 => ⟨S5x8192x8x192, .f32⟩
  | 38 => ⟨S5x8192x8x64, .f32⟩
  | 39 => ⟨S5x8192x8x256, .f32⟩
  | 40 => ⟨S5x8192x8x256, .bf16⟩
  | 41 => ⟨S_, .f32⟩
  | 42 => ⟨S5x8192x8x64, .f32⟩
  | 43 => ⟨S5x8192x8x256, .f32⟩
  | 44 => ⟨S5x8192x8x256, .bf16⟩
  | 45 => ⟨S_, .f32⟩
  | 46 => ⟨S5x8192x8x128, .f32⟩
  | 47 => ⟨S5x8192x8x256, .f32⟩
  | 48 => ⟨S5x8192x8x256, .bf16⟩
  | 49 => ⟨S5x8x8192x256, .bf16⟩
  | 50 => ⟨S5x8x8192x256, .bf16⟩
  | 51 => ⟨S5x8x8192x256, .bf16⟩
  | _ => ⟨S5x8192x2880, .f32⟩

abbrev hbmTy (i : Nat) : BufTy := match i / 128 with
  | 0 => hbmTy0_0 i
  | 1 => hbmTy0_1 i
  | _ => ⟨S5x8192x2880, .f32⟩

abbrev bufTy : (tb : Table) → Fin (tcTables nBuf tb) → BufTy
  | .hbm, ⟨i, _⟩ => hbmTy i
  | _, _ => ⟨S5x8192x2880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_12 : Ref sig .tc := ⟨.hbm, 105, rfl⟩
abbrev main_v85 : Ref sig .tc := ⟨.hbm, 106, rfl⟩
abbrev main_cst_13 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_14 : Ref sig .tc := ⟨.hbm, 113, rfl⟩
abbrev main_v91 : Ref sig .tc := ⟨.hbm, 114, rfl⟩
abbrev main_v92 : Ref sig .tc := ⟨.hbm, 115, rfl⟩
abbrev main_cst_15 : Ref sig .tc := ⟨.hbm, 116, rfl⟩
abbrev main_v93 : Ref sig .tc := ⟨.hbm, 117, rfl⟩
abbrev main_v94 : Ref sig .tc := ⟨.hbm, 118, rfl⟩
abbrev main_cst_16 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_17 : Ref sig .tc := ⟨.hbm, 129, rfl⟩
abbrev main_v104 : Ref sig .tc := ⟨.hbm, 130, rfl⟩
abbrev main_v105 : Ref sig .tc := ⟨.hbm, 131, rfl⟩
abbrev main_cst_18 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_19 : Ref sig .tc := ⟨.hbm, 136, rfl⟩
abbrev main_v109 : Ref sig .tc := ⟨.hbm, 137, rfl⟩
abbrev main_v110 : Ref sig .tc := ⟨.hbm, 138, rfl⟩
abbrev main_cst_20 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_21 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_cst_22 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩

abbrev nD : Nat := 1
abbrev τ : Topo := Topo.v7x

variable {F : FTy → Type} [FloatOps F]
-- ==== RecKernel.lean ====
abbrev S5x8192x2944 : Shape := ⟨3, ![5, 8192, 2944]⟩
abbrev S4x1024 : Shape := ⟨2, ![4, 1024]⟩
abbrev S1024 : Shape := ⟨1, ![1024]⟩
abbrev S8x128x128 : Shape := ⟨3, ![8, 128, 128]⟩
abbrev S8x128x256 : Shape := ⟨3, ![8, 128, 256]⟩
abbrev S1x1024 : Shape := ⟨2, ![1, 1024]⟩
abbrev S5x8192x1024 : Shape := ⟨3, ![5, 8192, 1024]⟩
abbrev S1x512x1024 : Shape := ⟨3, ![1, 512, 1024]⟩
abbrev S1x8x1024 : Shape := ⟨3, ![1, 8, 1024]⟩
abbrev S528x1024 : Shape := ⟨2, ![528, 1024]⟩
abbrev S512x1024 : Shape := ⟨2, ![512, 1024]⟩
abbrev S8x1024 : Shape := ⟨2, ![8, 1024]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S1x128 : Shape := ⟨2, ![1, 128]⟩

abbrev nBuf : Space → Nat
  | .hbm => 16
  | .vmem => 20
  | .smem => 0
  | _ => 0

abbrev bufTy : (tb : Table) → Fin (tcTables nBuf tb) → BufTy
  | .hbm, ⟨0, _⟩ => ⟨S5x8192x2944, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S1024, .f32⟩
  | .hbm, ⟨8, _⟩ => ⟨S8x128x256, .f32⟩
  | .hbm, ⟨9, _⟩ => ⟨S8x128x256, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S5x8192x1024, .f32⟩
  | .hbm, ⟨15, _⟩ => ⟨S5x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S4x1024, .f32⟩
  | .local _ .vmem, ⟨7, _⟩ => ⟨S1x1024, .f32⟩
  | .local _ .vmem, ⟨8, _⟩ => ⟨S8x128x256, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S528x1024, .f32⟩
  | .local _ .vmem, ⟨17, _⟩ => ⟨S512x1024, .f32⟩
  | .local _ .vmem, ⟨18, _⟩ => ⟨S512x1024, .f32⟩
  | .local _ .vmem, ⟨19, _⟩ => ⟨S8x1024, .f32⟩
  | _, _ => ⟨S5x8192x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![5, 16], ![false, false]⟩

@[reducible] def k0_t1_loop : Scf.Loop 32 :=
  let c0_i32_147 : BitVec 32 := 0#32
  let c64_i32 : BitVec 32 := 64#32
  let v358 : BitVec 32 := Scalar.addi c0_i32_147 c64_i32
  let c1_i32 : BitVec 32 := 1#32
  ⟨c0_i32_147, v358, c1_i32⟩
def k0_mult1 (k0_t1 : Fin k0_t1_loop.trips) : BitVec 32 :=
  let c0_i32_147 : BitVec 32 := 0#32
  let c1_i32 : BitVec 32 := 1#32
  let arg17 : BitVec 32 := Scf.iv c0_i32_147 c1_i32 k0_t1
  let c8_i32 : BitVec 32 := 8#32
  let v363 : BitVec 32 := Scalar.muli arg17 c8_i32
  v363
def k0_off1 (k0_t1 : Fin k0_t1_loop.trips) : Fin 2 → Nat :=
  let c0_i32_147 : BitVec 32 := 0#32
  let c1_i32 : BitVec 32 := 1#32
  let arg17 : BitVec 32 := Scf.iv c0_i32_147 c1_i32 k0_t1
  let c8_i32 : BitVec 32 := 8#32
  let v363 : BitVec 32 := Scalar.muli arg17 c8_i32
  let v364 : BitVec 32 := v363
  let v365 : Index := Scalar.indexCast v364
  let c0_151 : Index := 0#32
  ![v365.toNat, 0]
def k0_off2 (k0_t1 : Fin k0_t1_loop.trips) : Fin 3 → Nat :=
  let c0_160 : Index := 0#32
  let c0_i32_147 : BitVec 32 := 0#32
  let c1_i32 : BitVec 32 := 1#32
  let arg17 : BitVec 32 := Scf.iv c0_i32_147 c1_i32 k0_t1
  let c8_i32 : BitVec 32 := 8#32
  let v363 : BitVec 32 := Scalar.muli arg17 c8_i32
  let v364 : BitVec 32 := v363
  let v398 : Index := Scalar.indexCast v364
  let c0_161 : Index := 0#32
  ![0, v398.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RecReferenceIdeal.lean ====
abbrev S5x8192x2944 : Shape := ⟨3, ![5, 8192, 2944]⟩
abbrev S4x1024 : Shape := ⟨2, ![4, 1024]⟩
abbrev S1024 : Shape := ⟨1, ![1024]⟩
abbrev S8x128x128 : Shape := ⟨3, ![8, 128, 128]⟩
abbrev S5x8192x1024 : Shape := ⟨3, ![5, 8192, 1024]⟩
abbrev S_ : Shape := ⟨0, ![]⟩
abbrev S5x8195x1024 : Shape := ⟨3, ![5, 8195, 1024]⟩
abbrev S1x1024 : Shape := ⟨2, ![1, 1024]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S5x8192x2944, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S1024, .f32⟩
  | .hbm, ⟨8, _⟩ => ⟨S5x8192x1024, .f32⟩
  | .hbm, ⟨9, _⟩ => ⟨S_, .i32⟩
  | .hbm, ⟨10, _⟩ => ⟨S_, .f32⟩
  | .hbm, ⟨11, _⟩ => ⟨S5x8195x1024, .f32⟩
  | .hbm, ⟨12, _⟩ => ⟨S1x1024, .f32⟩
  | .hbm, ⟨13, _⟩ => ⟨S1024, .f32⟩
  | .hbm, ⟨14, _⟩ => ⟨S5x8192x1024, .f32⟩
  | .hbm, ⟨15, _⟩ => ⟨S1x1x1024, .f32⟩
  | .hbm, ⟨16, _⟩ => ⟨S5x8192x1024, .f32⟩
  | .hbm, ⟨17, _⟩ => ⟨S5x8192x1024, .f32⟩
  | .hbm, ⟨18, _⟩ => ⟨S1x1024, .f32⟩
  | .hbm, ⟨19, _⟩ => ⟨S1024, .f32⟩
  | .hbm, ⟨20, _⟩ => ⟨S5x8192x1024, .f32⟩
  | .hbm, ⟨21, _⟩ => ⟨S1x1x1024, .f32⟩
  | .hbm, ⟨22, _⟩ => ⟨S5x8192x1024, .f32⟩
  | .hbm, ⟨23, _⟩ => ⟨S5x8192x1024, .f32⟩
  | .hbm, ⟨24, _⟩ => ⟨S5x8192x1024, .f32⟩
  | .hbm, ⟨25, _⟩ => ⟨S1x1024, .f32⟩
  | .hbm, ⟨26, _⟩ => ⟨S1024, .f32⟩
  | .hbm, ⟨27, _⟩ => ⟨S5x8192x1024, .f32⟩
  | .hbm, ⟨28, _⟩ => ⟨S1x1x1024, .f32⟩
  | .hbm, ⟨29, _⟩ => ⟨S5x8192x1024, .f32⟩
  | .hbm, ⟨30, _⟩ => ⟨S5x8192x1024, .f32⟩
  | .hbm, ⟨31, _⟩ => ⟨S5x8192x1024, .f32⟩
  | .hbm, ⟨32, _⟩ => ⟨S1x1024, .f32⟩
  | .hbm, ⟨33, _⟩ => ⟨S1024, .f32⟩
  | .hbm, ⟨34, _⟩ => ⟨S5x8192x1024, .f32⟩
  | .hbm, ⟨35, _⟩ => ⟨S1x1x1024, .f32⟩
  | .hbm, ⟨36, _⟩ => ⟨S5x8192x1024, .f32⟩
  | .hbm, ⟨37, _⟩ => ⟨S5x8192x1024, .f32⟩
  | .hbm, ⟨38, _⟩ => ⟨S5x8192x1024, .f32⟩
  | .hbm, ⟨39, _⟩ => ⟨S1x1x1024, .f32⟩
  | .hbm, ⟨40, _⟩ => ⟨S5x8192x1024, .f32⟩
  | .hbm, ⟨41, _⟩ => ⟨S5x8192x1024, .f32⟩
  | _, _ => ⟨S5x8192x2944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Steps.lean ====
/- One grid point of the attention kernel as eight repetitions of one step. The body handles its 8192 keys in eight chunks of 1024: each
   chunk's scores, the running row maximum, the factor by which the running sums shrink, the chunk's weights, and
   the two halves of the running sums. The eight copies in the body differ only in how they are spelt; here they become one step. -/
module

public import proofs.«01_k».proof.Proof.Gen.KernelIdeal.Value
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
namespace Cert.KernelIdeal.Value
open Cert.KernelIdeal Cert.KernelIdeal.Gen

/-- The scores of a block of queries against a chunk of keys. -/
def score (q k : Vec Ideal S1x1x1024x256 .bf16) : FVec Ideal S1024x1024 .f32 := k0_pay7 q k
/-- The running row maximum after a chunk of scores. -/
def rmax (s : FVec Ideal S1024x1024 .f32) (m : FVec Ideal S1024x128 .f32) : FVec Ideal S1024x128 .f32 := k0_pay8 s m
/-- The factor by which a chunk shrinks the running sums. -/
def shrink (s : FVec Ideal S1024x1024 .f32) (m : FVec Ideal S1024x128 .f32) : FVec Ideal S1024x128 .f32 := k0_pay14 s m
/-- A chunk's weights. -/
def wts (s : FVec Ideal S1024x1024 .f32) (m : FVec Ideal S1024x128 .f32) : FVec Ideal S1024x1024 .bf16 := k0_pay10 s m
/-- The first half of the running sums (the weighted values) after a chunk. -/
def accLo (v : Vec Ideal S1x1x1024x256 .bf16) (p : FVec Ideal S1024x1024 .bf16) (a x : FVec Ideal S1024x128 .f32) :
    FVec Ideal S1024x128 .f32 := k0_pay27 (k0_pay18 v p) a x
/-- The second half of the running sums (the weights themselves) after a chunk. -/
def accHi (v : Vec Ideal S1x1x1024x256 .bf16) (p : FVec Ideal S1024x1024 .bf16) (a x : FVec Ideal S1024x128 .f32) :
    FVec Ideal S1024x128 .f32 := k0_pay28 (k0_pay18 v p) a x

section variants
variable (q k v : Vec Ideal S1x1x1024x256 .bf16) (s : FVec Ideal S1024x1024 .f32) (m a x : FVec Ideal S1024x128 .f32)
  (p : FVec Ideal S1024x1024 .bf16)

theorem score_6 : k0_pay6 q k = score q k := rfl
theorem score_7 : k0_pay7 q k = score q k := rfl
theorem score_12 : k0_pay12 (k0_pay3 q) k = score q k := rfl
theorem score_21 : k0_pay21 (k0_pay3 q) k = score q k := rfl
theorem score_29 : k0_pay29 (k0_pay3 q) k = score q k := rfl
theorem score_39 : k0_pay39 (k0_pay3 q) (k0_pay38 k) (constant S1024x1024 .f32 0x00000000#32) = score q k := rfl
theorem score_47 : k0_pay47 (k0_pay3 q) k = score q k := rfl
theorem score_57 : k0_pay57 (k0_pay56 (k0_pay3 q) k) = score q k := rfl

theorem rmax_11 : k0_pay11 s m = rmax s m := shapeCast_self _ _
theorem rmax_17 : k0_pay17 (k0_pay13 s m) = rmax s m := shapeCast_self _ _
theorem rmax_25 : k0_pay25 s m = rmax s m := shapeCast_self _ _
theorem rmax_34 : k0_pay34 (k0_pay30 s m) = rmax s m := shapeCast_self _ _
theorem rmax_43 : k0_pay43 s m = rmax s m := shapeCast_self _ _
theorem rmax_52 : k0_pay52 (k0_pay48 s m) = rmax s m := shapeCast_self _ _
theorem rmax_61 : k0_pay61 s m = rmax s m := shapeCast_self _ _

theorem shrink_9 : k0_pay9 s m = shrink s m := shapeCast_self _ _
theorem shrink_15 : k0_pay15 (k0_pay14 s m) = shrink s m := shapeCast_self _ _
theorem shrink_23 : k0_pay23 s m = shrink s m := shapeCast_self _ _
theorem shrink_31 : k0_pay31 s m = shrink s m := shapeCast_self _ _
theorem shrink_41 : k0_pay41 s m = shrink s m := shapeCast_self _ _
theorem shrink_49 : k0_pay49 s m = shrink s m := shapeCast_self _ _
theorem shrink_59 : k0_pay59 s m = shrink s m := shapeCast_self _ _
theorem shrink_67 : k0_pay67 s m = shrink s m := shapeCast_self _ _

theorem wts_10 : k0_pay10 s m = wts s m := rfl
theorem wts_16 : k0_pay16 s (k0_pay13 s m) = wts s m := rfl
theorem wts_24 : k0_pay24 s m = wts s m := rfl
theorem wts_33 : k0_pay33 s (k0_pay32 s m) = wts s m := rfl
theorem wts_42 : k0_pay42 s m = wts s m := rfl
theorem wts_51 : k0_pay51 (k0_pay50 s m) = wts s m := rfl
theorem wts_60 : k0_pay60 s m = wts s m := rfl
theorem wts_68 : k0_pay68 s m = wts s m := rfl

theorem accLo_19 : k0_pay19 v p a x = accLo v p a x := rfl
theorem accLo_27 : k0_pay27 (k0_pay26 v p) a x = accLo v p a x := rfl
theorem accLo_36 : k0_pay36 v p a x = accLo v p a x := rfl
theorem accLo_45 : k0_pay45 (k0_pay44 v p) a x = accLo v p a x := rfl
theorem accLo_54 : k0_pay54 v p a x = accLo v p a x := rfl
theorem accLo_64 : k0_pay64 (k0_pay63 v p a x) = accLo v p a x := rfl
theorem accLo_72 : k0_pay72 (k0_pay70 v) p a x = accLo v p a x := rfl
theorem accLo_75 : k0_pay75 v p a x = accLo v p a x := rfl
theorem accHi_20 : k0_pay20 v p a x = accHi v p a x := rfl
theorem accHi_28 : k0_pay28 (k0_pay26 v p) a x = accHi v p a x := rfl
theorem accHi_37 : k0_pay37 v p a x = accHi v p a x := rfl
theorem accHi_46 : k0_pay46 (k0_pay44 v p) a x = accHi v p a x := rfl
theorem accHi_55 : k0_pay55 v p a x = accHi v p a x := rfl
theorem accHi_65 : k0_pay65 (k0_pay62 v p) a x = accHi v p a x := rfl
theorem accHi_73 : k0_pay73 (k0_pay70 v) p a x = accHi v p a x := rfl
theorem accHi_1 : k0_pay1 (k0_pay74 v p) a x = accHi v p a x := rfl
end variants

/-- Chunk `j` of a head's keys or values: rows `1024 j` to `1024 j + 1023`. -/
def chunk (x : Vec Ideal S1x1x8192x256 .bf16) (j : ℕ) : Vec Ideal S1x1x1024x256 .bf16 := fun i =>
  x (ix4 (0 : Fin 1) (0 : Fin 1) (⟨(1024 * j + (i 2).val) % 8192, Nat.mod_lt _ (by decide)⟩ : Fin 8192) (i 3))

/-- A load of 1024 rows at row `1024 j` is chunk `j`. -/
theorem ld_chunk (x : Vec Ideal S1x1x8192x256 .bf16) (j o : ℕ) (ho : o = 1024 * j) (hj : j < 8) (inb) :
    View.ld x (Rect.unit ![0, 0, o, 0] ![1, 1, 1024, 256] inb) = chunk x j := by
  subst ho
  funext i
  unfold chunk
  show x _ = x _
  congr 1
  funext a
  apply Fin.ext
  have h0 : (i 0).val < 1 := (i 0).isLt
  have h1 : (i 1).val < 1 := (i 1).isLt
  have h2 : (i 2).val < 1024 := (i 2).isLt
  fin_cases a
  · simp [Rect.unit, ix4]
  · simp [Rect.unit, ix4]
  · simp [Rect.unit, ix4]; omega
  · simp [Rect.unit, ix4]

/-- The running row maximum before chunk `j`. -/
def mSt (q : Vec Ideal S1x1x1024x256 .bf16) (k : Vec Ideal S1x1x8192x256 .bf16) : ℕ → FVec Ideal S1024x128 .f32
  | 0 => k0_pay4
  | j + 1 => rmax (score q (chunk k j)) (mSt q k j)
/-- The first half of the running sums before chunk `j`. -/
def loSt (q : Vec Ideal S1x1x1024x256 .bf16) (k v : Vec Ideal S1x1x8192x256 .bf16) : ℕ → FVec Ideal S1024x128 .f32
  | 0 => View.ld (Val := Elt Ideal) (S := S1024x256) (e' := .f32) (k0_pay5 (F := Ideal)) (Rect.unit (s := S1024x256) ![0, 0] ![1024, 128] inb_S1024x256_S1024x128_0_0)
  | j + 1 => accLo (chunk v j) (wts (score q (chunk k j)) (mSt q k j)) (shrink (score q (chunk k j)) (mSt q k j)) (loSt q k v j)
/-- The second half of the running sums before chunk `j`. -/
def hiSt (q : Vec Ideal S1x1x1024x256 .bf16) (k v : Vec Ideal S1x1x8192x256 .bf16) : ℕ → FVec Ideal S1024x128 .f32
  | 0 => View.ld (Val := Elt Ideal) (S := S1024x256) (e' := .f32) (k0_pay5 (F := Ideal)) (Rect.unit (s := S1024x256) ![0, 128] ![1024, 128] inb_S1024x256_S1024x128_0_128)
  | j + 1 => accHi (chunk v j) (wts (score q (chunk k j)) (mSt q k j)) (shrink (score q (chunk k j)) (mSt q k j)) (hiSt q k v j)

variable (m : (ℓ : Loc nD τ sig) → Buf (Elt Ideal) ℓ)
set_option maxHeartbeats 2000000 in
/-- What a grid point leaves in its output block: the quotient of the two running sums after the eight chunks. -/
theorem outsAt0_eq (c : Dev nD) (t : Fin cfg0.N) : outsAt0 m c t
    = k0_pay2 (F := Ideal) (loSt (iblk m c 0 t) (iblk m c 1 t) (iblk m c 2 t) 8) (hiSt (iblk m c 0 t) (iblk m c 1 t) (iblk m c 2 t) 8) := by
  rw [outsAt0]
  frame_out
  simp (discharger := decide) only [↓View.readCov_cons_toLoadRect, ↓View.readCov_skip, ↓View.readCov_fill, score_7, wts_10, score_6, score_12, score_21, score_29, score_39, score_47, score_57, rmax_11, rmax_17, rmax_25, rmax_34, rmax_43, rmax_52, rmax_61, shrink_9, shrink_15, shrink_23, shrink_31, shrink_41, shrink_49, shrink_59, shrink_67, wts_16, wts_24, wts_33, wts_42, wts_51, wts_60, wts_68, accLo_19, accLo_27, accLo_36, accLo_45, accLo_54, accLo_64, accLo_72, accLo_75, accHi_20, accHi_28, accHi_37, accHi_46, accHi_55, accHi_65, accHi_73, accHi_1]
  rw [ld_chunk (iblk m c 1 t) 0 0 rfl (by decide), ld_chunk (iblk m c 1 t) 1 1024 rfl (by decide), ld_chunk (iblk m c 1 t) 2 2048 rfl (by decide), ld_chunk (iblk m c 1 t) 3 3072 rfl (by decide), ld_chunk (iblk m c 1 t) 4 4096 rfl (by decide), ld_chunk (iblk m c 1 t) 5 5120 rfl (by decide), ld_chunk (iblk m c 1 t) 6 6144 rfl (by decide), ld_chunk (iblk m c 1 t) 7 7168 rfl (by decide), ld_chunk (iblk m c 2 t) 0 0 rfl (by decide), ld_chunk (iblk m c 2 t) 1 1024 rfl (by decide), ld_chunk (iblk m c 2 t) 2 2048 rfl (by decide), ld_chunk (iblk m c 2 t) 3 3072 rfl (by decide), ld_chunk (iblk m c 2 t) 4 4096 rfl (by decide), ld_chunk (iblk m c 2 t) 5 5120 rfl (by decide), ld_chunk (iblk m c 2 t) 6 6144 rfl (by decide), ld_chunk (iblk m c 2 t) 7 7168 rfl (by decide)]
  rfl

end Cert.KernelIdeal.Value
end
-- ==== Proof.Laws.lean ====
/- The step's parts read at one row and column. -/
module

public import proofs.«01_k».proof.Proof.Steps
public import Idealize.ShloMosaic.Lib.Pointwise

@[expose] public section
set_option maxRecDepth 16384
noncomputable section
open Idealize.ShloMosaic Idealize.ShloMosaic.TcCoe Idealize.SL.Sem
namespace Cert.KernelIdeal.Value
open Cert.KernelIdeal Cert.KernelIdeal.Gen
variable (q k v : Vec Ideal S1x1x1024x256 .bf16) (s : FVec Ideal S1024x1024 .f32) (m a x : FVec Ideal S1024x128 .f32)
  (p : FVec Ideal S1024x1024 .bf16) (r c : Fin 1024) (l : Fin 128)

/-- A score is the inner product of a query and a key. -/
theorem score_at : score q k (ix2 r c)
    = ∑ d : Fin 256, (q (ix4 (0 : Fin 1) (0 : Fin 1) r d) : EReal) * k (ix4 (0 : Fin 1) (0 : Fin 1) c d) := by
  unfold score
  pointwise [k0_pay7, k0_pay3]
/-- The pattern of minus infinity. -/
theorem ofBits_ninf : Ideal.ofBits FTy.f32 0xFF800000#32 = ⊥ := by simp [Ideal.ofBits, Ideal.ieee]
/-- The running maximum takes in the chunk's row maximum. -/
theorem rmax_at : rmax s m (ix2 r l)
    = max (m (ix2 r l) : EReal) ((Finset.univ : Finset (Fin 1024)).fold max (⊥ : EReal) fun c => s (ix2 r c)) := by
  unfold rmax
  pointwise [k0_pay8]
  rw [ofBits_ninf]
/-- The factor is two to the old maximum less the new. -/
theorem shrink_at : shrink s m (ix2 r l) = Ideal.exp2 ((m (ix2 r l) : EReal) - rmax s m (ix2 r l)) := by
  unfold shrink
  pointwise [k0_pay14]
  rfl
/-- A weight is two to the score less the new maximum. -/
theorem wts_at : wts s m (ix2 r c) = Ideal.exp2 ((s (ix2 r c) : EReal) - rmax s m (ix2 r (0 : Fin 128))) := by
  unfold wts
  pointwise [k0_pay10]
  rfl
/-- The first running sum: shrunk, with the chunk's weighted values. -/
theorem accLo_at : accLo v p a x (ix2 r l) = (a (ix2 r l) : EReal) * x (ix2 r l)
    + ∑ c : Fin 1024, (p (ix2 r c) : EReal) * v (ix4 (0 : Fin 1) (0 : Fin 1) c (⟨l.val, by omega⟩ : Fin 256)) := by
  unfold accLo
  pointwise [k0_pay27, k0_pay18]
/-- The second running sum: the same over the other lanes. -/
theorem accHi_at : accHi v p a x (ix2 r l) = (a (ix2 r l) : EReal) * x (ix2 r l)
    + ∑ c : Fin 1024, (p (ix2 r c) : EReal) * v (ix4 (0 : Fin 1) (0 : Fin 1) c (⟨128 + l.val, by omega⟩ : Fin 256)) := by
  unfold accHi
  pointwise [k0_pay28, k0_pay18]
/-- The running maximum starts at minus infinity. -/
theorem init_at : k0_pay4 (F := Ideal) (ix2 r l) = (⊥ : EReal) := by
  pointwise [k0_pay4]
  exact ofBits_ninf
/-- The running sums start at zero. -/
theorem fill_at (y : S1024x256.Idx) : k0_pay5 (F := Ideal) y = (0 : EReal) := by
  pointwise [k0_pay5]
/-- The output is the quotient of the two running sums. -/
theorem out_at (z : Fin 1) : k0_pay2 (F := Ideal) a x (ix3 z r l) = Ideal.div (a (ix2 r l)) (x (ix2 r l)) := by
  pointwise [k0_pay2]
end Cert.KernelIdeal.Value
end
-- ==== Proof.Row.lean ====
/- One row of attention over the reals: sums carried chunk by chunk under a running maximum, and their quotient, which is the row's softmax
   average whatever the maximum was. -/
module

public import Idealize.ShloMosaic.PureOps.Ideal
public import Mathlib.Analysis.SpecialFunctions.Pow.Real

@[expose] public section
noncomputable section
open Idealize.ShloMosaic
namespace Cert.Attn

/-- The greater of two reals, read among the extended reals. -/
theorem coe_max (a b : ℝ) : ((max a b : ℝ) : EReal) = max (a : EReal) b := EReal.coe_strictMono.monotone.map_max

/-- The greatest of finitely many reals, at least one, is a real. -/
theorem fold_max_real {ι : Type*} (t : Finset ι) (ht : t.Nonempty) (f : ι → ℝ) :
    ∃ ρ : ℝ, t.fold max (⊥ : EReal) (fun c => (f c : EReal)) = ρ := by
  classical
  induction ht using Finset.Nonempty.cons_induction with
  | singleton a => exact ⟨f a, by simp⟩
  | cons a t ha ht ih =>
    obtain ⟨ρ, hρ⟩ := ih
    exact ⟨max (f a) ρ, by rw [Finset.fold_cons, hρ, coe_max]⟩

/-- A finite sum of reals, read among the extended reals. -/
theorem coe_sum {ι : Type*} (t : Finset ι) (f : ι → ℝ) : ((∑ c ∈ t, f c : ℝ) : EReal) = ∑ c ∈ t, (f c : EReal) := by
  classical
  induction t using Finset.induction_on with
  | empty => simp
  | insert a t ha ih => rw [Finset.sum_insert ha, Finset.sum_insert ha, EReal.coe_add, ih]

/-- Two to a difference of reals. -/
theorem exp2_sub (a b : ℝ) : Ideal.exp2 ((a : EReal) - (b : EReal)) = (((2 : ℝ) ^ (a - b) : ℝ) : EReal) := by
  rw [← EReal.coe_sub]; rfl

/-- One chunk's addition to a running sum, over the reals. -/
theorem chunk_sum (S w : ℕ → ℝ) (μ : ℝ) (o : ℕ) :
    (∑ c : Fin 1024, Ideal.exp2 ((S (o + c.val) : EReal) - (μ : EReal)) * (w (o + c.val) : EReal))
      = ((∑ c ∈ Finset.range 1024, (2 : ℝ) ^ (S (o + c) - μ) * w (o + c) : ℝ) : EReal) := by
  rw [Finset.sum_range, coe_sum]
  refine Finset.sum_congr rfl fun c _ => ?_
  rw [exp2_sub, EReal.coe_mul]

/-- The running maximum after each chunk is a real, and the running sum is the sum of the weighted values seen so far, each weight taken under
    that maximum. -/
theorem running (n : ℕ) (S w : ℕ → ℝ) (M L : ℕ → EReal) (hM0 : M 0 = ⊥) (hL0 : L 0 = 0)
    (hM : ∀ j < n, M (j + 1) = max (M j) ((Finset.univ : Finset (Fin 1024)).fold max (⊥ : EReal) fun c => (S (1024 * j + c.val) : EReal)))
    (hL : ∀ j < n, L (j + 1) = Ideal.exp2 (M j - M (j + 1)) * L j
      + ∑ c : Fin 1024, Ideal.exp2 ((S (1024 * j + c.val) : EReal) - M (j + 1)) * (w (1024 * j + c.val) : EReal)) :
    ∀ j < n, ∃ μ : ℝ, M (j + 1) = μ
      ∧ L (j + 1) = ((∑ c ∈ Finset.range (1024 * (j + 1)), (2 : ℝ) ^ (S c - μ) * w c : ℝ) : EReal) := by
  intro j
  induction j with
  | zero =>
    intro h0
    obtain ⟨ρ, hρ⟩ := fold_max_real (Finset.univ : Finset (Fin 1024)) ⟨0, Finset.mem_univ _⟩ fun c => S (1024 * 0 + c.val)
    have h1 : M (0 + 1) = ρ := by rw [hM 0 h0, hρ, hM0]; exact max_eq_right bot_le
    refine ⟨ρ, h1, ?_⟩
    rw [hL 0 h0, hL0, mul_zero, zero_add, h1, chunk_sum]
    simp
  | succ j ih =>
    intro h0
    obtain ⟨μ, hμ, hs⟩ := ih (by omega)
    obtain ⟨ρ, hρ⟩ := fold_max_real (Finset.univ : Finset (Fin 1024)) ⟨0, Finset.mem_univ _⟩ fun c => S (1024 * (j + 1) + c.val)
    have h1 : M (j + 1 + 1) = ((max μ ρ : ℝ) : EReal) := by rw [hM _ h0, hρ, hμ, coe_max]
    refine ⟨max μ ρ, h1, ?_⟩
    rw [hL _ h0, h1, chunk_sum, hs, hμ, exp2_sub, ← EReal.coe_mul, ← EReal.coe_add]
    have h : ∀ c, (2 : ℝ) ^ (μ - max μ ρ) * ((2 : ℝ) ^ (S c - μ) * w c) = (2 : ℝ) ^ (S c - max μ ρ) * w c := fun c => by
      rw [← mul_assoc, ← Real.rpow_add two_pos, show μ - max μ ρ + (S c - μ) = S c - max μ ρ by ring]
    have e : 1024 * (j + 1 + 1) = 1024 * (j + 1) + 1024 := by ring
    rw [e, Finset.sum_range_add _ (1024 * (j + 1)) 1024, Finset.mul_sum, Finset.sum_congr rfl fun c _ => h c]

/-- The softmax average of `w` under the scores `x`. -/
def avg (n : ℕ) (x w : ℕ → ℝ) : ℝ :=
  (∑ c ∈ Finset.range n, Real.exp (x c) * w c) / ∑ c ∈ Finset.range n, Real.exp (x c)

/-- The average is the same with all scores lowered by one number. -/
theorem avg_shift (n : ℕ) (x w : ℕ → ℝ) (ν : ℝ) :
    (∑ c ∈ Finset.range n, Real.exp (x c - ν) * w c) / (∑ c ∈ Finset.range n, Real.exp (x c - ν)) = avg n x w := by
  unfold avg
  have h : ∀ c, Real.exp (x c - ν) = Real.exp (-ν) * Real.exp (x c) := fun c => by rw [← Real.exp_add]; congr 1; ring
  simp only [h, mul_assoc, ← Finset.mul_sum]
  exact mul_div_mul_left _ _ (Real.exp_pos _).ne'

/-- The same in powers of two, where each score was divided by the logarithm of two. -/
theorem avg_two (n : ℕ) (x w : ℕ → ℝ) (μ : ℝ) :
    (∑ c ∈ Finset.range n, (2 : ℝ) ^ (x c / Real.log 2 - μ) * w c) / (∑ c ∈ Finset.range n, (2 : ℝ) ^ (x c / Real.log 2 - μ))
      = avg n x w := by
  have hl : Real.log 2 ≠ 0 := (Real.log_pos one_lt_two).ne'
  have h : ∀ c, (2 : ℝ) ^ (x c / Real.log 2 - μ) = Real.exp (x c - μ * Real.log 2) := fun c => by
    rw [Real.rpow_def_of_pos two_pos]; congr 1; field_simp
  simp only [h]
  exact avg_shift n x w _

/-- The quotient of two reals, the lower one positive. -/
theorem div_real (a b : ℝ) (hb : 0 < b) : Ideal.div (a : EReal) (b : EReal) = ((a / b : ℝ) : EReal) := by
  rw [Ideal.div_coe hb.ne', ← EReal.coe_mul]; congr 1; ring

end Cert.Attn
end
-- ==== Proof.Block.lean ====
/- One output entry of a block: where the scores of its row and the values of its lane are real, the quotient left after the eight chunks is
   the softmax average. -/
module

public import proofs.«01_k».proof.Proof.Laws
public import proofs.«01_k».proof.Proof.Row

@[expose] public section
set_option maxRecDepth 16384
noncomputable section
open Idealize.ShloMosaic Idealize.ShloMosaic.TcCoe Idealize.SL.Sem
namespace Cert.KernelIdeal.Value
open Cert.KernelIdeal Cert.KernelIdeal.Gen
variable (q : Vec Ideal S1x1x1024x256 .bf16) (k v : Vec Ideal S1x1x8192x256 .bf16) (r : Fin 1024) (l : Fin 128)

/-- The running maximum is the same in every lane. -/
theorem mSt_lane (j : ℕ) : mSt q k j (ix2 r l) = mSt q k j (ix2 r (0 : Fin 128)) := by
  induction j with
  | zero => exact (init_at r l).trans (init_at r 0).symm
  | succ j ih =>
    show rmax _ _ _ = rmax _ _ _
    rw [rmax_at, rmax_at, ih]

/-- A chunk's score is the row's score at the chunk's key. -/
theorem score_chunk (S : ℕ → ℝ) (j : ℕ) (hj : j < 8)
    (hS : ∀ c : Fin 8192, ∑ d : Fin 256, (q (ix4 (0 : Fin 1) (0 : Fin 1) r d) : EReal) * k (ix4 (0 : Fin 1) (0 : Fin 1) c d) = (S c.val : EReal))
    (c : Fin 1024) : score q (chunk k j) (ix2 r c) = (S (1024 * j + c.val) : EReal) := by
  rw [score_at]
  have hlt : 1024 * j + c.val < 8192 := by omega
  refine Eq.trans ?_ (hS ⟨1024 * j + c.val, hlt⟩)
  refine Finset.sum_congr rfl fun d _ => ?_
  refine congrArg (fun z => (q (ix4 (0 : Fin 1) (0 : Fin 1) r d) : EReal) * z) ?_
  show k (ix4 (0 : Fin 1) (0 : Fin 1) (⟨(1024 * j + c.val) % 8192, _⟩ : Fin 8192) d) = _
  have e : (⟨(1024 * j + c.val) % 8192, Nat.mod_lt _ (by decide)⟩ : Fin 8192) = ⟨1024 * j + c.val, hlt⟩ :=
    Fin.ext (Nat.mod_eq_of_lt hlt)
  rw [e]

/-- A chunk's value is the lane's value at the chunk's key. -/
theorem value_chunk (w : ℕ → ℝ) (j : ℕ) (hj : j < 8) (d : Fin 256)
    (hv : ∀ c : Fin 8192, (v (ix4 (0 : Fin 1) (0 : Fin 1) c d) : EReal) = (w c.val : EReal))
    (c : Fin 1024) : chunk v j (ix4 (0 : Fin 1) (0 : Fin 1) c d) = (w (1024 * j + c.val) : EReal) := by
  have hlt : 1024 * j + c.val < 8192 := by omega
  refine Eq.trans ?_ (hv ⟨1024 * j + c.val, hlt⟩)
  show v (ix4 (0 : Fin 1) (0 : Fin 1) (⟨(1024 * j + c.val) % 8192, _⟩ : Fin 8192) d) = _
  have e : (⟨(1024 * j + c.val) % 8192, Nat.mod_lt _ (by decide)⟩ : Fin 8192) = ⟨1024 * j + c.val, hlt⟩ :=
    Fin.ext (Nat.mod_eq_of_lt hlt)
  rw [e]

/-- The running maximum over the chunks, in the form of the row's recursion. -/
theorem mSt_step (S : ℕ → ℝ)
    (hS : ∀ c : Fin 8192, ∑ d : Fin 256, (q (ix4 (0 : Fin 1) (0 : Fin 1) r d) : EReal) * k (ix4 (0 : Fin 1) (0 : Fin 1) c d) = (S c.val : EReal))
    (j : ℕ) (hj : j < 8) : mSt q k (j + 1) (ix2 r (0 : Fin 128)) = max (mSt q k j (ix2 r (0 : Fin 128)) : EReal)
      ((Finset.univ : Finset (Fin 1024)).fold max (⊥ : EReal) fun c => (S (1024 * j + c.val) : EReal)) := by
  show rmax _ _ _ = _
  rw [rmax_at]
  simp only [score_chunk q k r S j hj hS]

/-- The first running sum over the chunks, in the form of the row's recursion. -/
theorem loSt_step (S w : ℕ → ℝ)
    (hS : ∀ c : Fin 8192, ∑ d : Fin 256, (q (ix4 (0 : Fin 1) (0 : Fin 1) r d) : EReal) * k (ix4 (0 : Fin 1) (0 : Fin 1) c d) = (S c.val : EReal))
    (hv : ∀ c : Fin 8192, (v (ix4 (0 : Fin 1) (0 : Fin 1) c (⟨l.val, by omega⟩ : Fin 256)) : EReal) = (w c.val : EReal))
    (j : ℕ) (hj : j < 8) : loSt q k v (j + 1) (ix2 r l)
      = Ideal.exp2 ((mSt q k j (ix2 r (0 : Fin 128)) : EReal) - mSt q k (j + 1) (ix2 r (0 : Fin 128))) * loSt q k v j (ix2 r l)
        + ∑ c : Fin 1024, Ideal.exp2 ((S (1024 * j + c.val) : EReal) - mSt q k (j + 1) (ix2 r (0 : Fin 128))) * (w (1024 * j + c.val) : EReal) := by
  have hm : rmax (score q (chunk k j)) (mSt q k j) (ix2 r l) = mSt q k (j + 1) (ix2 r (0 : Fin 128)) := mSt_lane q k r l (j + 1)
  have hm0 : rmax (score q (chunk k j)) (mSt q k j) (ix2 r (0 : Fin 128)) = mSt q k (j + 1) (ix2 r (0 : Fin 128)) := rfl
  show accLo _ _ _ _ _ = _
  rw [accLo_at, shrink_at, hm, mSt_lane]
  simp only [wts_at, hm0, score_chunk q k r S j hj hS, value_chunk v w j hj _ hv]

/-- The second running sum over the chunks, in the form of the row's recursion. -/
theorem hiSt_step (S w : ℕ → ℝ)
    (hS : ∀ c : Fin 8192, ∑ d : Fin 256, (q (ix4 (0 : Fin 1) (0 : Fin 1) r d) : EReal) * k (ix4 (0 : Fin 1) (0 : Fin 1) c d) = (S c.val : EReal))
    (hv : ∀ c : Fin 8192, (v (ix4 (0 : Fin 1) (0 : Fin 1) c (⟨128 + l.val, by omega⟩ : Fin 256)) : EReal) = (w c.val : EReal))
    (j : ℕ) (hj : j < 8) : hiSt q k v (j + 1) (ix2 r l)
      = Ideal.exp2 ((mSt q k j (ix2 r (0 : Fin 128)) : EReal) - mSt q k (j + 1) (ix2 r (0 : Fin 128))) * hiSt q k v j (ix2 r l)
        + ∑ c : Fin 1024, Ideal.exp2 ((S (1024 * j + c.val) : EReal) - mSt q k (j + 1) (ix2 r (0 : Fin 128))) * (w (1024 * j + c.val) : EReal) := by
  have hm : rmax (score q (chunk k j)) (mSt q k j) (ix2 r l) = mSt q k (j + 1) (ix2 r (0 : Fin 128)) := mSt_lane q k r l (j + 1)
  have hm0 : rmax (score q (chunk k j)) (mSt q k j) (ix2 r (0 : Fin 128)) = mSt q k (j + 1) (ix2 r (0 : Fin 128)) := rfl
  show accHi _ _ _ _ _ = _
  rw [accHi_at, shrink_at, hm, mSt_lane]
  simp only [wts_at, hm0, score_chunk q k r S j hj hS, value_chunk v w j hj _ hv]

/-- The first running sum starts at zero. -/
theorem loSt_zero : loSt q k v 0 (ix2 r l) = (0 : EReal) := by
  rw [loSt]
  exact fill_at ((Rect.unit (s := S1024x256) ![0, 0] ![1024, 128] inb_S1024x256_S1024x128_0_0).emb (ix2 r l))

/-- The second running sum starts at zero. -/
theorem hiSt_zero : hiSt q k v 0 (ix2 r l) = (0 : EReal) := by
  rw [hiSt]
  exact fill_at ((Rect.unit (s := S1024x256) ![0, 128] ![1024, 128] inb_S1024x256_S1024x128_0_128).emb (ix2 r l))

/-- An entry of the output block is the softmax average of its lane's values under its row's scores. -/
theorem block_at (X w : ℕ → ℝ) (z : Fin 1)
    (hS : ∀ c : Fin 8192, ∑ d : Fin 256, (q (ix4 (0 : Fin 1) (0 : Fin 1) r d) : EReal) * k (ix4 (0 : Fin 1) (0 : Fin 1) c d)
      = ((X c.val / Real.log 2 : ℝ) : EReal))
    (hv : ∀ c : Fin 8192, (v (ix4 (0 : Fin 1) (0 : Fin 1) c (⟨l.val, by omega⟩ : Fin 256)) : EReal) = (w c.val : EReal))
    (h1 : ∀ c : Fin 8192, (v (ix4 (0 : Fin 1) (0 : Fin 1) c (⟨128 + l.val, by omega⟩ : Fin 256)) : EReal) = ((1 : ℝ) : EReal)) :
    k0_pay2 (F := Ideal) (loSt q k v 8) (hiSt q k v 8) (ix3 z r l) = ((Attn.avg 8192 X w : ℝ) : EReal) := by
  have hM0 : (mSt q k 0 (ix2 r (0 : Fin 128)) : EReal) = ⊥ := init_at r 0
  obtain ⟨μ, hμ, hlo⟩ := Attn.running 8 (fun c => X c / Real.log 2) w (fun j => mSt q k j (ix2 r (0 : Fin 128))) (fun j => loSt q k v j (ix2 r l))
    hM0 (loSt_zero q k v r l) (mSt_step q k r (fun c => X c / Real.log 2) hS) (loSt_step q k v r l (fun c => X c / Real.log 2) w hS hv) 7 (by decide)
  obtain ⟨μ', hμ', hhi⟩ := Attn.running 8 (fun c => X c / Real.log 2) (fun _ => 1) (fun j => mSt q k j (ix2 r (0 : Fin 128)))
    (fun j => hiSt q k v j (ix2 r l)) hM0 (hiSt_zero q k v r l) (mSt_step q k r (fun c => X c / Real.log 2) hS) (hiSt_step q k v r l (fun c => X c / Real.log 2) (fun _ => 1) hS h1) 7 (by decide)
  obtain rfl : μ = μ' := EReal.coe_injective (hμ.symm.trans hμ')
  rw [out_at]
  refine (congrArg₂ Ideal.div hlo hhi).trans ?_
  simp only [mul_one]
  rw [Attn.div_real]
  · exact congrArg Real.toEReal (Attn.avg_two 8192 X w μ)
  · exact Finset.sum_pos (fun c _ => Real.rpow_pos_of_pos two_pos _) ⟨0, by simp⟩

end Cert.KernelIdeal.Value
end
-- ==== Proof.Arrays.lean ====
/- The array the attention kernel leaves, over the argument arrays: where every argument entry is real, each output entry is the softmax
   average of a head's values under the scaled inner products of its query with the head's keys. -/
module

public import proofs.«01_k».proof.Proof.Block

@[expose] public section
set_option maxRecDepth 16384
noncomputable section
open Idealize.ShloMosaic Idealize.ShloMosaic.TcCoe Idealize.SL.Sem
open Idealize.ShloMosaic.Pipeline (Dat)
namespace Cert.Attn

/-- Key `c`, as an index (taken around where it is too large). -/
def key (c : ℕ) : Fin 8192 := ⟨c % 8192, Nat.mod_lt _ (by decide)⟩

theorem key_val (c : Fin 8192) : key c.val = c := Fin.ext (Nat.mod_eq_of_lt c.isLt)

/-- The scaled score of query `i` against key `c`, in head `h` of sequence `s`. -/
def sc (Q K : Cert.KernelIdeal.S5x8192x8x192.Idx → ℝ) (s : Fin 5) (i : Fin 8192) (h : Fin 8) (c : ℕ) : ℝ :=
  (∑ d : Fin 192, Q (ix4 s i h d) * K (ix4 s (key c) h d)) / Real.sqrt 192

/-- Lane `l` of the value of key `c`, in head `h` of sequence `s`. -/
def vl (V : Cert.KernelIdeal.S5x8192x8x128.Idx → ℝ) (s : Fin 5) (h : Fin 8) (l : Fin 128) (c : ℕ) : ℝ := V (ix4 s (key c) h l)

/-- Attention over real arrays, heads side by side. -/
def att (Q K : Cert.KernelIdeal.S5x8192x8x192.Idx → ℝ) (V : Cert.KernelIdeal.S5x8192x8x128.Idx → ℝ) (s : Fin 5) (i : Fin 8192) (h : Fin 8) (l : Fin 128) : ℝ :=
  avg 8192 (sc Q K s i h) (vl V s h l)

/-- The pattern of 192. -/
theorem ofBits_192 : Ideal.ofBits FTy.f32 0x43400000#32 = ((192 : ℝ) : EReal) := by
  simp [Ideal.ofBits, Ideal.ieee, -EReal.coe_mul]; norm_num
/-- The pattern of two. -/
theorem ofBits_two : Ideal.ofBits FTy.f32 0x40000000#32 = ((2 : ℝ) : EReal) := by
  simp [Ideal.ofBits, Ideal.ieee, -EReal.coe_mul]; norm_num
/-- The root of 192. -/
theorem sqrt_192 : Ideal.sqrt (Ideal.ofBits FTy.f32 0x43400000#32) = ((Real.sqrt 192 : ℝ) : EReal) := by
  rw [ofBits_192, Ideal.sqrt_coe, if_neg (by norm_num)]
theorem sqrt_192_pos : 0 < Real.sqrt 192 := Real.sqrt_pos.mpr (by norm_num)
/-- The kernel's scale, over the reals. -/
theorem scale_real (x : ℝ) : Ideal.div (x : EReal) (Ideal.sqrt (Ideal.ofBits FTy.f32 0x43400000#32) * Ideal.log (Ideal.ofBits FTy.f32 0x40000000#32))
    = ((x / (Real.sqrt 192 * Real.log 2) : ℝ) : EReal) := by
  rw [sqrt_192, ofBits_two, Ideal.log_coe, if_neg (by norm_num), ← EReal.coe_mul, div_real]
  exact mul_pos sqrt_192_pos (Real.log_pos one_lt_two)

/-- An inner product over 256 lanes whose last 64 are zero on one side. -/
theorem dot_pad (A B : Fin 256 → EReal) (a b : Fin 192 → ℝ) (hA : ∀ d : Fin 192, A (Fin.castAdd 64 d : Fin 256) = (a d : EReal))
    (hB : ∀ d : Fin 192, B (Fin.castAdd 64 d : Fin 256) = (b d : EReal)) (hB0 : ∀ d : Fin 64, B (Fin.natAdd 192 d : Fin 256) = 0) :
    ∑ d : Fin 256, A d * B d = ((∑ d : Fin 192, a d * b d : ℝ) : EReal) := by
  refine (Fin.sum_univ_add (a := 192) (b := 64) fun d : Fin (192 + 64) => A d * B d).trans ?_
  have e1 : ∑ d : Fin 192, A (Fin.castAdd 64 d : Fin 256) * B (Fin.castAdd 64 d : Fin 256) = ((∑ d : Fin 192, a d * b d : ℝ) : EReal) := by
    rw [coe_sum]
    exact Finset.sum_congr rfl fun d _ => by rw [hA, hB, EReal.coe_mul]
  have e2 : ∑ d : Fin 64, A (Fin.natAdd 192 d : Fin 256) * B (Fin.natAdd 192 d : Fin 256) = 0 :=
    Finset.sum_eq_zero fun d _ => by rw [hB0, mul_zero]
  exact (congrArg₂ (· + ·) e1 e2).trans (add_zero _)

/-- The scores in powers of two: the scaled scores over the logarithm of two. -/
theorem sc_two (Q K : Cert.KernelIdeal.S5x8192x8x192.Idx → ℝ) (s : Fin 5) (i : Fin 8192) (h : Fin 8) (k : Fin 8192) :
    ∑ d : Fin 192, Q (ix4 s i h d) / (Real.sqrt 192 * Real.log 2) * K (ix4 s k h d) = sc Q K s i h k.val / Real.log 2 := by
  rw [sc, key_val, div_div, Finset.sum_div]
  exact Finset.sum_congr rfl fun d _ => by rw [div_mul_eq_mul_div]

end Cert.Attn

namespace Cert.KernelIdeal.Value
open Cert.KernelIdeal Cert.KernelIdeal.Gen Cert.Attn
variable (m : (ℓ : Loc nD τ sig) → Buf (Elt Ideal) ℓ)

/-- The blocks' places, at every grid point. -/
theorem idx : ∀ t : Fin cfg0.N, win0_0.index t = ![t.val / 64, t.val / 8 % 8, t.val % 8, 0]
    ∧ win0_1.index t = ![t.val / 64, t.val / 8 % 8, 0, 0] ∧ win0_2.index t = ![t.val / 64, t.val / 8 % 8, 0, 0]
    ∧ win0_3.index t = ![t.val / 64, t.val % 8, t.val / 8 % 8] ∧ t.val / 64 < 5 :=
  (by decide +kernel : ∀ t : Fin grid0.N, _)

/-- The queries' operand: the scaled query lanes, then the last 64 of them again. -/
theorem qArr (c : Dev nD) (y : S5x8x8192x256.Idx) (Q : S5x8192x8x192.Idx → ℝ)
    (hq : ∀ i, (m ((c : Thread nD τ).loc main_arg0) : FVec Ideal S5x8192x8x192 .f32) i = (Q i : EReal)) (d : Fin 192) (hd : (y 3).val = d.val) :
    (V m c main_v14 : FVec Ideal S5x8x8192x256 .bf16) y = ((Q (ix4 (y 0) (y 2) (y 1) d) / (Real.sqrt 192 * Real.log 2) : ℝ) : EReal) := by
  entry_read
  pointwise
  rw [dif_pos (by rw [hd]; exact d.isLt)]
  rw [← scale_real]
  refine congrArg (fun z => Ideal.div z _) ?_
  refine (hq _).trans (congrArg (fun z => ((Q z : ℝ) : EReal)) ?_)
  exact congrArg (fun z => ix4 (y 0) (y 2) (y 1) z) (Fin.ext hd)

/-- The queries' operand is real everywhere. -/
theorem qArr_real (c : Dev nD) (y : S5x8x8192x256.Idx) (Q : S5x8192x8x192.Idx → ℝ)
    (hq : ∀ i, (m ((c : Thread nD τ).loc main_arg0) : FVec Ideal S5x8192x8x192 .f32) i = (Q i : EReal)) :
    ∃ x : ℝ, (V m c main_v14 : FVec Ideal S5x8x8192x256 .bf16) y = (x : EReal) := by
  entry_read
  pointwise
  by_cases h : (y 3).val < 192
  · rw [dif_pos h]; exact ⟨_, (congrArg (fun z => Ideal.div z _) (hq _)).trans (scale_real _)⟩
  · rw [dif_neg h]; exact ⟨_, (congrArg (fun z => Ideal.div z _) (hq _)).trans (scale_real _)⟩

/-- The keys' operand: the key lanes. -/
theorem kArr (c : Dev nD) (y : S5x8x8192x256.Idx) (K : S5x8192x8x192.Idx → ℝ)
    (hk : ∀ i, (m ((c : Thread nD τ).loc main_arg1) : FVec Ideal S5x8192x8x192 .f32) i = (K i : EReal)) (d : Fin 192) (hd : (y 3).val = d.val) :
    (V m c main_v15 : FVec Ideal S5x8x8192x256 .bf16) y = ((K (ix4 (y 0) (y 2) (y 1) d) : ℝ) : EReal) := by
  entry_read
  pointwise
  rw [dif_pos (by rw [hd]; exact d.isLt)]
  refine (hk _).trans (congrArg (fun z => ((K z : ℝ) : EReal)) ?_)
  exact congrArg (fun z => ix4 (y 0) (y 2) (y 1) z) (Fin.ext hd)

/-- The keys' operand: zero after the key lanes. -/
theorem kArr_pad (c : Dev nD) (y : S5x8x8192x256.Idx) (hd : 192 ≤ (y 3).val) :
    (V m c main_v15 : FVec Ideal S5x8x8192x256 .bf16) y = (0 : EReal) := by
  entry_read
  pointwise
  rw [dif_neg (by omega)]

/-- The values' operand: the value lanes. -/
theorem vArr (c : Dev nD) (y : S5x8x8192x256.Idx) (W : S5x8192x8x128.Idx → ℝ)
    (hv : ∀ i, (m ((c : Thread nD τ).loc main_arg2) : FVec Ideal S5x8192x8x128 .f32) i = (W i : EReal)) (d : Fin 128) (hd : (y 3).val = d.val) :
    (V m c main_v16 : FVec Ideal S5x8x8192x256 .bf16) y = ((W (ix4 (y 0) (y 2) (y 1) d) : ℝ) : EReal) := by
  entry_read
  pointwise
  rw [dif_pos (by rw [hd]; exact d.isLt)]
  refine (hv _).trans (congrArg (fun z => ((W z : ℝ) : EReal)) ?_)
  exact congrArg (fun z => ix4 (y 0) (y 2) (y 1) z) (Fin.ext hd)

/-- The values' operand: one after the value lanes. -/
theorem vArr_one (c : Dev nD) (y : S5x8x8192x256.Idx) (hd : 128 ≤ (y 3).val) :
    (V m c main_v16 : FVec Ideal S5x8x8192x256 .bf16) y = ((1 : ℝ) : EReal) := by
  entry_read
  pointwise
  rw [dif_neg (by omega)]
  rfl

section blocks
variable (c : Dev nD) (t : Fin cfg0.N) (s : Fin 5) (h : Fin 8) (b : Fin 8) (hs : s.val = t.val / 64) (hh : h.val = t.val / 8 % 8) (hb : b.val = t.val % 8)
include hs hh

include hb in
/-- A block of queries, in the operand. -/
theorem qblk (r : Fin 1024) (d : Fin 256) (i : Fin 8192) (hi : i.val = b.val * 1024 + r.val) :
    (iblk m c 0 t : FVec Ideal S1x1x1024x256 .bf16) (ix4 (0 : Fin 1) (0 : Fin 1) r d) = (V m c main_v14 : FVec Ideal S5x8x8192x256 .bf16) (ix4 s h i d) := by
  blk_ext [iblk, idx t]
/-- A block of keys, in the operand. -/
theorem kblk (r : Fin 8192) (d : Fin 256) :
    (iblk m c 1 t : FVec Ideal S1x1x8192x256 .bf16) (ix4 (0 : Fin 1) (0 : Fin 1) r d) = (V m c main_v15 : FVec Ideal S5x8x8192x256 .bf16) (ix4 s h r d) := by
  blk_ext [iblk, idx t]
/-- A block of values, in the operand. -/
theorem vblk (r : Fin 8192) (d : Fin 256) :
    (iblk m c 2 t : FVec Ideal S1x1x8192x256 .bf16) (ix4 (0 : Fin 1) (0 : Fin 1) r d) = (V m c main_v16 : FVec Ideal S5x8x8192x256 .bf16) (ix4 s h r d) := by
  blk_ext [iblk, idx t]

end blocks

set_option maxHeartbeats 1000000 in
/-- The array the kernel leaves, where every argument entry is real. -/
theorem final (c : Dev nD) (Q K : S5x8192x8x192.Idx → ℝ) (W : S5x8192x8x128.Idx → ℝ)
    (hq : ∀ i, (m ((c : Thread nD τ).loc main_arg0) : FVec Ideal S5x8192x8x192 .f32) i = (Q i : EReal))
    (hk : ∀ i, (m ((c : Thread nD τ).loc main_arg1) : FVec Ideal S5x8192x8x192 .f32) i = (K i : EReal))
    (hv : ∀ i, (m ((c : Thread nD τ).loc main_arg2) : FVec Ideal S5x8192x8x128 .f32) i = (W i : EReal)) :
    (dats m 0 c).arrAt 3 (cfgs 0).N = (fun y : S5x8192x1024.Idx =>
      ((att Q K W (y 0) (y 1) ⟨(y 2).val / 128, by have := (y 2).isLt; change (y 2).val < 1024 at this; omega⟩
        ⟨(y 2).val % 128, Nat.mod_lt _ (by decide)⟩ : ℝ) : EReal)) := by
  refine (dats m 0 c).arrAt_eq_of_covers 3 _ (by decide +kernel) fun t _ y => ?_
  blk_simp
  rw [after0_3, outsAt0_eq]
  obtain ⟨z, r, l, rfl⟩ : ∃ (z : Fin 1) (r : Fin 1024) (l : Fin 128), y = ix3 z r l := ⟨y 0, y 1, y 2, by funext a; fin_cases a <;> rfl⟩
  have ht : t.val < 320 := t.isLt
  obtain ⟨s, hs⟩ : ∃ s : Fin 5, s.val = t.val / 64 := ⟨⟨t.val / 64, by omega⟩, rfl⟩
  obtain ⟨h, hh⟩ : ∃ h : Fin 8, h.val = t.val / 8 % 8 := ⟨⟨t.val / 8 % 8, by omega⟩, rfl⟩
  obtain ⟨b, hb⟩ : ∃ b : Fin 8, b.val = t.val % 8 := ⟨⟨t.val % 8, by omega⟩, rfl⟩
  obtain ⟨i, hi⟩ : ∃ i : Fin 8192, i.val = b.val * 1024 + r.val := ⟨⟨b.val * 1024 + r.val, by omega⟩, rfl⟩
  refine (block_at _ _ _ r l (sc Q K s i h) (vl W s h l) z (fun k => ?_) (fun k => ?_) (fun k => ?_)).trans ?_
  · rw [← sc_two]
    refine dot_pad (fun d => (iblk m c 0 t : FVec Ideal S1x1x1024x256 .bf16) (ix4 (0 : Fin 1) (0 : Fin 1) r d))
      (fun d => (iblk m c 1 t : FVec Ideal S1x1x8192x256 .bf16) (ix4 (0 : Fin 1) (0 : Fin 1) k d))
      (fun d => Q (ix4 s i h d) / (Real.sqrt 192 * Real.log 2)) (fun d => K (ix4 s k h d)) (fun d => ?_) (fun d => ?_) (fun d => ?_)
    · exact (qblk m c t s h b hs hh hb r _ i hi).trans (qArr m c _ Q hq d rfl)
    · exact (kblk m c t s h hs hh k _).trans (kArr m c _ K hk d rfl)
    · exact (kblk m c t s h hs hh k _).trans (kArr_pad m c _ (Nat.le_add_right 192 d.val))
  · refine (vblk m c t s h hs hh k _).trans ?_
    refine (vArr m c _ W hv l rfl).trans ?_
    exact congrArg (fun z => ((W (ix4 s z h l) : ℝ) : EReal)) (key_val k).symm
  · exact (vblk m c t s h hs hh k _).trans (vArr_one m c _ (Nat.le_add_right 128 l.val))
  · refine congrArg Real.toEReal ?_
    show att Q K W s i h l = att Q K W _ _ _ _
    congr 1 <;> apply Fin.ext <;> blk_simp [idx t] <;> first
      | omega
      | (show h.val = (t.val / 8 % 8 * 128 + l.val) / 128; omega)
      | (show l.val = (t.val / 8 % 8 * 128 + l.val) % 128; omega)

end Cert.KernelIdeal.Value
end
-- ==== Proof.Ref.lean ====
/- The array the reference leaves, over real arrays: its softmax, read stage by stage at one index. -/
module

public import proofs.«01_k».proof.Proof.Arrays
public import proofs.«01_k».proof.Proof.Gen.ReferenceIdeal.Run

@[expose] public section
set_option maxRecDepth 16384
noncomputable section
open Idealize.ShloMosaic Idealize.ShloMosaic.TcCoe Idealize.SL.Sem
namespace Cert.Soft
open Cert.ReferenceIdeal Cert.ReferenceIdeal.Gen Cert.Attn

abbrev QK := FVec Ideal S5x8192x8x192 .f32
abbrev VV := FVec Ideal S5x8192x8x128 .f32
abbrev SS := FVec Ideal S5x8x8192x8192 .f32
abbrev RR := FVec Ideal S5x8x8192 .f32

/-- The reference's scaled scores. -/
def rsc (q k : QK) : SS :=
  Host.divf (Host.dotGeneral dot_S5x8192x8x192_S5x8192x8x192_S5x8x8192x8192_3_3_1_1_02_02 none q k) (broadcastInDim S5x8x8192x8192 ![] bcast_S_S5x8x8192x8192 (Host.sqrt (constant (F := Ideal) S_ .f32 0x43400000#32)))
/-- Their greatest, over the keys. -/
def rmx (s : SS) : RR :=
  maximumf (broadcastInDim S5x8x8192 ![] bcast_S_S5x8x8192 (constant (F := Ideal) S_ .f32 0xFF800000#32)) (Host.reduce FloatOps.maximumf s (constant (F := Ideal) S_ .f32 0xFF800000#32) reducesTo_S5x8x8192x8192_S5x8x8192_d3 h_S_)
/-- A row's number, at each of its keys. -/
def rrow (r : RR) : SS :=
  broadcastInDim S5x8x8192x8192 ![0, 1, 2, 3] bcast_S5x8x8192x1_S5x8x8192x8192_0_1_2_3 (broadcastInDim S5x8x8192x1 ![0, 1, 2] bcast_S5x8x8192_S5x8x8192x1_0_1_2 r)
/-- The exponentials of the scores less their greatest. -/
def rex (s : SS) (r : RR) : SS := Host.exp (subf s (rrow r))
/-- The exponentials' sum over the keys. -/
def rsum (e : SS) : RR := Host.reduceAdd e (constant (F := Ideal) S_ .f32 0x00000000#32) reducesTo_S5x8x8192x8192_S5x8x8192_d3 h_S_
/-- The weights. -/
def rwt (e : SS) (r : RR) : SS := Host.divf e (rrow r)
/-- The weighted sum of the values, heads side by side. -/
def rout (p : SS) (v : VV) : FVec Ideal S5x8192x1024 .bf16 :=
  truncf .bf16 (shapeCast _ (transpose S5x8192x8x128 [0, 3, 1, 2] (Host.dotGeneral dot_S5x8192x8x128_S5x8x8192x8192_S5x8x128x8192_1_3_3_2_02_01 none v p) transposes_S5x8x128x8192_S5x8192x8x128_0_3_1_2) shapeCasts_S5x8192x8x128_S5x8192x1024) bitsLt_bf16_f32
/-- The reference's whole expression. -/
def rall (q k : QK) (v : VV) : FVec Ideal S5x8192x1024 .bf16 :=
  rout (rwt (rex (rsc q k) (rmx (rsc q k))) (rsum (rex (rsc q k) (rmx (rsc q k))))) v

theorem rsc_at (q k : QK) (s : Fin 5) (h : Fin 8) (i j : Fin 8192) :
    rsc q k (ix4 s h i j) = Ideal.div (∑ d : Fin 192, (q (ix4 s i h d) : EReal) * (k (ix4 s j h d) : EReal)) (Ideal.sqrt (Ideal.ofBits FTy.f32 0x43400000#32)) := by
  pointwise [rsc]
/-- The host's maximum over the last of four axes, at one index. -/
theorem hmax {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c)
      = (Finset.univ : Finset (Fin n3)).fold max (init (Shape.Idx.first hu) : EReal) fun j => (x (ix4 a b c j) : EReal) := by
  rw [Host.reduce_eq_fold, Shape.ReducesTo.fold_fiber_r4_a3]
  rfl
/-- A maximum of two arrays, at one index. -/
theorem max_at {u : Shape} (x y : FVec Ideal u .f32) (i : u.Idx) : maximumf x y i = (max (x i) (y i) : EReal) := rfl
/-- The array of minus infinities. -/
theorem ninf_at (i : S5x8x8192.Idx) : (broadcastInDim S5x8x8192 ![] bcast_S_S5x8x8192 (constant (F := Ideal) S_ .f32 0xFF800000#32) i : EReal) = ⊥ :=
  Cert.KernelIdeal.Value.ofBits_ninf
theorem ninf_first : ((constant (F := Ideal) S_ .f32 0xFF800000#32 : FVec Ideal S_ .f32) (Shape.Idx.first h_S_) : EReal) = ⊥ := Cert.KernelIdeal.Value.ofBits_ninf
theorem rmx_at (x : SS) (s : Fin 5) (h : Fin 8) (i : Fin 8192) :
    rmx x (ix3 s h i) = (Finset.univ : Finset (Fin 8192)).fold max (⊥ : EReal) fun j => (x (ix4 s h i j) : EReal) := by
  rw [rmx, max_at, ninf_at, hmax, ninf_first]
  exact max_eq_right bot_le
theorem rrow_at (r : RR) (s : Fin 5) (h : Fin 8) (i j : Fin 8192) : rrow r (ix4 s h i j) = r (ix3 s h i) := by
  pointwise [rrow]
theorem rex_at (x : SS) (r : RR) (s : Fin 5) (h : Fin 8) (i j : Fin 8192) : rex x r (ix4 s h i j) = Ideal.exp ((x (ix4 s h i j) : EReal) - (r (ix3 s h i) : EReal)) := by
  pointwise [rex, rrow_at]
theorem rsum_at (x : SS) (s : Fin 5) (h : Fin 8) (i : Fin 8192) :
    rsum x (ix3 s h i) = ∑ j : Fin 8192, (x (ix4 s h i j) : EReal) := by
  pointwise [rsum]
theorem rwt_at (x : SS) (r : RR) (s : Fin 5) (h : Fin 8) (i j : Fin 8192) : rwt x r (ix4 s h i j) = Ideal.div (x (ix4 s h i j)) (r (ix3 s h i)) := by
  pointwise [rwt, rrow_at]
theorem rout_at (p : SS) (v : VV) (s : Fin 5) (i : Fin 8192) (h : Fin 8) (l : Fin 128) (hlt : 128 * h.val + l.val < 1024) :
    rout p v (ix3 s i ⟨128 * h.val + l.val, hlt⟩) = ∑ j : Fin 8192, (v (ix4 s j h l) : EReal) * (p (ix4 s h i j) : EReal) := by
  pointwise [rout]

variable (Q K : S5x8192x8x192.Idx → ℝ) (W : S5x8192x8x128.Idx → ℝ) (q k : QK) (v : VV)
  (hq : ∀ i, (q i : EReal) = (Q i : EReal)) (hk : ∀ i, (k i : EReal) = (K i : EReal)) (hv : ∀ i, (v i : EReal) = (W i : EReal))
include hq hk

/-- The scaled scores, over the reals. -/
theorem rsc_real (s : Fin 5) (h : Fin 8) (i j : Fin 8192) : (rsc q k (ix4 s h i j) : EReal) = ((sc Q K s i h j.val : ℝ) : EReal) := by
  rw [rsc_at, sqrt_192]
  have e : (∑ d : Fin 192, (q (ix4 s i h d) : EReal) * (k (ix4 s j h d) : EReal)) = ((∑ d : Fin 192, Q (ix4 s i h d) * K (ix4 s j h d) : ℝ) : EReal) := by
    rw [coe_sum]
    exact Finset.sum_congr rfl fun d _ => by rw [hq, hk, EReal.coe_mul]
  rw [e, div_real _ _ sqrt_192_pos, sc, key_val]

/-- One row of the reference: the weighted sum of the values is the average. -/
theorem rall_at (hv : ∀ i, (v i : EReal) = (W i : EReal)) (s : Fin 5) (i : Fin 8192) (h : Fin 8) (l : Fin 128) (hlt : 128 * h.val + l.val < 1024) :
    (rall q k v (ix3 s i ⟨128 * h.val + l.val, hlt⟩) : EReal) = ((att Q K W s i h l : ℝ) : EReal) := by
  obtain ⟨ρ, hρ⟩ := fold_max_real (Finset.univ : Finset (Fin 8192)) ⟨0, Finset.mem_univ _⟩ (fun j : Fin 8192 => sc Q K s i h j.val)
  have hm : (rmx (rsc q k) (ix3 s h i) : EReal) = (ρ : EReal) := by
    rw [rmx_at, ← hρ]
    exact congrArg (fun f : Fin 8192 → EReal => (Finset.univ : Finset (Fin 8192)).fold max ⊥ f) (funext fun j => rsc_real Q K q k hq hk s h i j)
  have he : ∀ j : Fin 8192, (rex (rsc q k) (rmx (rsc q k)) (ix4 s h i j) : EReal) = ((Real.exp (sc Q K s i h j.val - ρ) : ℝ) : EReal) := fun j => by
    rw [rex_at, rsc_real Q K q k hq hk, hm, ← EReal.coe_sub, Ideal.exp_coe]
  have hs : (rsum (rex (rsc q k) (rmx (rsc q k))) (ix3 s h i) : EReal) = ((∑ c ∈ Finset.range 8192, Real.exp (sc Q K s i h c - ρ) : ℝ) : EReal) := by
    rw [rsum_at, Finset.sum_range, coe_sum]
    exact Finset.sum_congr rfl fun j _ => he j
  have hpos : 0 < ∑ c ∈ Finset.range 8192, Real.exp (sc Q K s i h c - ρ) :=
    Finset.sum_pos (fun c _ => Real.exp_pos _) ⟨0, Finset.mem_range.mpr (by norm_num)⟩
  have hp : ∀ j : Fin 8192, (rwt (rex (rsc q k) (rmx (rsc q k))) (rsum (rex (rsc q k) (rmx (rsc q k)))) (ix4 s h i j) : EReal)
      = ((Real.exp (sc Q K s i h j.val - ρ) / ∑ c ∈ Finset.range 8192, Real.exp (sc Q K s i h c - ρ) : ℝ) : EReal) := fun j => by
    rw [rwt_at, he, hs, div_real _ _ hpos]
  rw [rall, rout_at, att, ← avg_shift 8192 (sc Q K s i h) (vl W s h l) ρ, Finset.sum_div, Finset.sum_range, coe_sum]
  refine Finset.sum_congr rfl fun j _ => ?_
  rw [hp, hv, ← EReal.coe_mul, vl, key_val]
  refine congrArg Real.toEReal ?_
  ring

/-- The reference's array over real arguments: attention at every index. -/
theorem rall_eq (hv : ∀ i, (v i : EReal) = (W i : EReal)) : rall q k v = (fun y : S5x8192x1024.Idx =>
    ((att Q K W (y 0) (y 1) ⟨(y 2).val / 128, by have h2 : (y 2).val < 1024 := (y 2).isLt; omega⟩ ⟨(y 2).val % 128, Nat.mod_lt _ (by decide)⟩ : ℝ) : EReal)) := by
  funext y
  have hy : (y 2).val < 1024 := (y 2).isLt
  have hd : 128 * ((y 2).val / 128) + (y 2).val % 128 = (y 2).val := Nat.div_add_mod _ _
  have e := rall_at Q K W q k v hq hk hv (y 0) (y 1) ⟨(y 2).val / 128, by omega⟩ ⟨(y 2).val % 128, Nat.mod_lt _ (by decide)⟩ (by rw [hd]; exact hy)
  refine Eq.trans (congrArg (rall q k v) ?_) e
  rw [show (⟨128 * ((y 2).val / 128) + (y 2).val % 128, by rw [hd]; exact hy⟩ : Fin 1024) = y 2 from Fin.ext hd]
  funext a; fin_cases a <;> rfl

end Cert.Soft
end
-- ==== Proof.Finite.lean ====
/- The precondition read at one entry: a finite number is a real. -/
module

public import proofs.«01_k».proof.Defs
public import proofs.«01_k».proof.Proof.Gen.Pre_finite
public import Idealize.ShloMosaic.Lib.ReduceAll
public import Idealize.ShloMosaic.Lib.Pointwise

@[expose] public section
set_option maxRecDepth 16384
noncomputable section
open Idealize.ShloMosaic Idealize.ShloMosaic.TcCoe Idealize.SL.Sem
namespace Cert.Finite
open Cert.Pre_finite Cert.Pre_finite.Gen

instance : Subsingleton S_.Idx := ⟨fun a b => funext fun z => z.elim0⟩

/-- The pattern of infinity. -/
theorem ofBits_inf : Ideal.ofBits FTy.f32 0x7F800000#32 = ⊤ := by simp [Ideal.ofBits, Ideal.ieee]

/-- A number whose distance from zero is less than infinity is a real. -/
theorem real_of_lt (x : EReal) (h : max x (-x) < ⊤) : x = (x.toReal : EReal) := by
  refine (EReal.coe_toReal (fun e => ?_) fun e => ?_).symm
  · rw [e] at h; exact absurd h (by simp)
  · rw [e] at h; exact absurd h (by simp)
/-- An entry of a comparison of distances from zero with infinity that is true: a real. -/
theorem real_of_cmp (x : EReal) (h : Ideal.cmp .olt (max x (-x)) (Ideal.ofBits FTy.f32 0x7F800000#32) = 1) : x = (x.toReal : EReal) := by
  rw [ofBits_inf] at h
  exact real_of_lt x ((Ideal.cmp_olt_eq_one _ _).1 h)
/-- Three conditions, all true, are each true. -/
theorem fn_true (q k : FVec Ideal S5x8192x8x192 .f32) (v : FVec Ideal S5x8192x8x128 .f32) (h : Cert.Pre_finite.fn (F := Ideal) q k v = fun _ => 1#1) :
    (∀ i, (q i : EReal) = ((q i : EReal).toReal : EReal)) ∧ (∀ i, (k i : EReal) = ((k i : EReal).toReal : EReal)) ∧ ∀ i, (v i : EReal) = ((v i : EReal).toReal : EReal) := by
  have h0 := congrFun h (Shape.Idx.first h_S_)
  obtain ⟨h1, hv⟩ := IntOp.andi_eq_one.1 h0
  obtain ⟨hq, hk⟩ := IntOp.andi_eq_one.1 h1
  have hq' := fun i => Host.reduce_andi_all _ _ _ _ _ hq i
  have hk' := fun i => Host.reduce_andi_all _ _ _ _ _ hk i
  have hv' := fun i => Host.reduce_andi_all _ _ _ _ _ hv i
  exact ⟨fun i => real_of_cmp _ (hq' i), fun i => real_of_cmp _ (hk' i), fun i => real_of_cmp _ (hv' i)⟩
end Cert.Finite
end
-- ==== Proof.Attention.lean ====
/- The claims of the attention call: the frames, and the equality of the kernel's array with the reference's. -/
module

public import proofs.«01_k».proof.Defs
public import proofs.«01_k».proof.Proof.Arrays
public import proofs.«01_k».proof.Proof.Ref
public import proofs.«01_k».proof.Proof.Finite
public import proofs.«01_k».proof.Proof.Gen.Kernel.Frame
public import proofs.«01_k».proof.Proof.Gen.KernelIdeal.Frame
public import proofs.«01_k».proof.Proof.Gen.KernelIdeal.Value
public import Idealize.ShloMosaic.Adequacy
public import Idealize.ShloMosaic.Init

@[expose] public section
set_option maxRecDepth 16384
noncomputable section
open Idealize.ShloMosaic Idealize.ShloMosaic.TcCoe Idealize.SL.Sem
namespace Cert.Attention

/-- The kernel ends, with its arguments kept and its semaphores at zero. -/
theorem frame_p : Cert.quiescent_Kernel := fun m g _ => Cert.Kernel.Gen.frame m g
/-- So does its ideal. -/
theorem frame_pi : Cert.quiescent_KernelIdeal := fun m g _ => Cert.KernelIdeal.Gen.frame m g
/-- So does its ideal over finite arguments. -/
theorem frame_pif : Cert.quiescent_KernelIdeal_pre_finite := fun m g _ => Cert.KernelIdeal.Gen.frame m g

/-- The reference, which has no semaphore, ends with its arguments kept. -/
theorem reference_kept (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) := by
  refine (θ_run Cert.ReferenceIdeal.defs _ _).mono (fun r hr => ⟨fun c => (hr c).2, ?_⟩) (Cert.ReferenceIdeal.Value.run m g)
  exact sem_eq_zero_of_no_sems (by decide) r.2
/-- The reference's frame. -/
theorem frame_ri : Cert.quiescent_ReferenceIdeal := fun m g _ => reference_kept m g
/-- The same over finite arguments. -/
theorem frame_rif : Cert.quiescent_ReferenceIdeal_pre_finite := fun m g _ => reference_kept m g

/-- The attention over the entries' reals. -/
abbrev out (q k : FVec Ideal Cert.KernelIdeal.S5x8192x8x192 .f32) (v : FVec Ideal Cert.KernelIdeal.S5x8192x8x128 .f32) :
    FVec Ideal Cert.KernelIdeal.S5x8192x1024 .bf16 := fun y =>
  ((Cert.Attn.att (fun i => (q i : EReal).toReal) (fun i => (k i : EReal).toReal) (fun i => (v i : EReal).toReal) (y 0) (y 1)
    ⟨(y 2).val / 128, by have h2 : (y 2).val < 1024 := (y 2).isLt; omega⟩ ⟨(y 2).val % 128, Nat.mod_lt _ (by decide)⟩ : ℝ) : EReal)

/-- Over finite arguments the kernel and the reference leave the same array: attention. -/
theorem algebraic : Cert.algebraic_KernelIdeal_ReferenceIdeal_pre_finite := by
  intro m g m' g' hp h
  have hf := fun c => Cert.Finite.fn_true _ _ _ (hp c)
  refine ⟨fun c => out (m ((c.tc : Thread _ _).loc Cert.KernelIdeal.main_arg0)) (m ((c.tc : Thread _ _).loc Cert.KernelIdeal.main_arg1))
      (m ((c.tc : Thread _ _).loc Cert.KernelIdeal.main_arg2)), ?_, ?_⟩
  · refine (θ_run Cert.KernelIdeal.defs _ _).mono (fun r hr c => ⟨(hr c).1.trans ?_, (hr c).2⟩) (Cert.KernelIdeal.Value.run_blocks m g)
    exact Cert.KernelIdeal.Value.final m c _ _ _ (hf c).1 (hf c).2.1 (hf c).2.2
  · refine (θ_run Cert.ReferenceIdeal.defs _ _).mono (fun r hr c => ⟨(hr c).1.trans ?_, (hr c).2⟩) (Cert.ReferenceIdeal.Value.run m' g')
    have e := h c
    rw [e.1, e.2.1, e.2.2]
    exact Cert.Soft.rall_eq _ _ _ _ _ _ (hf c).1 (hf c).2.1 (hf c).2.2

end Cert.Attention
end
-- ==== Proof.Unit.lean ====
/- A row over the root of its mean square, and rows of five sequences one after another. -/
module

public import Idealize.ShloMosaic.Lib.Pointwise

@[expose] public section
noncomputable section
open Idealize.ShloMosaic
namespace Cert.Attn

/-- One entry of a row over the root of the row's mean square, times its gain. -/
def unit (x g : Fin 2048 → EReal) (d : Fin 2048) : EReal :=
  x d * Ideal.rsqrt (Ideal.div (∑ e : Fin 2048, x e * x e) (Ideal.ofBits FTy.f32 0x45000000#32) + Ideal.ofBits FTy.f32 0x358637BD#32) * g d
/-- The sequence of a row. -/
def seqOf (i : Fin 40960) : Fin 5 := ⟨i.val / 8192, by have h : i.val < 40960 := i.isLt; omega⟩
/-- The position of a row in its sequence. -/
def posOf (i : Fin 40960) : Fin 8192 := ⟨i.val % 8192, Nat.mod_lt _ (by decide)⟩
theorem seq_pos (i : Fin 40960) : (seqOf i).val * 8192 + (posOf i).val = i.val := Nat.div_add_mod' _ _

end Cert.Attn
end
-- ==== Proof.InCall.lean ====
/- The input projection: what the kernel's array holds, what the reference's holds, and that they are one array. -/
module

public import proofs.«01_k».proof.Defs
public import proofs.«01_k».proof.Proof.Gen.InKernel.Frame
public import proofs.«01_k».proof.Proof.Gen.InKernelIdeal.Frame
public import proofs.«01_k».proof.Proof.Gen.InKernelIdeal.Value
public import proofs.«01_k».proof.Proof.Gen.InReferenceIdeal.Run
public import proofs.«01_k».proof.Proof.Unit
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)
namespace Cert.Attn

/-- The weights' column that a column of the projection takes: after the 2880 own columns, the last 32 of them, then the 32 before those. -/
def colOf (n : Fin 2944) : Fin 2880 :=
  ⟨if n.val < 2880 then n.val else if n.val < 2912 then n.val - 32 else n.val - 96, by have := n.isLt; split_ifs <;> omega⟩

end Cert.Attn

namespace Cert.InKernelIdeal.Value
open Cert.InKernelIdeal Cert.InKernelIdeal.Gen Cert.Attn
variable (m : (ℓ : Loc nD τ sig) → Buf (Elt Ideal) ℓ)

/-- One entry of what a grid point writes. -/
theorem pay_at (x : Vec Ideal S256x2048 .f32) (g : Vec Ideal S1x2048 .f32) (w : Vec Ideal S2048x2944 .bf16) (r : Fin 256) (n : Fin 2944) :
    k0_pay1 (F := Ideal) x g w (ix2 r n) = ∑ d : Fin 2048, unit (fun e => x (ix2 r e)) (fun e => g (ix2 (0 : Fin 1) e)) d * w (ix2 d n) := by
  unfold unit
  pointwise [k0_pay1]
/-- The blocks' places. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

variable (c : Dev nD) (t : Fin cfg0.N)
/-- A block of rows, in the argument. -/
theorem xblk (r : Fin 256) (d : Fin 2048) (s : Fin 5) (i : Fin 8192) (hi : s.val * 8192 + i.val = t.val * 256 + r.val) :
    (iblk m c 0 t : FVec Ideal S256x2048 .f32) (ix2 r d) = (m ((c : Thread nD τ).loc main_arg0) : FVec Ideal S5x8192x2048 .f32) (ix3 s i d) := by
  have e : (iblk m c 0 t : FVec Ideal S256x2048 .f32) (ix2 r d) = (V m c main_v6 : FVec Ideal S40960x2048 .f32) (ix2 (⟨s.val * 8192 + i.val, by omega⟩ : Fin 40960) d) := by
    blk_ext [iblk, idx t]
  rw [e]
  entry_read
  pointwise
/-- The gains, in the argument. -/
theorem gblk (d : Fin 2048) : (iblk m c 1 t : FVec Ideal S1x2048 .f32) (ix2 (0 : Fin 1) d) = (m ((c : Thread nD τ).loc main_arg1) : FVec Ideal S2048 .f32) (ix1 d) := by
  have e : (iblk m c 1 t : FVec Ideal S1x2048 .f32) (ix2 (0 : Fin 1) d) = (V m c main_v7 : FVec Ideal S1x2048 .f32) (ix2 (0 : Fin 1) d) := by
    blk_ext [iblk, idx t]
  rw [e]
  entry_read
  pointwise
/-- The weights, in the argument. -/
theorem wblk (d : Fin 2048) (n : Fin 2944) :
    (iblk m c 2 t : FVec Ideal S2048x2944 .bf16) (ix2 d n) = (m ((c : Thread nD τ).loc main_arg2) : FVec Ideal S2048x2880 .f32) (ix2 d (colOf n)) := by
  have e : (iblk m c 2 t : FVec Ideal S2048x2944 .bf16) (ix2 d n) = (V m c main_v5 : FVec Ideal S2048x2944 .bf16) (ix2 d n) := by
    blk_ext [iblk, idx t]
  rw [e]
  entry_read
  pointwise
  by_cases h1 : n.val < 2880
  · rw [dif_pos h1]
    exact congrArg (fun z => (m ((c : Thread nD τ).loc main_arg2) : FVec Ideal S2048x2880 .f32) (ix2 d z)) (Fin.ext (by simp [colOf, h1]))
  · rw [dif_neg h1]
    by_cases h2 : n.val < 2912
    · rw [dif_pos (by omega)]
      exact congrArg (fun z => (m ((c : Thread nD τ).loc main_arg2) : FVec Ideal S2048x2880 .f32) (ix2 d z)) (Fin.ext (by simp [colOf, h1, h2]; omega))
    · rw [dif_neg (by omega)]
      exact congrArg (fun z => (m ((c : Thread nD τ).loc main_arg2) : FVec Ideal S2048x2880 .f32) (ix2 d z)) (Fin.ext (by simp [colOf, h1, h2]; omega))

/-- The array the kernel leaves: the normalised rows times the weights. -/
theorem final : (dats m 0 c).arrAt 3 (cfgs 0).N = (fun y : S40960x2944.Idx =>
    ∑ d : Fin 2048, unit (fun e => (m ((c : Thread nD τ).loc main_arg0) : FVec Ideal S5x8192x2048 .f32) (ix3 (seqOf (y 0)) (posOf (y 0)) e))
      (fun e => (m ((c : Thread nD τ).loc main_arg1) : FVec Ideal S2048 .f32) (ix1 e)) d
      * (m ((c : Thread nD τ).loc main_arg2) : FVec Ideal S2048x2880 .f32) (ix2 d (colOf (y 1)))) := by
  refine (dats m 0 c).arrAt_eq_of_covers 3 _ (by decide +kernel) fun t _ y => ?_
  blk_simp
  rw [after0_3]
  frame_out
  obtain ⟨r, n, rfl⟩ : ∃ (r : Fin 256) (n : Fin 2944), y = ix2 r n := ⟨y 0, y 1, by funext a; fin_cases a <;> rfl⟩
  refine (pay_at _ _ _ r n).trans ?_
  have ht : t.val < 160 := t.isLt
  have hd : (((cfg0.win 3).blk t).view.emb (ix2 r n) : S40960x2944.Idx) 1 = n := by
    apply Fin.ext; blk_simp [idx t]
  have h0 : (((cfg0.win 3).blk t).view.emb (ix2 r n) : S40960x2944.Idx) 0 = (⟨t.val * 256 + r.val, by omega⟩ : Fin 40960) := by
    apply Fin.ext; blk_simp [idx t]
  have e1 : (fun e : Fin 2048 => ((iblk m c 0 t : FVec Ideal S256x2048 .f32) (ix2 r e) : EReal)) = fun e => (m ((c : Thread nD τ).loc main_arg0) : FVec Ideal S5x8192x2048 .f32)
      (ix3 (seqOf ⟨t.val * 256 + r.val, by omega⟩) (posOf ⟨t.val * 256 + r.val, by omega⟩) e) :=
    funext fun e => xblk m c t r e _ _ (seq_pos _)
  have e2 : (fun e : Fin 2048 => ((iblk m c 1 t : FVec Ideal S1x2048 .f32) (ix2 (0 : Fin 1) e) : EReal)) = fun e => (m ((c : Thread nD τ).loc main_arg1) : FVec Ideal S2048 .f32) (ix1 e) :=
    funext fun e => gblk m c t e
  have e3 : (fun e : Fin 2048 => ((iblk m c 2 t : FVec Ideal S2048x2944 .bf16) (ix2 e n) : EReal)) = fun e => (m ((c : Thread nD τ).loc main_arg2) : FVec Ideal S2048x2880 .f32) (ix2 e (colOf n)) :=
    funext fun e => wblk m c t e n
  refine (congrArg (fun w : Fin 2048 → EReal => ∑ d : Fin 2048, unit (fun e => (iblk m c 0 t : FVec Ideal S256x2048 .f32) (ix2 r e)) (fun e => (iblk m c 1 t : FVec Ideal S1x2048 .f32) (ix2 (0 : Fin 1) e)) d * w d) e3).trans ?_
  refine (congrArg₂ (fun a b => ∑ d : Fin 2048, unit a b d * (m ((c : Thread nD τ).loc main_arg2) : FVec Ideal S2048x2880 .f32) (ix2 d (colOf n))) e1 e2).trans ?_
  exact congrArg₂ (fun (i : Fin 40960) (n : Fin 2944) => ∑ d : Fin 2048, unit (fun e => (m ((c : Thread nD τ).loc main_arg0) : FVec Ideal S5x8192x2048 .f32) (ix3 (seqOf i) (posOf i) e))
    (fun e => (m ((c : Thread nD τ).loc main_arg1) : FVec Ideal S2048 .f32) (ix1 e)) d * (m ((c : Thread nD τ).loc main_arg2) : FVec Ideal S2048x2880 .f32) (ix2 d (colOf n))) h0.symm hd.symm

end Cert.InKernelIdeal.Value

namespace Cert.InRef
open Cert.InReferenceIdeal Cert.InReferenceIdeal.Gen Cert.Attn

/-- The normalised rows. -/
def nrm (x : FVec Ideal S5x8192x2048 .f32) (g : FVec Ideal S2048 .f32) : FVec Ideal S5x8192x2048 .f32 :=
  mulf (mulf x (broadcastInDim S5x8192x2048 ![0, 1, 2] bcast_S5x8192x1_S5x8192x2048_0_1_2 (Host.rsqrt (addf (Host.divf (broadcastInDim S5x8192x1 ![0, 1] bcast_S5x8192_S5x8192x1_0_1 (Host.reduceAdd (mulf x x) (constant S_ .f32 0x00000000#32) reducesTo_S5x8192x2048_S5x8192_d2 h_S_)) (broadcastInDim S5x8192x1 ![] bcast_S_S5x8192x1 (constant S_ .f32 0x45000000#32))) (broadcastInDim S5x8192x1 ![] bcast_S_S5x8192x1 (constant S_ .f32 0x358637BD#32)))))) (broadcastInDim S5x8192x2048 ![0, 1, 2] bcast_S1x1x2048_S5x8192x2048_0_1_2 (broadcastInDim S1x1x2048 ![2] bcast_S2048_S1x1x2048_2 g))
/-- Their product with the weights. -/
def proj (y : FVec Ideal S5x8192x2048 .f32) (w : FVec Ideal S2048x2880 .f32) : FVec Ideal S5x8192x2880 .f32 :=
  Host.dotGeneral dot_S5x8192x2048_S2048x2880_S5x8192x2880_2_0_01_1_n_n none y w
/-- The product with its last 64 columns once more, halves exchanged. -/
def ext (h : FVec Ideal S5x8192x2880 .f32) : FVec Ideal S40960x2944 .f32 :=
  shapeCast _ ((concatenate S5x8192x2944 2 [⟨S5x8192x2880, (h : (⟨S5x8192x2880, .f32⟩ : BufTy).Contents (Elt Ideal))⟩, ⟨S5x8192x32, ((extractStridedSlice S5x8192x32 ![0, 0, 2848] h slices_S5x8192x2880_S5x8192x32_0_0_2848) : (⟨S5x8192x32, .f32⟩ : BufTy).Contents (Elt Ideal))⟩, ⟨S5x8192x32, ((extractStridedSlice S5x8192x32 ![0, 0, 2816] h slices_S5x8192x2880_S5x8192x32_0_0_2816) : (⟨S5x8192x32, .f32⟩ : BufTy).Contents (Elt Ideal))⟩] concatenates_S5x8192x2880_S5x8192x32_S5x8192x32_S5x8192x2944_d2 : (⟨S5x8192x2944, .f32⟩ : BufTy).Contents (Elt Ideal))) shapeCasts_S5x8192x2944_S40960x2944

theorem nrm_at (x : FVec Ideal S5x8192x2048 .f32) (g : FVec Ideal S2048 .f32) (s : Fin 5) (i : Fin 8192) (d : Fin 2048) :
    nrm x g (ix3 s i d) = unit (fun e => x (ix3 s i e)) (fun e => g (ix1 e)) d := by
  unfold nrm unit
  pointwise
theorem proj_at (y : FVec Ideal S5x8192x2048 .f32) (w : FVec Ideal S2048x2880 .f32) (s : Fin 5) (i : Fin 8192) (n : Fin 2880) :
    proj y w (ix3 s i n) = ∑ d : Fin 2048, (y (ix3 s i d) : EReal) * w (ix2 d n) := by
  unfold proj
  pointwise
theorem ext_at (h : FVec Ideal S5x8192x2880 .f32) (i : Fin 40960) (n : Fin 2944) :
    ext h (ix2 i n) = h (ix3 (seqOf i) (posOf i) (colOf n)) := by
  unfold ext seqOf posOf
  pointwise
  by_cases h1 : n.val < 2880
  · rw [dif_pos h1]
    exact congrArg (fun z => h (ix3 (seqOf i) (posOf i) z)) (Fin.ext (by simp [colOf, h1]))
  · rw [dif_neg h1]
    by_cases h2 : n.val < 2912
    · rw [dif_pos (by omega)]
      exact congrArg (fun z => h (ix3 (seqOf i) (posOf i) z)) (Fin.ext (by simp [colOf, h1, h2]; omega))
    · rw [dif_neg (by omega)]
      exact congrArg (fun z => h (ix3 (seqOf i) (posOf i) z)) (Fin.ext (by simp [colOf, h1, h2]; omega))

/-- The reference's expression. -/
def all (x : FVec Ideal S5x8192x2048 .f32) (g : FVec Ideal S2048 .f32) (w : FVec Ideal S2048x2880 .f32) : FVec Ideal S40960x2944 .f32 :=
  ext (proj (nrm x g) w)
/-- The reference's array: the same. -/
theorem all_eq (x : FVec Ideal S5x8192x2048 .f32) (g : FVec Ideal S2048 .f32) (w : FVec Ideal S2048x2880 .f32) : all x g w = (fun y : S40960x2944.Idx =>
    ∑ d : Fin 2048, unit (fun e => x (ix3 (seqOf (y 0)) (posOf (y 0)) e)) (fun e => g (ix1 e)) d * w (ix2 d (colOf (y 1)))) := by
  funext y
  obtain ⟨r, n, rfl⟩ : ∃ (r : Fin 40960) (n : Fin 2944), y = ix2 r n := ⟨y 0, y 1, by funext a; fin_cases a <;> rfl⟩
  rw [all, ext_at, proj_at]
  exact Finset.sum_congr rfl fun d _ => congrArg (fun z : EReal => z * w (ix2 d (colOf n))) (nrm_at x g _ _ d)

end Cert.InRef

namespace Cert.InCall

/-- The kernel ends, with its arguments kept and its semaphores at zero. -/
theorem frame_p : Cert.quiescent_InKernel := fun m g _ => Cert.InKernel.Gen.frame m g
/-- So does its ideal. -/
theorem frame_pi : Cert.quiescent_InKernelIdeal := fun m g _ => Cert.InKernelIdeal.Gen.frame m g
/-- So does the reference, which has no semaphore. -/
theorem frame_ri : Cert.quiescent_InReferenceIdeal := fun m g _ =>
  (θ_run Cert.InReferenceIdeal.defs _ _).mono (fun r hr => ⟨fun c => (hr c).2, sem_eq_zero_of_no_sems (by decide) r.2⟩)
    (Cert.InReferenceIdeal.Value.run m g)
/-- The kernel and the reference leave the same array. -/
theorem algebraic : Cert.algebraic_InKernelIdeal_InReferenceIdeal := by
  intro m g m' g' _ h
  refine ⟨fun c => Cert.InRef.all (m ((c.tc : Thread _ _).loc Cert.InKernelIdeal.main_arg0)) (m ((c.tc : Thread _ _).loc Cert.InKernelIdeal.main_arg1)) (m ((c.tc : Thread _ _).loc Cert.InKernelIdeal.main_arg2)), ?_, ?_⟩
  · refine (θ_run Cert.InKernelIdeal.defs _ _).mono (fun r hr c => ⟨(hr c).1.trans ?_, (hr c).2⟩) (Cert.InKernelIdeal.Value.run_blocks m g)
    exact (Cert.InKernelIdeal.Value.final m c).trans (Cert.InRef.all_eq _ _ _).symm
  · refine (θ_run Cert.InReferenceIdeal.defs _ _).mono (fun r hr c => ⟨(hr c).1.trans ?_, (hr c).2⟩) (Cert.InReferenceIdeal.Value.run m' g')
    have e := h c
    rw [e.1, e.2.1, e.2.2]
    rfl

end Cert.InCall
end
-- ==== Proof.NormCall.lean ====
/- The final norm: what the kernel's array holds, what the reference's holds, and that they are one array. -/
module

public import proofs.«01_k».proof.Defs
public import proofs.«01_k».proof.Proof.Gen.NormKernel.Frame
public import proofs.«01_k».proof.Proof.Gen.NormKernelIdeal.Frame
public import proofs.«01_k».proof.Proof.Gen.NormKernelIdeal.Value
public import proofs.«01_k».proof.Proof.Gen.NormReferenceIdeal.Run
public import proofs.«01_k».proof.Proof.Unit
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)
namespace Cert.NormKernelIdeal.Value
open Cert.NormKernelIdeal Cert.NormKernelIdeal.Gen Cert.Attn
variable (m : (ℓ : Loc nD τ sig) → Buf (Elt Ideal) ℓ)

/-- A row of what a grid point writes. -/
theorem pay_at (x : Vec Ideal S512x2048 .f32) (g : Vec Ideal S1x2048 .f32) (r : Fin 512) (d : Fin 2048) :
    k0_pay1 (F := Ideal) x g (ix2 r d) = unit (fun e => x (ix2 r e)) (fun e => g (ix2 (0 : Fin 1) e)) d := by
  unfold unit
  pointwise [k0_pay1]
/-- The blocks' places. -/
theorem idx : ∀ t : Fin cfg0.N, win0_0.index t = ![t.val, 0] ∧ win0_1.index t = ![0, 0] ∧ win0_2.index t = ![t.val, 0] :=
  (by decide +kernel : ∀ t : Fin grid0.N, _)

variable (c : Dev nD) (t : Fin cfg0.N)
/-- A block of rows, in the argument. -/
theorem xblk (r : Fin 512) (d : Fin 2048) (s : Fin 5) (i : Fin 8192) (hi : s.val * 8192 + i.val = t.val * 512 + r.val) :
    (iblk m c 0 t : FVec Ideal S512x2048 .f32) (ix2 r d) = (m ((c : Thread nD τ).loc main_arg0) : FVec Ideal S5x8192x2048 .f32) (ix3 s i d) := by
  have e : (iblk m c 0 t : FVec Ideal S512x2048 .f32) (ix2 r d) = (V m c main_v0 : FVec Ideal S40960x2048 .f32) (ix2 (⟨s.val * 8192 + i.val, by omega⟩ : Fin 40960) d) := by
    blk_ext [iblk, idx t]
  rw [e]
  entry_read
  pointwise
/-- The gains, in the argument. -/
theorem gblk (d : Fin 2048) : (iblk m c 1 t : FVec Ideal S1x2048 .f32) (ix2 (0 : Fin 1) d) = (m ((c : Thread nD τ).loc main_arg1) : FVec Ideal S2048 .f32) (ix1 d) := by
  have e : (iblk m c 1 t : FVec Ideal S1x2048 .f32) (ix2 (0 : Fin 1) d) = (V m c main_v1 : FVec Ideal S1x2048 .f32) (ix2 (0 : Fin 1) d) := by
    blk_ext [iblk, idx t]
  rw [e]
  entry_read
  pointwise

/-- The array the kernel leaves: each row over the root of its mean square, times the gains. -/
theorem final (c : Dev nD) : (dats m 0 c).arrAt 2 (cfgs 0).N = (fun y : S40960x2048.Idx =>
    unit (fun e => (m ((c : Thread nD τ).loc main_arg0) : FVec Ideal S5x8192x2048 .f32) (ix3 (seqOf (y 0)) (posOf (y 0)) e))
      (fun e => (m ((c : Thread nD τ).loc main_arg1) : FVec Ideal S2048 .f32) (ix1 e)) (y 1)) := by
  refine (dats m 0 c).arrAt_eq_of_covers 2 _ (by decide +kernel) fun t _ y => ?_
  blk_simp
  rw [after0_2]
  frame_out
  obtain ⟨r, d, rfl⟩ : ∃ (r : Fin 512) (d : Fin 2048), y = ix2 r d := ⟨y 0, y 1, by funext a; fin_cases a <;> rfl⟩
  refine (pay_at _ _ r d).trans ?_
  have ht : t.val < 80 := t.isLt
  have hd : (((cfg0.win 2).blk t).view.emb (ix2 r d) : S40960x2048.Idx) 1 = d := by
    apply Fin.ext; blk_simp [idx t]
  have h0 : (((cfg0.win 2).blk t).view.emb (ix2 r d) : S40960x2048.Idx) 0 = (⟨t.val * 512 + r.val, by omega⟩ : Fin 40960) := by
    apply Fin.ext; blk_simp [idx t]
  have e1 : (fun e : Fin 2048 => ((iblk m c 0 t : FVec Ideal S512x2048 .f32) (ix2 r e) : EReal)) = fun e => (m ((c : Thread nD τ).loc main_arg0) : FVec Ideal S5x8192x2048 .f32)
      (ix3 (seqOf ⟨t.val * 512 + r.val, by omega⟩) (posOf ⟨t.val * 512 + r.val, by omega⟩) e) :=
    funext fun e => xblk m c t r e _ _ (seq_pos _)
  have e2 : (fun e : Fin 2048 => ((iblk m c 1 t : FVec Ideal S1x2048 .f32) (ix2 (0 : Fin 1) e) : EReal)) = fun e => (m ((c : Thread nD τ).loc main_arg1) : FVec Ideal S2048 .f32) (ix1 e) :=
    funext fun e => gblk m c t e
  refine (congrArg₂ (fun a b => unit a b d) e1 e2).trans ?_
  exact congrArg₂ (fun (i : Fin 40960) (d : Fin 2048) => unit (fun e => (m ((c : Thread nD τ).loc main_arg0) : FVec Ideal S5x8192x2048 .f32) (ix3 (seqOf i) (posOf i) e))
    (fun e => (m ((c : Thread nD τ).loc main_arg1) : FVec Ideal S2048 .f32) (ix1 e)) d) h0.symm hd.symm

end Cert.NormKernelIdeal.Value

namespace Cert.NormRef
open Cert.NormReferenceIdeal Cert.NormReferenceIdeal.Gen Cert.Attn

/-- The reference's expression. -/
def all (x : FVec Ideal S5x8192x2048 .f32) (g : FVec Ideal S2048 .f32) : FVec Ideal S40960x2048 .f32 :=
  shapeCast _ (mulf (mulf x (broadcastInDim S5x8192x2048 ![0, 1, 2] bcast_S5x8192x1_S5x8192x2048_0_1_2 (Host.rsqrt (addf (Host.divf (broadcastInDim S5x8192x1 ![0, 1] bcast_S5x8192_S5x8192x1_0_1 (Host.reduceAdd (mulf x x) (constant S_ .f32 0x00000000#32) reducesTo_S5x8192x2048_S5x8192_d2 h_S_)) (broadcastInDim S5x8192x1 ![] bcast_S_S5x8192x1 (constant S_ .f32 0x45000000#32))) (broadcastInDim S5x8192x1 ![] bcast_S_S5x8192x1 (constant S_ .f32 0x358637BD#32)))))) (broadcastInDim S5x8192x2048 ![0, 1, 2] bcast_S1x1x2048_S5x8192x2048_0_1_2 (broadcastInDim S1x1x2048 ![2] bcast_S2048_S1x1x2048_2 g))) shapeCasts_S5x8192x2048_S40960x2048

/-- The reference's array: the same. -/
theorem all_eq (x : FVec Ideal S5x8192x2048 .f32) (g : FVec Ideal S2048 .f32) : all x g = (fun y : S40960x2048.Idx =>
    unit (fun e => x (ix3 (seqOf (y 0)) (posOf (y 0)) e))
      (fun e => g (ix1 e)) (y 1)) := by
  funext y
  obtain ⟨r, d, rfl⟩ : ∃ (r : Fin 40960) (d : Fin 2048), y = ix2 r d := ⟨y 0, y 1, by funext a; fin_cases a <;> rfl⟩
  unfold all unit seqOf posOf
  pointwise

end Cert.NormRef

namespace Cert.NormCall

/-- The kernel ends, with its arguments kept and its semaphores at zero. -/
theorem frame_p : Cert.quiescent_NormKernel := fun m g _ => Cert.NormKernel.Gen.frame m g
/-- So does its ideal. -/
theorem frame_pi : Cert.quiescent_NormKernelIdeal := fun m g _ => Cert.NormKernelIdeal.Gen.frame m g
/-- So does the reference, which has no semaphore. -/
theorem frame_ri : Cert.quiescent_NormReferenceIdeal := fun m g _ =>
  (θ_run Cert.NormReferenceIdeal.defs _ _).mono (fun r hr => ⟨fun c => (hr c).2, sem_eq_zero_of_no_sems (by decide) r.2⟩)
    (Cert.NormReferenceIdeal.Value.run m g)
/-- The kernel and the reference leave the same array. -/
theorem algebraic : Cert.algebraic_NormKernelIdeal_NormReferenceIdeal := by
  intro m g m' g' _ h
  refine ⟨fun c => Cert.NormRef.all (m ((c.tc : Thread _ _).loc Cert.NormKernelIdeal.main_arg0)) (m ((c.tc : Thread _ _).loc Cert.NormKernelIdeal.main_arg1)), ?_, ?_⟩
  · refine (θ_run Cert.NormKernelIdeal.defs _ _).mono (fun r hr c => ⟨(hr c).1.trans ?_, (hr c).2⟩) (Cert.NormKernelIdeal.Value.run_blocks m g)
    exact (Cert.NormKernelIdeal.Value.final m c).trans (Cert.NormRef.all_eq _ _).symm
  · refine (θ_run Cert.NormReferenceIdeal.defs _ _).mono (fun r hr c => ⟨(hr c).1.trans ?_, (hr c).2⟩) (Cert.NormReferenceIdeal.Value.run m' g')
    have e := h c
    rw [e.1, e.2]
    rfl

end Cert.NormCall
end
-- ==== Proof.Relay.lean ====
/- A block of 256 rows of 2048 entries stored as 4096 rows of 128: row `r` of the block becomes rows `16 r` to
   `16 r + 15`. The kernel stores it strip by strip, strip `j` (columns `128 j` to `128 j + 127`) at the rows
   `j, j + 16, j + 32, …`; the sixteen stores together leave `lin`. -/
module

public import Idealize.ShloMosaic.Lib.Pipeline.ValueKit
public import Idealize.ShloMosaic.Lib.Pipeline.FrameBody
public import Idealize.ShloMosaic.Lib.Pipeline.ReadBack
public import Idealize.ShloMosaic.Lib.Pointwise

@[expose] public section

noncomputable section

namespace Cert.Relay

open Idealize.ShloMosaic Idealize.SL.Sem

/-- The block, one strip of it, and the block as rows of 128. -/
abbrev Wide : Shape := ⟨2, ![256, 2048]⟩
abbrev Strip : Shape := ⟨2, ![256, 128]⟩
abbrev Lin : Shape := ⟨2, ![4096, 128]⟩

variable {F : FTy → Type} [FloatOps F]

/-- The block as rows of 128: row `y` is strip `y mod 16` of row `y / 16`. -/
def lin (v : FVec F Wide .f32) : FVec F Lin .f32 := fun y =>
  v (ix2 ⟨(y 0).val / 16, by have h : (y 0).val < 4096 := (y 0).isLt; show _ < 256; omega⟩
    ⟨128 * ((y 0).val % 16) + (y 1).val, by have h : (y 1).val < 128 := (y 1).isLt; show _ < 2048; omega⟩)

/-- The rows strip `j` goes to. -/
def rows (j : Fin 16) : Rect Lin :=
  ⟨⟨![j.val, 0], Strip.size, ![16, 1], fun a => Or.inr (match a with
    | ⟨0, _⟩ => by have h := j.isLt; show j.val + 16 * (256 - 1) < 4096; omega
    | ⟨1, _⟩ => by show 0 + 1 * (128 - 1) < 128; omega)⟩,
    fun a => match a with
    | ⟨0, _⟩ => by show 0 < 16; omega
    | ⟨1, _⟩ => by show 0 < 1; omega⟩

theorem sliceOk (j : Fin 16) : Wide.Slices ![0, 128 * j.val] Strip :=
  ⟨rfl, fun a => match a with
    | ⟨0, _⟩ => by show 0 + 256 ≤ 256; omega
    | ⟨1, _⟩ => by have h := j.isLt; show 128 * j.val + 128 ≤ 2048; omega⟩

/-- The store of strip `j`. -/
def strip (v : FVec F Wide .f32) (j : Fin 16) : View.Piece (Elt F) Lin .f32 :=
  ⟨rows j, extractStridedSlice Strip ![0, 128 * j.val] v (sliceOk j)⟩

/-- The sixteen stores, the last first. -/
def strips (v : FVec F Wide .f32) : List (View.Piece (Elt F) Lin .f32) :=
  [strip v 15, strip v 14, strip v 13, strip v 12, strip v 11, strip v 10, strip v 9, strip v 8,
    strip v 7, strip v 6, strip v 5, strip v 4, strip v 3, strip v 2, strip v 1, strip v 0]

theorem strip_mem (v : FVec F Wide .f32) (j : Fin 16) : strip v j ∈ strips v := by
  unfold strips
  fin_cases j <;> simp

theorem mem_strips (v : FVec F Wide .f32) (p : View.Piece (Elt F) Lin .f32) (h : p ∈ strips v) : ∃ j, p = strip v j := by
  simp only [strips, List.mem_cons, List.not_mem_nil, or_false] at h
  rcases h with h | h | h | h | h | h | h | h | h | h | h | h | h | h | h | h <;> exact ⟨_, h⟩

/-- Every row is written by one of them, -/
theorem cover (v : FVec F Wide .f32) (y : Lin.Idx) : ∃ p ∈ strips v, y ∈ p.1.set := by
  have h0 : (y 0).val < 4096 := (y 0).isLt
  have h1 : (y 1).val < 128 := (y 1).isLt
  refine ⟨strip v ⟨(y 0).val % 16, by omega⟩, strip_mem v _, ?_⟩
  refine (LoadRect.mem_set _).mpr fun a => ?_
  match a with
  | ⟨0, _⟩ => exact ⟨(y 0).val / 16, by show _ < 256; omega, by
      show (y 0).val = (y 0).val % 16 + 16 * ((y 0).val / 16); omega⟩
  | ⟨1, _⟩ => exact ⟨(y 1).val, h1, by show (y 1).val = 0 + 1 * (y 1).val; omega⟩

/-- each as `lin` says. -/
theorem strip_lin (v : FVec F Wide .f32) (j : Fin 16) (x : (strip v j).1.shape.Idx) :
    (strip v j).2 x = lin v ((strip v j).1.emb x) := by
  have h0 : (x 0).val < 256 := (x 0).isLt
  have h1 : (x 1).val < 128 := (x 1).isLt
  have hj := j.isLt
  refine congrArg v (funext fun a => Fin.ext ?_)
  match a with
  | ⟨0, _⟩ =>
    show 0 + (x 0).val = (j.val + 16 * (x 0).val) / 16
    omega
  | ⟨1, _⟩ =>
    show 128 * j.val + (x 1).val = 128 * ((j.val + 16 * (x 0).val) % 16) + (0 + 1 * (x 1).val)
    omega

/-- So the sixteen stores leave `lin`. -/
theorem canon_strips (v : FVec F Wide .f32) : View.canon (strips v) = lin v :=
  funext fun y => View.canon_apply_of_pieces (lin v) (strips v) (fun p hp x => by
    obtain ⟨j, rfl⟩ := mem_strips v p hp
    exact strip_lin v j x) y (cover v y)

end Cert.Relay

end
-- ==== Proof.MixIdealRun.lean ====
/- The call that projects the scans and the attention, adds the layer's input, norms and scores the sum, over the extended reals: what the
   body leaves in its three output blocks, and the run of the program. The body stores the sum and its norm in strips
   of 128 columns, so its triple is stated here (`Relay.lean` gives what sixteen such stores leave). -/
module

public import proofs.«01_k».proof.Proof.Relay
public import proofs.«01_k».proof.Proof.Gen.MixKernelIdeal.Skeleton
public import proofs.«01_k».proof.Proof.Gen.MixKernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.MixKernelIdeal.Body

open Cert.MixKernelIdeal Cert.MixKernelIdeal.Gen Cert.Relay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The block's rows of the sum: the layer's input plus the gated scans and the attention times their halves of the
    weights. -/
def mixed (x0 : Vec F S256x1024 .f32) (x1 : Vec F S256x1024 .f32) (x2 : Vec F S256x1024 .f32) (x3 : Vec F S256x1024 .bf16) (x4 : Vec F S256x2048 .f32) (x5 : Vec F S2048x2048 .bf16) : FVec F S256x2048 .f32 :=
  k0_pay2 (View.ld x2 (Rect.unit ![0, 0] S256x1024.size inb_S256x1024_S256x1024_0_0))
    (View.ld x0 (Rect.unit ![0, 0] S256x1024.size inb_S256x1024_S256x1024_0_0))
    (View.ld x1 (Rect.unit ![0, 0] S256x1024.size inb_S256x1024_S256x1024_0_0))
    (View.ld x4 (Rect.unit ![0, 0] S256x2048.size inb_S256x2048_S256x2048_0_0))
    (View.ld x5 (Rect.unit ![0, 0] S1024x2048.size inb_S2048x2048_S1024x2048_0_0))
    (View.ld x3 (Rect.unit ![0, 0] S256x1024.size inb_S256x1024_S256x1024_0_0))
    (View.ld x5 (Rect.unit ![1024, 0] S1024x2048.size inb_S2048x2048_S1024x2048_1024_0))

/-- The sums of the rows' squares. -/
def squares (x0 : Vec F S256x1024 .f32) (x1 : Vec F S256x1024 .f32) (x2 : Vec F S256x1024 .f32) (x3 : Vec F S256x1024 .bf16) (x4 : Vec F S256x2048 .f32) (x5 : Vec F S2048x2048 .bf16) : FVec F S256x1 .f32 :=
  k0_pay3 (View.ld x2 (Rect.unit ![0, 0] S256x1024.size inb_S256x1024_S256x1024_0_0))
    (View.ld x0 (Rect.unit ![0, 0] S256x1024.size inb_S256x1024_S256x1024_0_0))
    (View.ld x1 (Rect.unit ![0, 0] S256x1024.size inb_S256x1024_S256x1024_0_0))
    (View.ld x4 (Rect.unit ![0, 0] S256x2048.size inb_S256x2048_S256x2048_0_0))
    (View.ld x5 (Rect.unit ![0, 0] S1024x2048.size inb_S2048x2048_S1024x2048_0_0))
    (View.ld x3 (Rect.unit ![0, 0] S256x1024.size inb_S256x1024_S256x1024_0_0))
    (View.ld x5 (Rect.unit ![1024, 0] S1024x2048.size inb_S2048x2048_S1024x2048_1024_0))

/-- The normed rows. -/
def normed (x0 : Vec F S256x1024 .f32) (x1 : Vec F S256x1024 .f32) (x2 : Vec F S256x1024 .f32) (x3 : Vec F S256x1024 .bf16) (x4 : Vec F S256x2048 .f32) (x5 : Vec F S2048x2048 .bf16) (x6 : Vec F S1x2048 .f32) : FVec F S256x2048 .f32 :=
  k0_pay5 (mixed x0 x1 x2 x3 x4 x5) (squares x0 x1 x2 x3 x4 x5) k0_pay4
    (View.ld x6 (Rect.unit ![0, 0] S1x2048.size inb_S1x2048_S1x2048_0_0))

/-- The rows' scores, one expert a row. -/
def logits (x0 : Vec F S256x1024 .f32) (x1 : Vec F S256x1024 .f32) (x2 : Vec F S256x1024 .f32) (x3 : Vec F S256x1024 .bf16) (x4 : Vec F S256x2048 .f32) (x5 : Vec F S2048x2048 .bf16) (x6 : Vec F S1x2048 .f32) (x7 : Vec F S2048x256 .bf16) : FVec F S16x256 .f32 :=
  k0_pay1 (k0_pay38 (View.ld x7 (Rect.unit ![0, 0] S2048x256.size inb_S2048x256_S2048x256_0_0)))
    (k0_pay39 (normed x0 x1 x2 x3 x4 x5 x6)) (k0_pay40 (normed x0 x1 x2 x3 x4 x5 x6))

set_option maxHeartbeats 4000000 in
/-- The body, from its input blocks at any contents and its output blocks at anything, ends with the inputs as they
    were and the outputs at the sum and its norm as rows of 128 and at the scores. -/
theorem body_triple (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S256x2048 .f32) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S2048x256 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S16x256 .f32) (harg11 : arg11.IsWhole)
    (x0 : Vec F S256x1024 .f32) (x1 : Vec F S256x1024 .f32) (x2 : Vec F S256x1024 .f32) (x3 : Vec F S256x1024 .bf16) (x4 : Vec F S256x2048 .f32) (x5 : Vec F S2048x2048 .bf16) (x6 : Vec F S1x2048 .f32) (x7 : Vec F S2048x256 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (lin (mixed x0 x1 x2 x3 x4 x5)) ∗ owns (c : Thread nD τ) arg10 fullShare (lin (normed x0 x1 x2 x3 x4 x5 x6)) ∗ owns (c : Thread nD τ) arg11 fullShare (logits x0 x1 x2 x3 x4 x5 x6 x7)) -∗ K ⟨⟩))
      ⊢ wp frame (wpE (defs₀ (F := F)) Variants.none c none) E (cc0_mix_out i arg1 harg1 arg2 harg2 arg3 harg3 arg4 harg4 arg5 harg5 arg6 harg6 arg7 harg7 arg8 harg8 arg9 harg9 arg10 harg10 arg11 harg11) K := by
  simp only [cc0_mix_out_eq_skeleton, k0_part1_eq_skeleton, k0_part2_eq_skeleton, k0_part3_eq_skeleton, k0_part4_eq_skeleton]
  unfold cc0_mix_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact (View.read_writes_eq_canon _ _ (strips (mixed _ _ _ _ _ _)) (cover _)).trans (canon_strips _)
  isplitl [H9]
  · iexists _; isplitr
    swap; · iexact H9
    ipureintro
    exact (View.read_writes_eq_canon _ _ (strips (normed _ _ _ _ _ _ _)) (cover _)).trans (canon_strips _)
  iexists _; isplitr
  swap; · iexact H10
  ipureintro
  exact (View.read_writes_eq_canon _ _
      ([⟨Rect.unit ![0, 0] S16x256.size inb_S16x256_S16x256_0_0, logits (F := F) _ _ _ _ _ _ _ _⟩] : List (View.Piece (Elt F) S16x256 .f32))
      fun y => ⟨_, List.mem_singleton_self _, View.mem_set_unit_zero (by decide) inb_S16x256_S16x256_0_0 y⟩).trans
    (View.canon_unit_zero (by decide) inb_S16x256_S16x256_0_0 _)

variable (m : (ℓ : Loc nD τ sig) → Buf (Elt F) ℓ) (ρ : Dev nD → PrngReg)

/-- What the pipeline finds and leaves: every array as the region finds it, after the body at a point each input's
    block in place and each output's at the body's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => lin (mixed (iblk m c 0 t) (iblk m c 1 t) (X0_2 m c t) (iblk m c 3 t) (iblk m c 4 t) (iblk m c 5 t))
    | ⟨9, _⟩ => lin (normed (iblk m c 0 t) (iblk m c 1 t) (X0_2 m c t) (iblk m c 3 t) (iblk m c 4 t) (iblk m c 5 t) (iblk m c 6 t))
    | ⟨10, _⟩ => logits (iblk m c 0 t) (iblk m c 1 t) (X0_2 m c t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = lin (mixed (iblk m c 0 t) (iblk m c 1 t) (X0_2 m c t) (iblk m c 3 t) (iblk m c 4 t) (iblk m c 5 t)) := by dsimp only [dats]
theorem after9 (c : Dev nD) (t : Fin cfg0.N) : (dats m 0 c).after 9 t = lin (normed (iblk m c 0 t) (iblk m c 1 t) (X0_2 m c t) (iblk m c 3 t) (iblk m c 4 t) (iblk m c 5 t) (iblk m c 6 t)) := by dsimp only [dats]
theorem after10 (c : Dev nD) (t : Fin cfg0.N) : (dats m 0 c).after 10 t = logits (iblk m c 0 t) (iblk m c 1 t) (X0_2 m c t) (iblk m c 3 t) (iblk m c 4 t) (iblk m c 5 t) (iblk m c 6 t) (iblk m c 7 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- The body at a point, from the blocks there. -/
theorem at_point (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
      ⊢ wp frame (wpE (defs₀ (F := F)) Variants.none c none) Set.univ (bodyAt0 t) (fun _ =>
        iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t)
        ∗ owns (c : Thread nD τ) (st0_8 t) fullShare ((dats m 0 c).after 8 t)
        ∗ owns (c : Thread nD τ) (st0_9 t) fullShare ((dats m 0 c).after 9 t)
        ∗ owns (c : Thread nD τ) (st0_10 t) fullShare ((dats m 0 c).after 10 t))) := by
  unfold bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl, after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ (grid0.coords t) _ _ _ _ _ _ _ _ _ _ _ _ _ _ _ _ _ _ _ _ _ _ (iblk m c 0 t) (iblk m c 1 t) (X0_2 m c t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row_eq (t : Fin cfg0.N) : defs₀ (F := F) .tc cfg0.body (cfg0.bodyArgs t (cfg0.slots t)) = bodyAt0 t := by
  unfold defs₀; rw [Defs.onTc_tc]

/-- Which is what the pipeline asks of the body at every point. -/
theorem obligation (c : Dev nD) : BodyObligation (dats (F := F) m 0 c) (defs₀ (F := F)) Variants.none () Set.univ := fun t => by
  rw [bigSep_W0, bigSep_W0, row_eq]
  exact triple_restated (at_point m c t) rfl .rfl fun _ => .rfl

set_option backward.isDefEq.respectTransparency.types false in
set_option maxHeartbeats 800000 in
/-- The run: the arrays end at what the proof data says, every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

end Cert.MixKernelIdeal.Body

end
-- ==== Proof.MixMath.lean ====
/- The mathematics of the call that mixes the scans with the attention: one row of the sum, its norm and its scores; and
   that with real gains every norm is real. -/
module

public import proofs.«01_k».proof.Proof.Unit
public import proofs.«01_k».proof.Proof.Row

@[expose] public section
noncomputable section
open Idealize.ShloMosaic
namespace Cert.Mix
open Cert.Attn

/-- The gate: half of the number times one more than the hyperbolic tangent of a cubic of it. -/
def gate (y : EReal) : EReal :=
  Ideal.ofBits FTy.f32 0x3F000000#32 * y * (Ideal.ofBits FTy.f32 0x3F800000#32
    + Ideal.tanh (Ideal.ofBits FTy.f32 0x3F4C422A#32 * (y + Ideal.ofBits FTy.f32 0x3D372713#32 * (y * y * y))))
/-- The same with the number in front. -/
theorem gate_front (y : EReal) : y * (Ideal.ofBits FTy.f32 0x3F000000#32 * (Ideal.ofBits FTy.f32 0x3F800000#32
    + Ideal.tanh (Ideal.ofBits FTy.f32 0x3F4C422A#32 * (y + Ideal.ofBits FTy.f32 0x3D372713#32 * (y * y * y))))) = gate y := by
  unfold gate
  rw [← mul_assoc, mul_comm y]

/-- A weight row of the scans. -/
def low (k : Fin 1024) : Fin 2048 := ⟨k.val, by omega⟩
/-- A weight row of the attention. -/
def high (k : Fin 1024) : Fin 2048 := ⟨1024 + k.val, by omega⟩
/-- One entry of a row of the sum. -/
def row (x : Fin 2048 → EReal) (s a : Fin 1024 → EReal) (w : Fin 2048 → Fin 2048 → EReal) (d : Fin 2048) : EReal :=
  x d + (∑ k : Fin 1024, s k * w (low k) d + ∑ k : Fin 1024, a k * w (high k) d)
/-- One score. -/
def score (u : Fin 2048 → EReal) (r : Fin 2048 → Fin 16 → EReal) (e : Fin 16) : EReal := ∑ d : Fin 2048, u d * r d e

/-- A sum over 2048 in its halves. -/
theorem sum_halves (f : Fin 2048 → EReal) : ∑ k : Fin 2048, f k = ∑ k : Fin 1024, f (low k) + ∑ k : Fin 1024, f (high k) :=
  Fin.sum_univ_add (a := 1024) (b := 1024) f

/-- A real number. -/
def IsReal (x : EReal) : Prop := ∃ r : ℝ, x = (r : EReal)
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub_self {x : EReal} (hx : IsReal x) : x - x = 0 := by
  obtain ⟨a, rfl⟩ := hx
  rw [← EReal.coe_sub, _root_.sub_self, EReal.coe_zero]
theorem len : Ideal.ofBits FTy.f32 0x45000000#32 = ((2048 : ℝ) : EReal) := by
  simp [Ideal.ofBits, Ideal.ieee]; rw [← EReal.coe_mul]; norm_num
theorem eps : ∃ r : ℝ, 0 < r ∧ Ideal.ofBits FTy.f32 0x358637BD#32 = (r : EReal) := by
  refine ⟨8796093 / 2 ^ 43, by positivity, ?_⟩
  simp [Ideal.ofBits, Ideal.ieee]; rw [← EReal.coe_mul]; norm_num

/-- A number times itself is not negative. -/
theorem self_nonneg (x : EReal) : 0 ≤ x * x := by
  induction x with
  | bot => simp
  | top => simp
  | coe r => rw [← EReal.coe_mul]; exact EReal.coe_nonneg.2 (mul_self_nonneg r)
/-- A number that isn't real is infinite when multiplied by itself. -/
theorem self_top {x : EReal} (h : ¬ IsReal x) : x * x = ⊤ := by
  induction x with
  | bot => simp
  | top => simp
  | coe r => exact absurd ⟨r, rfl⟩ h
/-- A row's norm is real where the gains are. Of a row of real numbers the mean square and the small constant are together
    positive; a row with another entry has an infinite mean square, so its norm is zero. -/
theorem unit_real {x g : Fin 2048 → EReal} (hg : ∀ d, IsReal (g d)) (d : Fin 2048) : IsReal (unit x g d) := by
  refine IsReal.mul ?_ (hg d)
  obtain ⟨ε, hε, he⟩ := eps
  by_cases hx : ∀ d, IsReal (x d)
  · refine (hx d).mul ?_
    choose f hf using hx
    have e : ∑ k : Fin 2048, x k * x k = ((∑ k : Fin 2048, f k * f k : ℝ) : EReal) := by
      rw [coe_sum]
      exact Finset.sum_congr rfl fun k _ => by rw [hf k, EReal.coe_mul]
    have hp : 0 < (∑ k : Fin 2048, f k * f k) / 2048 + ε := by
      have : 0 ≤ ∑ k : Fin 2048, f k * f k := Finset.sum_nonneg fun k _ => mul_self_nonneg _
      positivity
    rw [e, len, div_real _ _ (by norm_num), he, ← EReal.coe_add, Ideal.rsqrt_coe, if_neg (not_lt.2 hp.le), if_neg hp.ne']
    exact ⟨_, rfl⟩
  · obtain ⟨j, hj⟩ := not_forall.1 hx
    have e : ∑ k : Fin 2048, x k * x k = ⊤ :=
      top_le_iff.1 ((self_top hj).ge.trans (Finset.single_le_sum (f := fun k => x k * x k) (fun k _ => self_nonneg (x k)) (Finset.mem_univ j)))
    have t : Ideal.div ⊤ ((2048 : ℝ) : EReal) = ⊤ := by
      rw [Ideal.div, if_neg (by simp), ← EReal.coe_inv, EReal.top_mul_coe_of_pos (by norm_num)]
    rw [e, len, t, he, EReal.top_add_coe, Ideal.rsqrt_top, mul_zero]
    exact ⟨0, rfl⟩
/-- The scores from the two parts of the weights and of the norm: over real numbers the second parts are zero. -/
theorem score_parts {u : Fin 2048 → EReal} {r : Fin 2048 → Fin 16 → EReal} (hu : ∀ d, IsReal (u d)) (hr : ∀ d e, IsReal (r d e)) (e : Fin 16) :
    ∑ d : Fin 2048, u d * r d e + ∑ d : Fin 2048, u d * (r d e - r d e) + ∑ d : Fin 2048, (u d - u d) * r d e = score u r e := by
  have h1 : ∑ d : Fin 2048, u d * (r d e - r d e) = 0 := Finset.sum_eq_zero fun d _ => by rw [(hr d e).sub_self, mul_zero]
  have h2 : ∑ d : Fin 2048, (u d - u d) * r d e = 0 := Finset.sum_eq_zero fun d _ => by rw [(hu d).sub_self, zero_mul]
  rw [h1, h2, add_zero, add_zero]
  rfl

/-! ## The arrays -/

section Arrays
variable (hf hb : FVec Ideal ⟨3, ![5, 8192, 1024]⟩ .f32) (h : FVec Ideal ⟨2, ![40960, 2944]⟩ .f32) (att : FVec Ideal ⟨3, ![5, 8192, 1024]⟩ .bf16)
  (x : FVec Ideal ⟨3, ![5, 8192, 2048]⟩ .f32) (w : FVec Ideal ⟨2, ![2048, 2048]⟩ .f32) (g : FVec Ideal ⟨1, ![2048]⟩ .f32) (r : FVec Ideal ⟨2, ![2048, 16]⟩ .f32)

/-- A row of the sum, of the arguments. -/
def mixRow (i : Fin 40960) : Fin 2048 → EReal :=
  row (fun e => x (ix3 (seqOf i) (posOf i) e))
    (fun k => ((hf (ix3 (seqOf i) (posOf i) k) : EReal) + hb (ix3 (seqOf i) (posOf i) k)) * gate (h (ix2 i (⟨1024 + k.val, by omega⟩ : Fin 2944))))
    (fun k => att (ix3 (seqOf i) (posOf i) k)) (fun k e => w (ix2 k e))
/-- The norm of a row. -/
def normRow (i : Fin 40960) : Fin 2048 → EReal := unit (mixRow hf hb h att x w i) (fun e => g (ix1 e))
/-- The place in a row of 2048 of an entry of its sixteen rows of 128. -/
def place (p : Fin 655360) (q : Fin 128) : Fin 2048 := ⟨128 * (p.val % 16) + q.val, by omega⟩
/-- The row. -/
def rowOf (p : Fin 655360) : Fin 40960 := ⟨p.val / 16, by omega⟩
/-- The sum's array, in rows of 128. -/
def sums : FVec Ideal ⟨2, ![655360, 128]⟩ .f32 := fun y => mixRow hf hb h att x w (rowOf (y 0)) (place (y 0) (y 1))
/-- The norm's array, in rows of 128. -/
def norms : FVec Ideal ⟨2, ![655360, 128]⟩ .f32 := fun y => normRow hf hb h att x w g (rowOf (y 0)) (place (y 0) (y 1))
/-- The scores' array, an expert a row. -/
def scores : FVec Ideal ⟨2, ![16, 40960]⟩ .f32 := fun y => score (normRow hf hb h att x w g (y 1)) (fun d e => r (ix2 d e)) (y 0)

/-- With real gains a norm is real. -/
theorem normRow_real (h6 : ∀ y, IsReal (g y)) (i : Fin 40960) (d : Fin 2048) : IsReal (normRow hf hb h att x w g i d) :=
  unit_real (fun _ => h6 _) d
end Arrays

end Cert.Mix
end
-- ==== Proof.MixBlocks.lean ====
/- The mixing call over the extended reals: what the body writes at a grid point, entry by entry, and where its input
   blocks lie in the arguments. -/
module

public import proofs.«01_k».proof.Defs
public import proofs.«01_k».proof.Proof.MixIdealRun
public import proofs.«01_k».proof.Proof.MixMath
public import Idealize.ShloMosaic.Lib.Pointwise
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.MixKernelIdeal.Body
open Cert.MixKernelIdeal Cert.MixKernelIdeal.Gen Cert.Attn Cert.Mix

/-! ## The body -/

section Point
variable (x0 x1 x2 : Vec Ideal S256x1024 .f32) (x3 : Vec Ideal S256x1024 .bf16) (x4 : Vec Ideal S256x2048 .f32) (x5 : Vec Ideal S2048x2048 .bf16)
  (x6 : Vec Ideal S1x2048 .f32) (x7 : Vec Ideal S2048x256 .bf16)

/-- The sum's payload. -/
theorem pay2_at (v0 v14 v16 : Vec Ideal S256x1024 .f32) (v21 : Vec Ideal S256x2048 .f32) (v23 : Vec Ideal S1024x2048 .bf16) (v27 : Vec Ideal S256x1024 .bf16)
    (v29 : Vec Ideal S1024x2048 .bf16) (r : Fin 256) (d : Fin 2048) :
    (k0_pay2 (F := Ideal) v0 v14 v16 v21 v23 v27 v29 (ix2 r d) : EReal)
      = v21 (ix2 r d) + (∑ k : Fin 1024, ((v14 (ix2 r k) : EReal) + v16 (ix2 r k)) * gate (v0 (ix2 r k)) * v23 (ix2 k d)
        + ∑ k : Fin 1024, (v27 (ix2 r k) : EReal) * v29 (ix2 k d)) := by
  rw [← add_assoc]
  unfold gate
  pointwise [k0_pay2]
/-- One entry of the sum. -/
theorem mixed_at (r : Fin 256) (d : Fin 2048) : (mixed (F := Ideal) x0 x1 x2 x3 x4 x5 (ix2 r d) : EReal)
    = row (fun e => x4 (ix2 r e)) (fun k => ((x0 (ix2 r k) : EReal) + x1 (ix2 r k)) * gate (x2 (ix2 r k))) (fun k => x3 (ix2 r k)) (fun k e => x5 (ix2 k e)) d := by
  have e1 : ∀ k : Fin 1024, View.ld x5 (Rect.unit ![0, 0] S1024x2048.size inb_S2048x2048_S1024x2048_0_0) (ix2 k d) = x5 (ix2 (low k) d) := fun k =>
    View.ld_unit_apply_of x5 _ _ _ _ _ fun a => by fin_cases a <;> simp [low, ix2]
  have e2 : ∀ k : Fin 1024, View.ld x5 (Rect.unit ![1024, 0] S1024x2048.size inb_S2048x2048_S1024x2048_1024_0) (ix2 k d) = x5 (ix2 (high k) d) := fun k =>
    View.ld_unit_apply_of x5 _ _ _ _ _ fun a => by fin_cases a <;> simp [high, ix2]
  have w4 : View.ld x4 (Rect.unit ![0, 0] S256x2048.size inb_S256x2048_S256x2048_0_0) = x4 := View.ld_unit_lit (S := S256x2048) _ _ (by decide)
  have w : ∀ (φ : EltTy) (x : Vec Ideal S256x1024 φ), View.ld x (Rect.unit ![0, 0] S256x1024.size inb_S256x1024_S256x1024_0_0) = x := fun _ _ => View.ld_unit_lit (S := S256x1024) _ _ (by decide)
  unfold mixed row
  rw [pay2_at, w4, w, w, w, w]
  simp only [e1, e2]
/-- The sum of a row's squares. -/
theorem squares_at (r : Fin 256) (z : Fin 1) : (squares (F := Ideal) x0 x1 x2 x3 x4 x5 (ix2 r z) : EReal)
    = ∑ e : Fin 2048, (mixed (F := Ideal) x0 x1 x2 x3 x4 x5 (ix2 r e) : EReal) * mixed (F := Ideal) x0 x1 x2 x3 x4 x5 (ix2 r e) := by
  unfold squares k0_pay3 mixed
  pointwise
/-- The norm's payload. -/
theorem pay5_at (v : FVec Ideal S256x2048 .f32) (q n : FVec Ideal S256x1 .f32) (g : Vec Ideal S1x2048 .f32) (r : Fin 256) (d : Fin 2048) :
    (k0_pay5 (F := Ideal) v q n g (ix2 r d) : EReal) = v (ix2 r d) * Ideal.rsqrt (Ideal.div (q (ix2 r (0 : Fin 1))) (n (ix2 r (0 : Fin 1))) + Ideal.ofBits FTy.f32 0x358637BD#32)
      * g (ix2 (0 : Fin 1) d) := by
  pointwise [k0_pay5]
theorem pay4_at (r : Fin 256) (z : Fin 1) : (k0_pay4 (F := Ideal) (ix2 r z) : EReal) = Ideal.ofBits FTy.f32 0x45000000#32 := by
  pointwise [k0_pay4]
/-- One entry of the norm. -/
theorem normed_at (r : Fin 256) (d : Fin 2048) : (normed (F := Ideal) x0 x1 x2 x3 x4 x5 x6 (ix2 r d) : EReal)
    = unit (fun e => mixed (F := Ideal) x0 x1 x2 x3 x4 x5 (ix2 r e)) (fun e => x6 (ix2 (0 : Fin 1) e)) d := by
  unfold normed unit
  rw [pay5_at, squares_at, pay4_at, View.ld_unit_lit inb_S1x2048_S1x2048_0_0 _ (by decide)]
/-- The scores' payload. -/
theorem pay1_at (w : FVec Ideal S2048x256 .bf16) (u : FVec Ideal S256x2048 .bf16) (v : FVec Ideal S256x2048 .f32) (e : Fin 16) (r : Fin 256) :
    (k0_pay1 (F := Ideal) w u v (ix2 e r) : EReal)
      = ∑ d : Fin 2048, (u (ix2 r d) : EReal) * w (ix2 d (⟨e.val, by omega⟩ : Fin 256)) + ∑ d : Fin 2048, (u (ix2 r d) : EReal) * w (ix2 d (⟨128 + e.val, by omega⟩ : Fin 256))
        + ∑ d : Fin 2048, (v (ix2 r d) : EReal) * w (ix2 d (⟨e.val, by omega⟩ : Fin 256)) := by
  pointwise [k0_pay1]
/-- One score. -/
theorem logits_at (e : Fin 16) (r : Fin 256) : (logits (F := Ideal) x0 x1 x2 x3 x4 x5 x6 x7 (ix2 e r) : EReal)
    = ∑ d : Fin 2048, (normed (F := Ideal) x0 x1 x2 x3 x4 x5 x6 (ix2 r d) : EReal) * x7 (ix2 d (⟨e.val, by omega⟩ : Fin 256))
      + ∑ d : Fin 2048, (normed (F := Ideal) x0 x1 x2 x3 x4 x5 x6 (ix2 r d) : EReal) * x7 (ix2 d (⟨128 + e.val, by omega⟩ : Fin 256))
      + ∑ d : Fin 2048, ((normed (F := Ideal) x0 x1 x2 x3 x4 x5 x6 (ix2 r d) : EReal) - normed (F := Ideal) x0 x1 x2 x3 x4 x5 x6 (ix2 r d)) * x7 (ix2 d (⟨e.val, by omega⟩ : Fin 256)) := by
  unfold logits
  rw [pay1_at]
  generalize normed (F := Ideal) x0 x1 x2 x3 x4 x5 x6 = u
  rw [View.ld_unit_lit inb_S2048x256_S2048x256_0_0 _ (by decide)]
  pointwise [k0_pay38, k0_pay39, k0_pay40]
end Point

/-! ## The blocks -/

variable (m : (ℓ : Loc nD τ sig) → Buf (Elt Ideal) ℓ)
/-- The blocks' places. -/
theorem idx : ∀ t : Fin cfg0.N, win0_0.index t = ![t.val, 0] ∧ win0_1.index t = ![t.val, 0] ∧ win0_2.index t = ![t.val, 1] ∧ win0_3.index t = ![t.val, 0]
    ∧ win0_4.index t = ![t.val, 0] ∧ win0_5.index t = ![0, 0] ∧ win0_6.index t = ![0, 0] ∧ win0_7.index t = ![0, 0]
    ∧ win0_8.index t = ![t.val, 0] ∧ win0_9.index t = ![t.val, 0] ∧ win0_10.index t = ![0, t.val] :=
  (by decide +kernel : ∀ t : Fin grid0.N, _)

variable (c : Dev nD) (t : Fin cfg0.N)
/-- A block of the forward scan, in the argument. -/
theorem blk0 (r : Fin 256) (k : Fin 1024) (s : Fin 5) (i : Fin 8192) (hi : s.val * 8192 + i.val = t.val * 256 + r.val) :
    (iblk m c 0 t : FVec Ideal S256x1024 .f32) (ix2 r k) = (m ((c : Thread nD τ).loc main_arg0) : FVec Ideal S5x8192x1024 .f32) (ix3 s i k) := by
  have e : (iblk m c 0 t : FVec Ideal S256x1024 .f32) (ix2 r k) = (V m c main_v7 : FVec Ideal S40960x1024 .f32) (ix2 (⟨s.val * 8192 + i.val, by omega⟩ : Fin 40960) k) := by
    blk_ext [iblk, idx t]
  rw [e]
  simp only [V, hostOps0, hostOps0_1, hostOps0_2, hostOps0_3, hostOps0_4, List.flatten_cons, List.flatten_nil, List.append_nil, List.cons_append, List.nil_append]
  entry_read
  pointwise
/-- A block of the backward scan. -/
theorem blk1 (r : Fin 256) (k : Fin 1024) (s : Fin 5) (i : Fin 8192) (hi : s.val * 8192 + i.val = t.val * 256 + r.val) :
    (iblk m c 1 t : FVec Ideal S256x1024 .f32) (ix2 r k) = (m ((c : Thread nD τ).loc main_arg1) : FVec Ideal S5x8192x1024 .f32) (ix3 s i k) := by
  have e : (iblk m c 1 t : FVec Ideal S256x1024 .f32) (ix2 r k) = (V m c main_v8 : FVec Ideal S40960x1024 .f32) (ix2 (⟨s.val * 8192 + i.val, by omega⟩ : Fin 40960) k) := by
    blk_ext [iblk, idx t]
  rw [e]
  simp only [V, hostOps0, hostOps0_1, hostOps0_2, hostOps0_3, hostOps0_4, List.flatten_cons, List.flatten_nil, List.append_nil, List.cons_append, List.nil_append]
  entry_read
  pointwise
/-- A block of the attention. -/
theorem blk3 (r : Fin 256) (k : Fin 1024) (s : Fin 5) (i : Fin 8192) (hi : s.val * 8192 + i.val = t.val * 256 + r.val) :
    (iblk m c 3 t : FVec Ideal S256x1024 .bf16) (ix2 r k) = (m ((c : Thread nD τ).loc main_arg3) : FVec Ideal S5x8192x1024 .bf16) (ix3 s i k) := by
  have e : (iblk m c 3 t : FVec Ideal S256x1024 .bf16) (ix2 r k) = (V m c main_v9 : FVec Ideal S40960x1024 .bf16) (ix2 (⟨s.val * 8192 + i.val, by omega⟩ : Fin 40960) k) := by
    blk_ext [iblk, idx t]
  rw [e]
  simp only [V, hostOps0, hostOps0_1, hostOps0_2, hostOps0_3, hostOps0_4, List.flatten_cons, List.flatten_nil, List.append_nil, List.cons_append, List.nil_append]
  entry_read
  pointwise
/-- A block of the layer's input. -/
theorem blk4 (r : Fin 256) (k : Fin 2048) (s : Fin 5) (i : Fin 8192) (hi : s.val * 8192 + i.val = t.val * 256 + r.val) :
    (iblk m c 4 t : FVec Ideal S256x2048 .f32) (ix2 r k) = (m ((c : Thread nD τ).loc main_arg4) : FVec Ideal S5x8192x2048 .f32) (ix3 s i k) := by
  have e : (iblk m c 4 t : FVec Ideal S256x2048 .f32) (ix2 r k) = (V m c main_v10 : FVec Ideal S40960x2048 .f32) (ix2 (⟨s.val * 8192 + i.val, by omega⟩ : Fin 40960) k) := by
    blk_ext [iblk, idx t]
  rw [e]
  simp only [V, hostOps0, hostOps0_1, hostOps0_2, hostOps0_3, hostOps0_4, List.flatten_cons, List.flatten_nil, List.append_nil, List.cons_append, List.nil_append]
  entry_read
  pointwise
/-- The weights. -/
theorem blk5 (k d : Fin 2048) : (iblk m c 5 t : FVec Ideal S2048x2048 .bf16) (ix2 k d) = (m ((c : Thread nD τ).loc main_arg5) : FVec Ideal S2048x2048 .f32) (ix2 k d) := by
  have e : (iblk m c 5 t : FVec Ideal S2048x2048 .bf16) (ix2 k d) = (V m c main_v11 : FVec Ideal S2048x2048 .bf16) (ix2 k d) := by
    blk_ext [iblk, idx t]
  rw [e]
  simp only [V, hostOps0, hostOps0_1, hostOps0_2, hostOps0_3, hostOps0_4, List.flatten_cons, List.flatten_nil, List.append_nil, List.cons_append, List.nil_append]
  entry_read
  pointwise
/-- The gains. -/
theorem blk6 (d : Fin 2048) : (iblk m c 6 t : FVec Ideal S1x2048 .f32) (ix2 (0 : Fin 1) d) = (m ((c : Thread nD τ).loc main_arg6) : FVec Ideal S2048 .f32) (ix1 d) := by
  have e : (iblk m c 6 t : FVec Ideal S1x2048 .f32) (ix2 (0 : Fin 1) d) = (V m c main_v12 : FVec Ideal S1x2048 .f32) (ix2 (0 : Fin 1) d) := by
    blk_ext [iblk, idx t]
  rw [e]
  simp only [V, hostOps0, hostOps0_1, hostOps0_2, hostOps0_3, hostOps0_4, List.flatten_cons, List.flatten_nil, List.append_nil, List.cons_append, List.nil_append]
  entry_read
  pointwise
/-- A padded column. -/
theorem pad_at (x : FVec Ideal S2048x16 .bf16) (z : FVec Ideal S_ .bf16) (d : Fin 2048) (e : Fin 16) (f : Fin 128) (hf : f.val = e.val) :
    pad S2048x128 ![0, 0] ![0, 112] ![0, 0] x z pads_S2048x16_S2048x128_000_01120 h_S_ (ix2 d f) = x (ix2 d e) := by
  pointwise
  rw [dif_pos (by omega)]
  exact congrArg (fun z => x (ix2 d z)) (Fin.ext hf)
/-- The scores' weights: their high parts in the first columns. -/
theorem blk7 (d : Fin 2048) (e : Fin 16) : (iblk m c 7 t : FVec Ideal S2048x256 .bf16) (ix2 d (⟨e.val, by omega⟩ : Fin 256))
    = (m ((c : Thread nD τ).loc main_arg7) : FVec Ideal S2048x16 .f32) (ix2 d e) := by
  have e' : (iblk m c 7 t : FVec Ideal S2048x256 .bf16) (ix2 d (⟨e.val, by omega⟩ : Fin 256)) = (V m c main_v6 : FVec Ideal S2048x256 .bf16) (ix2 d (⟨e.val, by omega⟩ : Fin 256)) := by
    blk_ext [iblk, idx t]
  rw [e']
  simp only [V, hostOps0, hostOps0_1, hostOps0_2, hostOps0_3, hostOps0_4, List.flatten_cons, List.flatten_nil, List.append_nil, List.cons_append, List.nil_append]
  entry_read
  pointwise
  exact (dif_pos (by have := e.isLt; omega)).trans (pad_at _ _ d e _ rfl)
/-- And what is left of them in the columns from 128 on. -/
theorem blk7' (w : FVec Ideal S2048x16 .f32) (hw : (m ((c : Thread nD τ).loc main_arg7) : FVec Ideal S2048x16 .f32) = w) (d : Fin 2048) (e : Fin 16) :
    ((iblk m c 7 t : FVec Ideal S2048x256 .bf16) (ix2 d (⟨128 + e.val, by omega⟩ : Fin 256)) : EReal) = (w (ix2 d e) : EReal) - w (ix2 d e) := by
  have e' : (iblk m c 7 t : FVec Ideal S2048x256 .bf16) (ix2 d (⟨128 + e.val, by omega⟩ : Fin 256)) = (V m c main_v6 : FVec Ideal S2048x256 .bf16) (ix2 d (⟨128 + e.val, by omega⟩ : Fin 256)) := by
    blk_ext [iblk, idx t]
  subst hw
  rw [e']
  simp only [V, hostOps0, hostOps0_1, hostOps0_2, hostOps0_3, hostOps0_4, List.flatten_cons, List.flatten_nil, List.append_nil, List.cons_append, List.nil_append]
  entry_read
  pointwise
  exact pad_at _ _ d e _ rfl
/-- A block of the gates. -/
theorem blk2 (r : Fin 256) (k : Fin 1024) (i : Fin 40960) (hi : i.val = t.val * 256 + r.val) :
    (X0_2 m c t : FVec Ideal S256x1024 .f32) (ix2 r k) = (m ((c : Thread nD τ).loc main_arg2) : FVec Ideal S40960x2944 .f32) (ix2 i (⟨1024 + k.val, by omega⟩ : Fin 2944)) := by
  unfold X0_2 Pipeline.Window.fill
  rw [dif_pos (moved0_2 t _), ← V_main_arg2 m c]
  blk_ext [iblk, idx t]

end Cert.MixKernelIdeal.Body
end
-- ==== Proof.MixFinal.lean ====
/- The mixing call over the extended reals: the three arrays the kernel leaves. -/
module

public import proofs.«01_k».proof.Proof.MixBlocks

@[expose] public section
set_option maxRecDepth 16384
noncomputable section
open Idealize.ShloMosaic Idealize.ShloMosaic.TcCoe Idealize.SL.Sem
open Idealize.ShloMosaic.Pipeline (Dat)
namespace Cert.MixKernelIdeal.Body
open Cert.MixKernelIdeal Cert.MixKernelIdeal.Gen Cert.Attn Cert.Mix

variable (m : (ℓ : Loc nD τ sig) → Buf (Elt Ideal) ℓ) (c : Dev nD) (t : Fin cfg0.N)
/-- The row a block's row is. -/
def at_ (r : Fin 256) : Fin 40960 := ⟨t.val * 256 + r.val, by have : t.val < 160 := t.isLt; omega⟩

/-- The row of the sum that the argument arrays give. -/
abbrev rowAt (i : Fin 40960) : Fin 2048 → EReal :=
  mixRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) i
/-- Its norm. -/
abbrev normAt (i : Fin 40960) : Fin 2048 → EReal :=
  normRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) i

/-- A block's row of the sum, in the arguments. -/
theorem mixed_blk (r : Fin 256) (d : Fin 2048) :
    (mixed (F := Ideal) (iblk m c 0 t) (iblk m c 1 t) (X0_2 m c t) (iblk m c 3 t) (iblk m c 4 t) (iblk m c 5 t) (ix2 r d) : EReal) = rowAt m c (at_ t r) d := by
  rw [mixed_at]
  have e0 := fun k => blk0 m c t r k _ _ (seq_pos (at_ t r))
  have e1 := fun k => blk1 m c t r k _ _ (seq_pos (at_ t r))
  have e2 := fun k => blk2 m c t r k (at_ t r) rfl
  have e3 := fun k => blk3 m c t r k _ _ (seq_pos (at_ t r))
  have e4 := fun k => blk4 m c t r k _ _ (seq_pos (at_ t r))
  have e5 := fun k d => blk5 m c t k d
  unfold rowAt mixRow
  congr 1
  · exact funext fun k => e4 k
  · exact funext fun k => congrArg₂ (· * ·) (congrArg₂ (· + ·) (e0 k) (e1 k)) (congrArg gate (e2 k))
  · exact funext fun k => e3 k
  · exact funext fun k => funext fun d => e5 k d
/-- A block's row of the norm. -/
theorem normed_blk (r : Fin 256) (d : Fin 2048) :
    (normed (F := Ideal) (iblk m c 0 t) (iblk m c 1 t) (X0_2 m c t) (iblk m c 3 t) (iblk m c 4 t) (iblk m c 5 t) (iblk m c 6 t) (ix2 r d) : EReal) = normAt m c (at_ t r) d := by
  rw [normed_at]
  exact congrArg₂ (fun a b => unit a b d) (funext fun e => mixed_blk m c t r e) (funext fun e => blk6 m c t e)
/-- A block's scores, over real numbers. -/
theorem logits_blk (w : FVec Ideal S2048x16 .f32) (hw : (m ((c : Thread nD τ).loc main_arg7) : FVec Ideal S2048x16 .f32) = w) (hr : ∀ y, IsReal (w y))
    (hn : ∀ i d, IsReal (normAt m c i d)) (r : Fin 256) (e : Fin 16) :
    (logits (F := Ideal) (iblk m c 0 t) (iblk m c 1 t) (X0_2 m c t) (iblk m c 3 t) (iblk m c 4 t) (iblk m c 5 t) (iblk m c 6 t) (iblk m c 7 t) (ix2 e r) : EReal)
      = score (normAt m c (at_ t r)) (fun d e => w (ix2 d e)) e := by
  rw [logits_at]
  refine Eq.trans ?_ (score_parts (u := normAt m c (at_ t r)) (r := fun d e => w (ix2 d e)) (hn _) (fun _ _ => hr _) e)
  have n := fun d => normed_blk m c t r d
  have l := fun d => (blk7 m c t d e).trans (congrFun hw (ix2 d e))
  have h := fun d => blk7' m c t w hw d e
  refine congrArg₂ (· + ·) (congrArg₂ (· + ·) ?_ ?_) ?_
  · exact Finset.sum_congr rfl fun d _ => congrArg₂ (· * ·) (n d) (l d)
  · exact Finset.sum_congr rfl fun d _ => congrArg₂ (· * ·) (n d) (h d)
  · exact Finset.sum_congr rfl fun d _ => congrArg₂ (· * ·) (congrArg₂ (· - ·) (n d) (n d)) (l d)

/-- The sum's array. -/
theorem final8 : (dats m 0 c).arrAt 8 (cfgs 0).N = (sums (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) : FVec Ideal S655360x128 .f32) := by
  refine (dats m 0 c).arrAt_eq_of_covers 8 _ (by decide +kernel) fun t _ y => ?_
  blk_simp
  rw [after8]
  obtain ⟨p, q, rfl⟩ : ∃ (p : Fin 4096) (q : Fin 128), y = ix2 p q := ⟨y 0, y 1, by funext a; fin_cases a <;> rfl⟩
  have ht : t.val < 160 := t.isLt
  have h1 : (((cfg0.win 8).blk t).view.emb (ix2 p q) : S655360x128.Idx) 1 = q := by
    apply Fin.ext; blk_simp [idx t]
  have h0 : (((cfg0.win 8).blk t).view.emb (ix2 p q) : S655360x128.Idx) 0 = (⟨t.val * 4096 + p.val, by omega⟩ : Fin 655360) := by
    apply Fin.ext; blk_simp [idx t]
  refine (mixed_blk m c t ⟨p.val / 16, by omega⟩ ⟨128 * (p.val % 16) + q.val, by omega⟩).trans ?_
  refine Eq.trans ?_ (congrArg₂ (fun (p : Fin 655360) (q : Fin 128) => rowAt m c (rowOf p) (place p q)) h0.symm h1.symm)
  exact congrArg₂ (fun i d => rowAt m c i d) (Fin.ext (by simp only [at_, rowOf]; omega)) (Fin.ext (by simp only [place]; omega))
/-- The norm's array. -/
theorem final9 : (dats m 0 c).arrAt 9 (cfgs 0).N = (norms (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) : FVec Ideal S655360x128 .f32) := by
  refine (dats m 0 c).arrAt_eq_of_covers 9 _ (by decide +kernel) fun t _ y => ?_
  blk_simp
  rw [after9]
  obtain ⟨p, q, rfl⟩ : ∃ (p : Fin 4096) (q : Fin 128), y = ix2 p q := ⟨y 0, y 1, by funext a; fin_cases a <;> rfl⟩
  have ht : t.val < 160 := t.isLt
  have h1 : (((cfg0.win 9).blk t).view.emb (ix2 p q) : S655360x128.Idx) 1 = q := by
    apply Fin.ext; blk_simp [idx t]
  have h0 : (((cfg0.win 9).blk t).view.emb (ix2 p q) : S655360x128.Idx) 0 = (⟨t.val * 4096 + p.val, by omega⟩ : Fin 655360) := by
    apply Fin.ext; blk_simp [idx t]
  refine (normed_blk m c t ⟨p.val / 16, by omega⟩ ⟨128 * (p.val % 16) + q.val, by omega⟩).trans ?_
  refine Eq.trans ?_ (congrArg₂ (fun (p : Fin 655360) (q : Fin 128) => normAt m c (rowOf p) (place p q)) h0.symm h1.symm)
  exact congrArg₂ (fun i d => normAt m c i d) (Fin.ext (by simp only [at_, rowOf]; omega)) (Fin.ext (by simp only [place]; omega))
/-- The scores' array, over real numbers. -/
theorem final10 (w : FVec Ideal S2048x16 .f32) (hw : (m ((c : Thread nD τ).loc main_arg7) : FVec Ideal S2048x16 .f32) = w) (hr : ∀ y, IsReal (w y))
    (hn : ∀ i d, IsReal (normAt m c i d)) :
    (dats m 0 c).arrAt 10 (cfgs 0).N = (scores (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) w : FVec Ideal S16x40960 .f32) := by
  refine (dats m 0 c).arrAt_eq_of_covers 10 _ (by decide +kernel) fun t _ y => ?_
  blk_simp
  rw [after10]
  obtain ⟨e, r, rfl⟩ : ∃ (e : Fin 16) (r : Fin 256), y = ix2 e r := ⟨y 0, y 1, by funext a; fin_cases a <;> rfl⟩
  have ht : t.val < 160 := t.isLt
  have h1 : (((cfg0.win 10).blk t).view.emb (ix2 e r) : S16x40960.Idx) 1 = at_ t r := by
    apply Fin.ext; unfold at_; blk_simp [idx t]
  have h0 : (((cfg0.win 10).blk t).view.emb (ix2 e r) : S16x40960.Idx) 0 = e := by
    apply Fin.ext; blk_simp [idx t]
  refine (logits_blk m c t w hw hr hn r e).trans ?_
  exact congrArg₂ (fun (e : Fin 16) (i : Fin 40960) => score (normAt m c i) (fun d e => w (ix2 d e)) e) h0.symm h1.symm

end Cert.MixKernelIdeal.Body
end
-- ==== Proof.MixCall.lean ====
/- The mixing call: what the reference's arrays hold, and that they are the kernel's over finite gains and router weights. -/
module

public import proofs.«01_k».proof.Proof.MixFinal
public import proofs.«01_k».proof.Proof.MixRun
public import proofs.«01_k».proof.Proof.Finite
public import proofs.«01_k».proof.Proof.Gen.Pre_finite_mix
public import proofs.«01_k».proof.Proof.Gen.MixReferenceIdeal.Run
public import Idealize.ShloMosaic.Lib.ReduceAll
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)

namespace Cert.MixRef
open Cert.MixReferenceIdeal Cert.MixReferenceIdeal.Gen Cert.Attn Cert.Mix

/-- The gates' arguments. -/
def gates (h : FVec Ideal S40960x2944 .f32) : FVec Ideal S5x8192x1024 .f32 :=
  shapeCast _ (extractStridedSlice S40960x1024 ![0, 1024] h slices_S40960x2944_S40960x1024_0_1024) shapeCasts_S40960x1024_S5x8192x1024
/-- The scans' sum times the gates. -/
def gated (hf hb y : FVec Ideal S5x8192x1024 .f32) : FVec Ideal S5x8192x1024 .f32 :=
  mulf (addf hf hb) (mulf y (mulf (broadcastInDim S5x8192x1024 ![] bcast_S_S5x8192x1024 (constant S_ .f32 0x3F000000#32)) (addf (broadcastInDim S5x8192x1024 ![] bcast_S_S5x8192x1024 (constant S_ .f32 0x3F800000#32)) (Host.tanh (mulf (broadcastInDim S5x8192x1024 ![] bcast_S_S5x8192x1024 (constant S_ .f32 0x3F4C422A#32)) (addf y (mulf (broadcastInDim S5x8192x1024 ![] bcast_S_S5x8192x1024 (constant S_ .f32 0x3D372713#32)) (mulf (mulf y y) y))))))))
/-- The gated scans beside the attention. -/
def beside (r a : FVec Ideal S5x8192x1024 .f32) : FVec Ideal S5x8192x2048 .f32 :=
  concatenate S5x8192x2048 2 [⟨S5x8192x1024, (r : (⟨S5x8192x1024, .f32⟩ : BufTy).Contents (Elt Ideal))⟩, ⟨S5x8192x1024, (a : (⟨S5x8192x1024, .f32⟩ : BufTy).Contents (Elt Ideal))⟩] concatenates_S5x8192x1024_S5x8192x1024_S5x8192x2048_d2
/-- The layer's input plus their product with the weights. -/
def added (x z : FVec Ideal S5x8192x2048 .f32) (w : FVec Ideal S2048x2048 .f32) : FVec Ideal S5x8192x2048 .f32 :=
  addf x (Host.dotGeneral dot_S5x8192x2048_S2048x2048_S5x8192x2048_2_0_01_1_n_n none z w)
/-- Its norm. -/
def nrm (x : FVec Ideal S5x8192x2048 .f32) (g : FVec Ideal S2048 .f32) : FVec Ideal S5x8192x2048 .f32 :=
  mulf (mulf x (broadcastInDim S5x8192x2048 ![0, 1, 2] bcast_S5x8192x1_S5x8192x2048_0_1_2 (Host.rsqrt (addf (Host.divf (broadcastInDim S5x8192x1 ![0, 1] bcast_S5x8192_S5x8192x1_0_1 (Host.reduceAdd (mulf x x) (constant S_ .f32 0x00000000#32) reducesTo_S5x8192x2048_S5x8192_d2 h_S_)) (broadcastInDim S5x8192x1 ![] bcast_S_S5x8192x1 (constant S_ .f32 0x45000000#32))) (broadcastInDim S5x8192x1 ![] bcast_S_S5x8192x1 (constant S_ .f32 0x358637BD#32)))))) (broadcastInDim S5x8192x2048 ![0, 1, 2] bcast_S1x1x2048_S5x8192x2048_0_1_2 (broadcastInDim S1x1x2048 ![2] bcast_S2048_S1x1x2048_2 g))
/-- An array in rows of 128. -/
def strips (x : FVec Ideal S5x8192x2048 .f32) : FVec Ideal S655360x128 .f32 := shapeCast _ x shapeCasts_S5x8192x2048_S655360x128
/-- The scores, an expert a row. -/
def votes (u : FVec Ideal S5x8192x2048 .f32) (r : FVec Ideal S2048x16 .f32) : FVec Ideal S16x40960 .f32 :=
  transpose S16x40960 [1, 0] (Host.dotGeneral dot_S40960x2048_S2048x16_S40960x16_1_0_0_1_n_n none (shapeCast _ u shapeCasts_S5x8192x2048_S40960x2048) r) transposes_S40960x16_S16x40960_1_0

theorem gates_at (h : FVec Ideal S40960x2944 .f32) (i : Fin 40960) (k : Fin 1024) :
    gates h (ix3 (seqOf i) (posOf i) k) = h (ix2 i (⟨1024 + k.val, by omega⟩ : Fin 2944)) := by
  unfold gates seqOf posOf
  pointwise
theorem gated_at (hf hb y : FVec Ideal S5x8192x1024 .f32) (s : Fin 5) (i : Fin 8192) (k : Fin 1024) :
    (gated hf hb y (ix3 s i k) : EReal) = ((hf (ix3 s i k) : EReal) + hb (ix3 s i k)) * gate (y (ix3 s i k)) := by
  rw [← gate_front]
  unfold gated
  pointwise
theorem beside_low (r a : FVec Ideal S5x8192x1024 .f32) (s : Fin 5) (i : Fin 8192) (k : Fin 1024) : beside r a (ix3 s i (low k)) = r (ix3 s i k) := by
  unfold beside low
  pointwise
theorem beside_high (r a : FVec Ideal S5x8192x1024 .f32) (s : Fin 5) (i : Fin 8192) (k : Fin 1024) : beside r a (ix3 s i (high k)) = a (ix3 s i k) := by
  unfold beside high
  pointwise
theorem added_at (x z : FVec Ideal S5x8192x2048 .f32) (w : FVec Ideal S2048x2048 .f32) (s : Fin 5) (i : Fin 8192) (d : Fin 2048) :
    (added x z w (ix3 s i d) : EReal) = x (ix3 s i d) + ∑ k : Fin 2048, (z (ix3 s i k) : EReal) * w (ix2 k d) := by
  unfold added
  pointwise
theorem nrm_at (x : FVec Ideal S5x8192x2048 .f32) (g : FVec Ideal S2048 .f32) (s : Fin 5) (i : Fin 8192) (d : Fin 2048) :
    nrm x g (ix3 s i d) = unit (fun e => x (ix3 s i e)) (fun e => g (ix1 e)) d := by
  unfold nrm unit
  pointwise
theorem strips_at (x : FVec Ideal S5x8192x2048 .f32) (p : Fin 655360) (q : Fin 128) :
    strips x (ix2 p q) = x (ix3 (seqOf (rowOf p)) (posOf (rowOf p)) (place p q)) := by
  unfold strips seqOf posOf rowOf place
  pointwise
  exact congrArg x (congrArg₂ (fun a b => ix3 a _ b) (Fin.ext (by show p.val / 131072 = p.val / 16 / 8192; omega)) (Fin.ext (by show p.val % 16 * 128 + q.val = 128 * (p.val % 16) + q.val; omega)))
theorem votes_at (u : FVec Ideal S5x8192x2048 .f32) (r : FVec Ideal S2048x16 .f32) (e : Fin 16) (i : Fin 40960) :
    (votes u r (ix2 e i) : EReal) = score (fun d => u (ix3 (seqOf i) (posOf i) d)) (fun d e => r (ix2 d e)) e := by
  unfold votes score seqOf posOf
  pointwise

section Arrays
variable (hf hb : FVec Ideal S5x8192x1024 .f32) (h : FVec Ideal S40960x2944 .f32) (att : FVec Ideal S5x8192x1024 .bf16)
  (x : FVec Ideal S5x8192x2048 .f32) (w : FVec Ideal S2048x2048 .f32) (g : FVec Ideal S2048 .f32) (r : FVec Ideal S2048x16 .f32)

/-- The reference's sum. -/
def sum : FVec Ideal S5x8192x2048 .f32 := added x (beside (gated hf hb (gates h)) (extf .f32 att bitsLt_bf16_f32)) w
theorem sum_at (i : Fin 40960) (d : Fin 2048) : (sum hf hb h att x w (ix3 (seqOf i) (posOf i) d) : EReal) = mixRow hf hb h att x w i d := by
  rw [sum, added_at, sum_halves]
  unfold mixRow row
  refine congrArg₂ (· + ·) rfl (congrArg₂ (· + ·) ?_ ?_)
  · refine Finset.sum_congr rfl fun k _ => congrArg₂ (· * ·) ?_ rfl
    rw [beside_low, gated_at, gates_at]
  · refine Finset.sum_congr rfl fun k _ => congrArg₂ (· * ·) ?_ rfl
    rw [beside_high]
    rfl
theorem norm_at (i : Fin 40960) (d : Fin 2048) : (nrm (sum hf hb h att x w) g (ix3 (seqOf i) (posOf i) d) : EReal) = normRow hf hb h att x w g i d :=
  (nrm_at _ _ _ _ _).trans (congrArg (fun a => unit a (fun e => g (ix1 e)) d) (funext fun e => sum_at hf hb h att x w i e))
/-- The reference's three arrays. -/
theorem sums_eq : strips (sum hf hb h att x w) = sums hf hb h att x w := by
  funext y
  obtain ⟨p, q, rfl⟩ : ∃ (p : Fin 655360) (q : Fin 128), y = ix2 p q := ⟨y 0, y 1, by funext a; fin_cases a <;> rfl⟩
  exact (strips_at _ p q).trans (sum_at ..)
theorem norms_eq : strips (nrm (sum hf hb h att x w) g) = norms hf hb h att x w g := by
  funext y
  obtain ⟨p, q, rfl⟩ : ∃ (p : Fin 655360) (q : Fin 128), y = ix2 p q := ⟨y 0, y 1, by funext a; fin_cases a <;> rfl⟩
  exact (strips_at _ p q).trans (norm_at ..)
theorem scores_eq : votes (nrm (sum hf hb h att x w) g) r = scores hf hb h att x w g r := by
  funext y
  obtain ⟨e, i, rfl⟩ : ∃ (e : Fin 16) (i : Fin 40960), y = ix2 e i := ⟨y 0, y 1, by funext a; fin_cases a <;> rfl⟩
  exact (votes_at _ _ e i).trans (congrArg (fun u => score u (fun d e => r (ix2 d e)) e) (funext fun d => norm_at hf hb h att x w g i d))
end Arrays

end Cert.MixRef

namespace Cert.MixCall
open Cert.Mix

/-- The precondition at one entry: every gain and every weight of the router is a real number. -/
theorem fn_true (hf hb : FVec Ideal Cert.Pre_finite_mix.S5x8192x1024 .f32) (h : FVec Ideal Cert.Pre_finite_mix.S40960x2944 .f32) (att : FVec Ideal Cert.Pre_finite_mix.S5x8192x1024 .bf16)
    (x : FVec Ideal Cert.Pre_finite_mix.S5x8192x2048 .f32) (w : FVec Ideal Cert.Pre_finite_mix.S2048x2048 .f32) (g : FVec Ideal Cert.Pre_finite_mix.S2048 .f32)
    (r : FVec Ideal Cert.Pre_finite_mix.S2048x16 .f32) (p : Cert.Pre_finite_mix.fn (F := Ideal) hf hb h att x w g r = fun _ => 1#1) :
    (∀ y, IsReal (g y)) ∧ ∀ y, IsReal (r y) := by
  obtain ⟨k6, k7⟩ := IntOp.andi_eq_one.1 (congrFun p (Shape.Idx.first Cert.Pre_finite_mix.Gen.h_S_))
  have j6 := fun i => Host.reduce_andi_all _ _ _ _ _ k6 i
  have j7 := fun i => Host.reduce_andi_all _ _ _ _ _ k7 i
  exact ⟨fun i => ⟨_, Cert.Finite.real_of_cmp _ (j6 i)⟩, fun i => ⟨_, Cert.Finite.real_of_cmp _ (j7 i)⟩⟩

section Ends
open Cert.MixKernelIdeal
/-- The kernel's ideal ends with its arguments kept, its arrays at what the proof data says and its semaphores at zero. -/
theorem kept (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ (Pipeline.FramePost cfgs (Body.dats m) 0 (Gen.V m) r ∧ r.2.sem = fun _ => 0)) := θ_run_and
  (Cert.MixKernelIdeal.Gen.frame_of m g (Body.dats m) (Body.A_eq m) ((θ_run defs _ _).mono (fun _ h => h.1) (Body.run (F := Ideal) m g)))
  (Body.run (F := Ideal) m g)
end Ends

/-- The kernel ends, with its arguments kept and its semaphores at zero. -/
theorem frame_p : Cert.quiescent_MixKernel := fun m g _ =>
  (θ_run Cert.MixKernel.defs _ _).mono (fun _ h => ⟨h.1, h.2.2⟩) (θ_run_and
    (Cert.MixKernel.Gen.frame_of m g (Cert.MixKernel.Body.dats m) (Cert.MixKernel.Body.A_eq m) ((θ_run Cert.MixKernel.defs _ _).mono (fun _ h => h.1) (Cert.MixKernel.Body.run m g)))
    (Cert.MixKernel.Body.run m g))
/-- So does its ideal. -/
theorem frame_pi : Cert.quiescent_MixKernelIdeal := fun m g _ =>
  (θ_run Cert.MixKernelIdeal.defs _ _).mono (fun _ h => ⟨h.1, h.2.2⟩) (kept m g)
/-- So does its ideal over finite gains and router weights. -/
theorem frame_pif : Cert.quiescent_MixKernelIdeal_pre_finite_mix := fun m g _ =>
  (θ_run Cert.MixKernelIdeal.defs _ _).mono (fun _ h => ⟨h.1, h.2.2⟩) (kept m g)
/-- So does the reference, which has no semaphore. -/
theorem frame_ri : Cert.quiescent_MixReferenceIdeal := fun m g _ =>
  (θ_run Cert.MixReferenceIdeal.defs _ _).mono (fun r hr => ⟨fun c => (hr c).2.2.2, sem_eq_zero_of_no_sems (by decide) r.2⟩)
    (Cert.MixReferenceIdeal.Value.run m g)
/-- So does the reference over finite gains and router weights. -/
theorem frame_rif : Cert.quiescent_MixReferenceIdeal_pre_finite_mix := fun m g _ =>
  (θ_run Cert.MixReferenceIdeal.defs _ _).mono (fun r hr => ⟨fun c => (hr c).2.2.2, sem_eq_zero_of_no_sems (by decide) r.2⟩)
    (Cert.MixReferenceIdeal.Value.run m g)

/-- Over finite gains and router weights the kernel and the reference leave the same arrays. -/
theorem algebraic : Cert.algebraic_MixKernelIdeal_MixReferenceIdeal_pre_finite_mix := by
  intro m g m' g' hp h
  refine ⟨fun c => Cert.MixRef.strips (Cert.MixRef.sum (m ((c.tc : Thread _ _).loc Cert.MixKernelIdeal.main_arg0)) (m ((c.tc : Thread _ _).loc Cert.MixKernelIdeal.main_arg1)) (m ((c.tc : Thread _ _).loc Cert.MixKernelIdeal.main_arg2)) (m ((c.tc : Thread _ _).loc Cert.MixKernelIdeal.main_arg3)) (m ((c.tc : Thread _ _).loc Cert.MixKernelIdeal.main_arg4)) (m ((c.tc : Thread _ _).loc Cert.MixKernelIdeal.main_arg5))),
    fun c => Cert.MixRef.strips (Cert.MixRef.nrm (Cert.MixRef.sum (m ((c.tc : Thread _ _).loc Cert.MixKernelIdeal.main_arg0)) (m ((c.tc : Thread _ _).loc Cert.MixKernelIdeal.main_arg1)) (m ((c.tc : Thread _ _).loc Cert.MixKernelIdeal.main_arg2)) (m ((c.tc : Thread _ _).loc Cert.MixKernelIdeal.main_arg3)) (m ((c.tc : Thread _ _).loc Cert.MixKernelIdeal.main_arg4)) (m ((c.tc : Thread _ _).loc Cert.MixKernelIdeal.main_arg5))) (m ((c.tc : Thread _ _).loc Cert.MixKernelIdeal.main_arg6))),
    fun c => Cert.MixRef.votes (Cert.MixRef.nrm (Cert.MixRef.sum (m ((c.tc : Thread _ _).loc Cert.MixKernelIdeal.main_arg0)) (m ((c.tc : Thread _ _).loc Cert.MixKernelIdeal.main_arg1)) (m ((c.tc : Thread _ _).loc Cert.MixKernelIdeal.main_arg2)) (m ((c.tc : Thread _ _).loc Cert.MixKernelIdeal.main_arg3)) (m ((c.tc : Thread _ _).loc Cert.MixKernelIdeal.main_arg4)) (m ((c.tc : Thread _ _).loc Cert.MixKernelIdeal.main_arg5))) (m ((c.tc : Thread _ _).loc Cert.MixKernelIdeal.main_arg6))) (m ((c.tc : Thread _ _).loc Cert.MixKernelIdeal.main_arg7)), ?_, ?_⟩
  · refine (θ_run Cert.MixKernelIdeal.defs _ _).mono (fun r hr c => ⟨((hr.2.1 c).1 8).trans ?_, ((hr.2.1 c).1 9).trans ?_, ((hr.2.1 c).1 10).trans ?_, hr.1 c⟩) (kept m g)
    · exact (Cert.MixKernelIdeal.Body.final8 m c).trans (Cert.MixRef.sums_eq ..).symm
    · exact (Cert.MixKernelIdeal.Body.final9 m c).trans (Cert.MixRef.norms_eq ..).symm
    · obtain ⟨h6, h7⟩ := fn_true _ _ _ _ _ _ _ _ (hp c)
      exact (Cert.MixKernelIdeal.Body.final10 m c _ rfl h7 (normRow_real _ _ _ _ _ _ _ h6)).trans (Cert.MixRef.scores_eq ..).symm
  · refine (θ_run Cert.MixReferenceIdeal.defs _ _).mono (fun r hr c => ⟨(hr c).1.trans ?_, (hr c).2.1.trans ?_, (hr c).2.2.1.trans ?_, (hr c).2.2.2⟩) (Cert.MixReferenceIdeal.Value.run m' g')
    · obtain ⟨e0, e1, e2, e3, e4, e5, e6, e7⟩ := h c
      rw [e0, e1, e2, e3, e4, e5]; rfl
    · obtain ⟨e0, e1, e2, e3, e4, e5, e6, e7⟩ := h c
      unfold Cert.MixReferenceIdeal.Value.res_main_v37
      rw [e0, e1, e2, e3, e4, e5, e6]; rfl
    · obtain ⟨e0, e1, e2, e3, e4, e5, e6, e7⟩ := h c
      unfold Cert.MixReferenceIdeal.Value.res_main_v38
      rw [e0, e1, e2, e3, e4, e5, e6, e7]; rfl

end Cert.MixCall
end
-- ==== Proof.PrepMath.lean ====
/- The head preparation: its mathematics, over the extended reals. -/
module

public import Idealize.ShloMosaic.Lib.Pointwise
public import Idealize.ShloMosaic.Lib.Pipeline.ValueKit
public import proofs.«01_k».proof.Proof.MixMath

@[expose] public section
noncomputable section
open Idealize.ShloMosaic
namespace Cert.Prep

/-- A head's factor: one over the root of the mean of its squares — the plain lanes', and half the doubled rotary lanes'. -/
def root (p half eps : EReal) (u w : Fin 128 → EReal) : EReal := Ideal.rsqrt ((∑ l : Fin 128, u l * u l + half * ∑ l : Fin 128, w l * w l) * p + eps)
/-- The lane half a turn away. -/
def across (l : Fin 128) : Fin 128 := ⟨(l.val + 128 - 64) % 128, by omega⟩
/-- The rotated rotary lanes: each lane and the lane across, weighed. -/
def turned (w g a : Fin 128 → EReal) (l : Fin 128) : EReal := w l * g l * a l + w (across l) * g (across l) * a (across l)
/-- A head's plain lanes among the projection's columns. -/
def plainLane (h : Fin 8) (l : Fin 128) : Fin 2048 := ⟨256 * h.val + l.val, by omega⟩
/-- A head's rotary lanes, or its values, among the projection's columns. -/
def rotaryLane (h : Fin 8) (l : Fin 128) : Fin 2048 := ⟨256 * h.val + 128 + l.val, by omega⟩
/-- The gains' first lanes. -/
def lo (l : Fin 128) : Fin 256 := ⟨l.val, by omega⟩
/-- The gains' last lanes. -/
def hi (l : Fin 128) : Fin 256 := ⟨128 + l.val, by omega⟩
/-- Two halves of 128 lanes, side by side. -/
def halves (a b : Fin 128 → EReal) (f : Fin 256) : EReal := if h : f.val < 128 then a ⟨f.val, h⟩ else b ⟨f.val - 128, by omega⟩

/-! ## The common entries -/

/-- A rotary lane's place among the 64: the lanes come twice, the second time with their halves exchanged. -/
def src (l : Fin 128) : Fin 64 := if l.val < 64 then ⟨l.val % 64, by omega⟩ else ⟨(l.val + 32) % 64, by omega⟩
/-- A plain lane among a head's 192. -/
def front (l : Fin 128) : Fin 192 := ⟨l.val, by omega⟩
/-- A rotary lane among a head's 192. -/
def back (l : Fin 64) : Fin 192 := ⟨128 + l.val, by omega⟩
/-- The table of angles, lane by lane: cosine, cosine, minus sine, sine. -/
def table (cs sn : Fin 32 → EReal) (l : Fin 128) : EReal :=
  if l.val < 64 then cs ⟨l.val % 32, by omega⟩ else if l.val < 96 then -sn ⟨l.val % 32, by omega⟩ else sn ⟨l.val % 32, by omega⟩
/-- A row's norm. -/
def unit {n : ℕ} (c : EReal) (x g : Fin n → EReal) (d : Fin n) : EReal :=
  x d * Ideal.rsqrt (Ideal.div (∑ e, x e * x e) c + Ideal.ofBits .f32 0x358637BD#32) * g d
/-- The rotation of a head's last 64 lanes. -/
def spin (cs sn : Fin 32 → EReal) (t : Fin 192 → EReal) (e : Fin 192) : EReal :=
  if h : e.val < 128 then t e
  else if h' : e.val < 160 then t e * cs ⟨e.val - 128, by omega⟩ - t ⟨e.val + 32, by omega⟩ * sn ⟨e.val - 128, by omega⟩
  else t e * cs ⟨e.val - 160, by omega⟩ + t ⟨e.val - 32, by omega⟩ * sn ⟨e.val - 160, by omega⟩

/-! ## The factor -/

theorem half_double (s : EReal) (h : 0 ≤ s) : (((1 / 2 : ℝ)) : EReal) * (s + s) = s := by
  induction s with
  | bot => simp at h
  | top =>
    rw [EReal.top_add_top, mul_comm, EReal.top_mul_coe_of_pos (by norm_num)]
  | coe s =>
    rw [← EReal.coe_add, ← EReal.coe_mul]
    exact congrArg _ (by ring)
theorem sum_src (f : Fin 64 → EReal) : ∑ l : Fin 128, f (src l) = ∑ l : Fin 64, f l + ∑ l : Fin 64, f l := by
  refine (Fin.sum_univ_add (fun l : Fin (64 + 64) => f (src l))).trans (congrArg₂ (· + ·) ?_ ?_)
  · exact Finset.sum_congr rfl fun l _ => congrArg f (Fin.ext (by simp [src]))
  · refine (Fin.sum_univ_add (fun l : Fin (32 + 32) => f (src (Fin.natAdd 64 l)))).trans ((add_comm _ _).trans (Eq.trans (congrArg₂ (· + ·) ?_ ?_) (Fin.sum_univ_add (fun l : Fin (32 + 32) => f l)).symm))
    · exact Finset.sum_congr rfl fun l _ => congrArg f (Fin.ext (by simp [src]; omega))
    · exact Finset.sum_congr rfl fun l _ => congrArg f (Fin.ext (by simp [src]; omega))
theorem sum_head (f : Fin 192 → EReal) : ∑ e : Fin 192, f e = ∑ l : Fin 128, f (front l) + ∑ l : Fin 64, f (back l) :=
  Fin.sum_univ_add (fun e : Fin (128 + 64) => f e)
theorem half_is : Ideal.ofBits .f32 0x3F000000#32 = (((1 / 2 : ℝ)) : EReal) := by
  simp [Ideal.ofBits, Ideal.ieee]; rw [← EReal.coe_mul]; norm_num
theorem lanes_is : Ideal.ofBits .f32 0x43400000#32 = ((192 : ℝ) : EReal) := by
  simp [Ideal.ofBits, Ideal.ieee]; rw [← EReal.coe_mul]; norm_num
theorem two_is : Ideal.ofBits .f32 0x40000000#32 = ((2 : ℝ) : EReal) := by
  simp [Ideal.ofBits, Ideal.ieee]; rw [← EReal.coe_mul]; norm_num
theorem div_coe (x : EReal) (y : ℝ) (h : y ≠ 0) : Ideal.div x (y : EReal) = x * ((y⁻¹ : ℝ) : EReal) := by
  rw [Ideal.div, if_neg (by simpa using h), ← EReal.coe_inv]
/-- The kernel's factor is the reference's. -/
theorem root_eq (p : EReal) (hp : p = (((1 / 192 : ℝ)) : EReal)) (q : Fin 192 → EReal) (eps : EReal) :
    root p (Ideal.ofBits .f32 0x3F000000#32) eps (fun l => q (front l)) (fun l => q (back (src l)))
      = Ideal.rsqrt (Ideal.div (∑ e, q e * q e) (Ideal.ofBits .f32 0x43400000#32) + eps) := by
  unfold root
  rw [sum_src (fun l => q (back l) * q (back l)), half_is, half_double _ (Finset.sum_nonneg fun l _ => Cert.Mix.self_nonneg _), lanes_is,
    div_coe _ _ (by norm_num), sum_head, hp]
  norm_num
/-- The factor is a nonnegative real. -/
theorem root_real {n : ℕ} (q : Fin n → EReal) : ∃ ρ : ℝ, 0 ≤ ρ ∧ Ideal.rsqrt (Ideal.div (∑ e, q e * q e) (Ideal.ofBits .f32 0x43400000#32) + Ideal.ofBits .f32 0x358637BD#32) = (ρ : EReal) := by
  obtain ⟨e, he, h⟩ := Cert.Mix.eps
  rw [h, lanes_is, div_coe _ _ (by norm_num)]
  have hs : 0 ≤ ∑ e, q e * q e := Finset.sum_nonneg fun l _ => Cert.Mix.self_nonneg _
  generalize (∑ e, q e * q e) = s at hs ⊢
  induction s with
  | bot => simp at hs
  | top =>
    refine ⟨0, le_refl _, ?_⟩
    rw [EReal.top_mul_coe_of_pos (by norm_num), EReal.top_add_coe, Ideal.rsqrt_top]
    rfl
  | coe s =>
    have hs' : 0 ≤ s := EReal.coe_nonneg.mp hs
    rw [← EReal.coe_mul, ← EReal.coe_add]
    have hp : 0 < s * 192⁻¹ + e := by positivity
    refine ⟨(Real.sqrt (s * 192⁻¹ + e))⁻¹, by positivity, ?_⟩
    rw [Ideal.rsqrt_coe, if_neg (not_lt.2 hp.le), if_neg hp.ne']

/-! ## The rotation -/

/-- The kernel's rotary lanes, both times, are the reference's rotated lanes. -/
theorem turned_eq (cs sn : Fin 32 → EReal) (q g : Fin 192 → EReal) (R : EReal) (hR : ∃ ρ : ℝ, 0 ≤ ρ ∧ R = (ρ : EReal)) (l : Fin 128) :
    turned (fun l => q (back (src l))) (fun l => g (back (src l))) (table cs sn) l * R
      = spin cs sn (fun e => q e * R * g e) (back ⟨l.val % 64, by omega⟩) := by
  obtain ⟨ρ, h0, rfl⟩ := hR
  have dist : ∀ a b : EReal, (a + b) * (ρ : EReal) = a * ρ + b * ρ := fun a b => EReal.right_distrib_of_nonneg_of_ne_top (by exact_mod_cast h0) (EReal.coe_ne_top ρ) a b
  obtain ⟨j, hj⟩ : ∃ j : Fin 32, j.val = l.val % 32 := ⟨⟨l.val % 32, by omega⟩, rfl⟩
  have fst : ∀ l : Fin 128, l.val % 64 = j.val → spin cs sn (fun e => q e * (ρ : EReal) * g e) (back ⟨l.val % 64, by omega⟩)
      = q (back ⟨j.val, by omega⟩) * ρ * g (back ⟨j.val, by omega⟩) * cs j - q (back ⟨j.val + 32, by omega⟩) * ρ * g (back ⟨j.val + 32, by omega⟩) * sn j := fun l h => by
    unfold spin back
    rw [dif_neg (by simp), dif_pos (by simp; omega)]
    simp only [h, Nat.add_sub_cancel_left]
    rfl
  have snd : ∀ l : Fin 128, l.val % 64 = j.val + 32 → spin cs sn (fun e => q e * (ρ : EReal) * g e) (back ⟨l.val % 64, by omega⟩)
      = q (back ⟨j.val + 32, by omega⟩) * ρ * g (back ⟨j.val + 32, by omega⟩) * cs j + q (back ⟨j.val, by omega⟩) * ρ * g (back ⟨j.val, by omega⟩) * sn j := fun l h => by
    unfold spin back
    rw [dif_neg (by simp), dif_neg (by simp; omega)]
    simp only [h, show 128 + (j.val + 32) - 160 = j.val by omega, show 128 + (j.val + 32) - 32 = 128 + j.val by omega]
  have lower : ∀ k : Fin 128, (k.val = j.val ∨ k.val = j.val + 96) → src k = ⟨j.val, by omega⟩ := fun k h => Fin.ext (by
    unfold src; rcases h with h | h <;> split <;> dsimp only <;> omega)
  have upper : ∀ k : Fin 128, (k.val = j.val + 32 ∨ k.val = j.val + 64) → src k = ⟨j.val + 32, by omega⟩ := fun k h => Fin.ext (by
    unfold src; rcases h with h | h <;> split <;> dsimp only <;> omega)
  have tc : ∀ k : Fin 128, (k.val = j.val ∨ k.val = j.val + 32) → table cs sn k = cs j := fun k h => by
    unfold table
    rw [if_pos (by omega)]
    exact congrArg cs (Fin.ext (by change k.val % 32 = _; omega))
  have tn : ∀ k : Fin 128, k.val = j.val + 64 → table cs sn k = -sn j := fun k h => by
    unfold table
    rw [if_neg (by omega), if_pos (by omega)]
    exact congrArg (fun z => -sn z) (Fin.ext (by change k.val % 32 = _; omega))
  have ts : ∀ k : Fin 128, k.val = j.val + 96 → table cs sn k = sn j := fun k h => by
    unfold table
    rw [if_neg (by omega), if_neg (by omega)]
    exact congrArg sn (Fin.ext (by change k.val % 32 = _; omega))
  have ha : (across l).val = (l.val + 64) % 128 := by unfold across; dsimp only; omega
  unfold turned
  rw [dist]
  beta_reduce
  have four : l.val = j.val ∨ l.val = j.val + 32 ∨ l.val = j.val + 64 ∨ l.val = j.val + 96 := by omega
  rcases four with h | h | h | h
  · rw [fst l (by omega), lower l (by omega), upper (across l) (by omega), tc l (by omega), tn (across l) (by omega), sub_eq_add_neg, mul_neg, neg_mul]
    ac_rfl
  · rw [snd l (by omega), upper l (by omega), lower (across l) (by omega), tc l (by omega), ts (across l) (by omega)]
    ac_rfl
  · rw [fst l (by omega), upper l (by omega), lower (across l) (by omega), tn l (by omega), tc (across l) (by omega), sub_eq_add_neg, mul_neg, neg_mul]
    ac_rfl
  · rw [snd l (by omega), lower l (by omega), upper (across l) (by omega), ts l (by omega), tc (across l) (by omega)]
    ac_rfl

theorem spin_front (cs sn : Fin 32 → EReal) (t : Fin 192 → EReal) (l : Fin 128) : spin cs sn t (front l) = t (front l) := by
  unfold spin
  exact dif_pos l.isLt

/-! ## The results' lanes -/

/-- A query's lane: the rotary ones come twice. -/
def lane (f : Fin 256) : Fin 192 := if h : f.val < 192 then ⟨f.val, h⟩ else ⟨f.val - 64, by omega⟩
/-- The queries' lanes: the kernel's are the reference's. -/
theorem query_eq (p s : EReal) (hp : p = (((1 / 192 : ℝ)) : EReal)) (hs : s = (((Real.sqrt 192)⁻¹ * (Real.log 2)⁻¹ : ℝ) : EReal)) (cs sn : Fin 32 → EReal) (q g : Fin 192 → EReal)
    (f : Fin 256) :
    halves (fun l => q (front l) * g (front l) * (root p (Ideal.ofBits .f32 0x3F000000#32) (Ideal.ofBits .f32 0x358637BD#32) (fun l => q (front l)) (fun l => q (back (src l))) * s))
        (fun l => turned (fun l => q (back (src l))) (fun l => g (back (src l))) (table cs sn) l
          * (root p (Ideal.ofBits .f32 0x3F000000#32) (Ideal.ofBits .f32 0x358637BD#32) (fun l => q (front l)) (fun l => q (back (src l))) * s)) f
      = Ideal.div (spin cs sn (unit (Ideal.ofBits .f32 0x43400000#32) q g) (lane f)) (Ideal.sqrt (Ideal.ofBits .f32 0x43400000#32) * Ideal.log (Ideal.ofBits .f32 0x40000000#32)) := by
  have hR := root_real q
  have hl : 0 < Real.log 2 := Real.log_pos (by norm_num)
  have hq : 0 < Real.sqrt 192 := Real.sqrt_pos.2 (by norm_num)
  have e : Ideal.sqrt (Ideal.ofBits .f32 0x43400000#32) * Ideal.log (Ideal.ofBits .f32 0x40000000#32) = ((Real.sqrt 192 * Real.log 2 : ℝ) : EReal) := by
    rw [lanes_is, two_is, Ideal.sqrt_coe, Ideal.log_coe, EReal.coe_mul]
    norm_num
  rw [root_eq p hp, e, div_coe _ _ (by positivity), mul_inv, ← hs]
  generalize hk : Ideal.rsqrt _ = R at hR ⊢
  have un : unit (Ideal.ofBits .f32 0x43400000#32) q g = fun e => q e * R * g e := funext fun e => by rw [unit, hk]
  rw [un]
  unfold halves
  by_cases h : f.val < 128
  · rw [dif_pos h]
    have : lane f = front ⟨f.val, h⟩ := Fin.ext (by rw [lane, dif_pos (by omega)]; rfl)
    rw [this, spin_front]
    dsimp only
    ac_rfl
  · rw [dif_neg h]
    dsimp only
    rw [← mul_assoc, turned_eq cs sn q g R hR]
    congr 2
    refine Fin.ext ?_
    unfold lane back
    split <;> dsimp only <;> omega
/-- The keys' lanes: the kernel's are the reference's, then zeros. -/
theorem key_eq (p z : EReal) (hp : p = (((1 / 192 : ℝ)) : EReal)) (cs sn : Fin 32 → EReal) (q g : Fin 192 → EReal) (f : Fin 256) :
    halves (fun l => q (front l) * g (front l) * root p (Ideal.ofBits .f32 0x3F000000#32) (Ideal.ofBits .f32 0x358637BD#32) (fun l => q (front l)) (fun l => q (back (src l))))
        (fun l => if l.val < 64 then turned (fun l => q (back (src l))) (fun l => g (back (src l))) (table cs sn) l
          * root p (Ideal.ofBits .f32 0x3F000000#32) (Ideal.ofBits .f32 0x358637BD#32) (fun l => q (front l)) (fun l => q (back (src l))) else z) f
      = if f.val < 192 then spin cs sn (unit (Ideal.ofBits .f32 0x43400000#32) q g) (lane f) else z := by
  have hR := root_real q
  rw [root_eq p hp]
  generalize hk : Ideal.rsqrt _ = R at hR ⊢
  have un : unit (Ideal.ofBits .f32 0x43400000#32) q g = fun e => q e * R * g e := funext fun e => by rw [unit, hk]
  rw [un]
  unfold halves
  by_cases h : f.val < 128
  · rw [dif_pos h, if_pos (by omega)]
    have : lane f = front ⟨f.val, h⟩ := Fin.ext (by rw [lane, dif_pos (by omega)]; rfl)
    rw [this, spin_front]
    dsimp only
    ac_rfl
  · rw [dif_neg h]
    by_cases h' : f.val < 192
    · dsimp only
      rw [if_pos h', if_pos (by omega), turned_eq cs sn q g R hR]
      congr 1
      refine Fin.ext ?_
      unfold lane back
      split <;> dsimp only <;> omega
    · dsimp only
      rw [if_neg h', if_neg (by omega)]

/-! ## The arrays -/

section
variable (h : FVec Ideal ⟨3, ![5, 8192, 2880]⟩ .f32) (gl : FVec Ideal ⟨1, ![512]⟩ .f32) (wq : FVec Ideal ⟨2, ![512, 1536]⟩ .f32)
  (gc : FVec Ideal ⟨1, ![256]⟩ .f32) (wk : FVec Ideal ⟨2, ![256, 2048]⟩ .f32) (g : FVec Ideal ⟨1, ![192]⟩ .f32) (angle : Fin 8192 → Fin 32 → EReal)
  (s : Fin 5) (hd : Fin 8) (i : Fin 8192) (f : Fin 256)
/-- A position's query of a head: the norm of the position's 512 latent entries, projected. -/
def qRow (s : Fin 5) (i : Fin 8192) (hd : Fin 8) (e : Fin 192) : EReal :=
  ∑ k : Fin 512, unit (Ideal.ofBits .f32 0x44000000#32) (fun k => h (ix3 s i (⟨2048 + k.val, by omega⟩ : Fin 2880))) (fun k => gl (ix1 k)) k
    * wq (ix2 k (⟨192 * hd.val + e.val, by omega⟩ : Fin 1536))
/-- A position's keys and values: the norm of its 256 latent entries, projected. -/
def kvRow (s : Fin 5) (i : Fin 8192) (n : Fin 2048) : EReal :=
  ∑ k : Fin 256, unit (Ideal.ofBits .f32 0x43800000#32) (fun k => h (ix3 s i (⟨2560 + k.val, by omega⟩ : Fin 2880))) (fun k => gc (ix1 k)) k * wk (ix2 k n)
/-- A position's key of a head: 128 projected lanes, then the 64 all heads share. -/
def kRow (s : Fin 5) (i : Fin 8192) (hd : Fin 8) (e : Fin 192) : EReal :=
  if hl : e.val < 128 then kvRow h gc wk s i (plainLane hd ⟨e.val, hl⟩) else h (ix3 s i (⟨2816 + (e.val - 128), by omega⟩ : Fin 2880))
theorem kRow_front (l : Fin 128) : kRow h gc wk s i hd (front l) = kvRow h gc wk s i (plainLane hd l) := by
  rw [kRow, dif_pos (show (front l).val < 128 from l.isLt)]
  rfl
theorem kRow_back (l : Fin 64) : kRow h gc wk s i hd (back l) = h (ix3 s i (⟨2816 + l.val, by omega⟩ : Fin 2880)) := by
  rw [kRow, dif_neg (by unfold back; dsimp only; omega)]
  exact congrArg (fun n => h (ix3 s i n)) (Fin.ext (by unfold back; dsimp only; omega))
/-- The queries: normed, rotated, divided by `√192 · log 2`, the last 64 lanes once more. -/
def qOut : EReal :=
  Ideal.div (spin (fun j => Ideal.cos (angle i j)) (fun j => Ideal.sin (angle i j)) (unit (Ideal.ofBits .f32 0x43400000#32) (qRow h gl wq s i hd) (fun e => g (ix1 e))) (lane f))
    (Ideal.sqrt (Ideal.ofBits .f32 0x43400000#32) * Ideal.log (Ideal.ofBits .f32 0x40000000#32))
/-- The keys: normed, rotated, 64 zeros behind. -/
def kOut : EReal :=
  if f.val < 192 then spin (fun j => Ideal.cos (angle i j)) (fun j => Ideal.sin (angle i j)) (unit (Ideal.ofBits .f32 0x43400000#32) (kRow h gc wk s i hd) (fun e => g (ix1 e))) (lane f)
  else Ideal.ofBits .f32 0x00000000#32
/-- The values: 128 projected lanes, 128 ones behind. -/
def vOut : EReal := halves (fun l => kvRow h gc wk s i (rotaryLane hd l)) (fun _ => Ideal.ofBits .bf16 0x3F80#16) f
end
/-- An array by its entries. -/
def arr (F : Fin 5 → Fin 8 → Fin 8192 → Fin 256 → EReal) : FVec Ideal ⟨4, ![5, 8, 8192, 256]⟩ .bf16 := fun y => F (y 0) (y 1) (y 2) (y 3)
theorem arr_at (F : Fin 5 → Fin 8 → Fin 8192 → Fin 256 → EReal) (y : Shape.Idx ⟨4, ![5, 8, 8192, 256]⟩) (s : Fin 5) (h : Fin 8) (i : Fin 8192) (f : Fin 256)
    (h0 : y 0 = s) (h1 : y 1 = h) (h2 : y 2 = i) (h3 : y 3 = f) : (arr F y : EReal) = F s h i f := by
  subst h0 h1 h2 h3
  rfl

end Cert.Prep
end
-- ==== Proof.PrepBlocks.lean ====
/- The head preparation over the extended reals: what the body writes at a grid point, entry by entry. Each store is a
   half of one head; one lemma serves all heads. -/
module

public import proofs.«01_k».proof.Defs
public import proofs.«01_k».proof.Proof.Gen.PrepKernelIdeal.Value
public import proofs.«01_k».proof.Proof.PrepMath
public import Idealize.ShloMosaic.Lib.Pointwise
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.PrepKernelIdeal.Body
open Cert.PrepKernelIdeal Cert.PrepKernelIdeal.Gen Cert.Prep

/-! ## A head's stores, over its lanes of the projection -/

section Chains
variable (u w v : FVec Ideal S512x128 .f32) (g : FVec Ideal S1x256 .f32) (a : FVec Ideal S512x128 .f32) (k : FVec Ideal S1x512x128 .f32) (p s half eps zero : Ideal .f32)

/-- A row's sum of squares. -/
def squares : FVec Ideal S512x1 .f32 :=
  shapeCast S512x1 (multiReduction FKind.add [1] S512 (mulf u u) (0#32) reduces_S512x128_S512 (.inl rfl) rfl) shapeCasts_S512_S512x1
/-- The factors of all rows. -/
def roots : FVec Ideal S512x1 .f32 :=
  rsqrt (addf (mulf (addf (squares u) (mulf (broadcast S512x1 half) (squares w))) (broadcast S512x1 p)) (broadcast S512x1 eps))
theorem squares_at (r : Fin 512) (z : Fin 1) : (squares u (ix2 r z) : EReal) = ∑ l : Fin 128, (u (ix2 r l) : EReal) * u (ix2 r l) := by
  unfold squares
  pointwise
theorem roots_at (r : Fin 512) (z : Fin 1) : (roots u w p half eps (ix2 r z) : EReal) = root p half eps (fun l => u (ix2 r l)) (fun l => w (ix2 r l)) := by
  unfold roots root
  rw [← squares_at u r z, ← squares_at w r z]
  generalize squares u = e
  generalize squares w = e'
  pointwise
/-- The weighed rotary lanes. -/
def weighed : FVec Ideal S512x128 .f32 :=
  mulf (mulf w (broadcastTo S512x128 (extractStridedSlice S1x128 ![0, 128] (shapeCast S1x256 g shapeCasts_S1x256_S1x256) slices_S1x256_o0_128_S1x128) broadcasts_S1x128_S512x128))
    (shapeCast S512x128 a shapeCasts_S512x128_S512x128)
theorem weighed_at (r : Fin 512) (l : Fin 128) : (weighed w g a (ix2 r l) : EReal) = w (ix2 r l) * g (ix2 (0 : Fin 1) (hi l)) * a (ix2 r l) := by
  unfold weighed hi
  pointwise
/-- The rotation. -/
def rotated : FVec Ideal S512x128 .f32 := addf (weighed w g a) (dynamicRotate 1 (64#32) none (weighed w g a) rotates_S512x128_d1)
theorem rotated_at (r : Fin 512) (l : Fin 128) : (rotated w g a (ix2 r l) : EReal) = turned (fun l => w (ix2 r l)) (fun l => g (ix2 (0 : Fin 1) (hi l))) (fun l => a (ix2 r l)) l := by
  unfold rotated turned
  rw [← weighed_at, ← weighed_at]
  generalize weighed w g a = e
  pointwise [across]
/-- The plain lanes' store. -/
theorem plain_at (f : FVec Ideal S512x1 .f32) (x : S1x1x512x128.Idx) (r : Fin 512) (l : Fin 128) (hr : r.val = (x 2).val) (hl : l.val = (x 3).val) :
    (shapeCast S1x1x512x128 (truncf FTy.bf16 (mulf (mulf u (broadcastTo S512x128 (extractStridedSlice S1x128 ![0, 0] (shapeCast S1x256 g shapeCasts_S1x256_S1x256) slices_S1x256_o0_0_S1x128)
      broadcasts_S1x128_S512x128)) (broadcastTo S512x128 f broadcasts_S512x1_S512x128)) bitsLt_bf16_f32) shapeCasts_S512x128_S1x1x512x128 x : EReal)
      = u (ix2 r l) * g (ix2 (0 : Fin 1) (lo l)) * f (ix2 r (0 : Fin 1)) := by
  obtain rfl : r = x 2 := Fin.ext hr
  obtain rfl : l = x 3 := Fin.ext hl
  unfold lo
  pointwise
/-- The queries' rotary lanes' store. -/
theorem rotary_at (f : FVec Ideal S512x1 .f32) (x : S1x1x512x128.Idx) (r : Fin 512) (l : Fin 128) (hr : r.val = (x 2).val) (hl : l.val = (x 3).val) :
    (shapeCast S1x1x512x128 (truncf FTy.bf16 (mulf v (broadcastTo S512x128 f broadcasts_S512x1_S512x128)) bitsLt_bf16_f32) shapeCasts_S512x128_S1x1x512x128 x : EReal)
      = v (ix2 r l) * f (ix2 r (0 : Fin 1)) := by
  obtain rfl : r = x 2 := Fin.ext hr
  obtain rfl : l = x 3 := Fin.ext hl
  pointwise
theorem below_at : ∀ l : Fin 128, IntOp.cmpi CmpIPredicate.slt (BitVec.ofNat 32 l.val) 64#32 = if l.val < 64 then 1#1 else 0#1 := by decide +kernel
/-- The keys' rotary lanes' store: zero past the rotary lanes. -/
theorem masked_at (f : FVec Ideal S512x1 .f32) (x : S1x1x512x128.Idx) (r : Fin 512) (l : Fin 128) (hr : r.val = (x 2).val) (hl : l.val = (x 3).val) :
    (shapeCast S1x1x512x128 (truncf FTy.bf16 (select (cmpi CmpIPredicate.slt (iota Kind.tc S512x128 32 [1] iota_S512x128_d1_w32) (broadcast S512x128 64#32))
      (mulf v (broadcastTo S512x128 f broadcasts_S512x1_S512x128)) (broadcast S512x128 zero)) bitsLt_bf16_f32) shapeCasts_S512x128_S1x1x512x128 x : EReal)
      = if l.val < 64 then v (ix2 r l) * f (ix2 r (0 : Fin 1)) else zero := by
  obtain rfl : r = x 2 := Fin.ext hr
  obtain rfl : l = x 3 := Fin.ext hl
  pointwise
  have e := below_at (x 3)
  by_cases h : (x 3).val < 64
  · rw [if_pos h] at e ⊢
    rw [e]
    rfl
  · rw [if_neg h] at e ⊢
    rw [e]
    rfl
/-- The values' store. -/
theorem copied_at (x : S1x1x512x128.Idx) (r : Fin 512) (l : Fin 128) (hr : r.val = (x 2).val) (hl : l.val = (x 3).val) :
    (shapeCast S1x1x512x128 (truncf FTy.bf16 u bitsLt_bf16_f32) shapeCasts_S512x128_S1x1x512x128 x : EReal) = u (ix2 r l) := by
  obtain rfl : r = x 2 := Fin.ext hr
  obtain rfl : l = x 3 := Fin.ext hl
  pointwise
/-- The store of ones. -/
theorem filled_at (z : Ideal .bf16) (x : S1x1x512x128.Idx) : (shapeCast S1x1x512x128 (broadcast S512x128 z) shapeCasts_S512x128_S1x1x512x128 x : EReal) = z := by
  pointwise
/-- A head's lanes. -/
theorem lanes_at (A : FVec Ideal S512x2048 .f32) (o : ℕ) (hs : S512x2048.Slices ![0, o] S512x128) (r : Fin 512) (l : Fin 128) (k : Fin 2048) (hk : k.val = o + l.val) :
    (extractStridedSlice S512x128 ![0, o] A hs (ix2 r l) : EReal) = A (ix2 r k) := by
  have e : k = ⟨o + l.val, hk ▸ k.isLt⟩ := Fin.ext hk
  rw [e]
  pointwise
end Chains

/-! ## The three output blocks -/

section Blocks
variable (A B : FVec Ideal S512x2048 .f32) (gq gk : FVec Ideal S1x256 .f32) (a : FVec Ideal S512x128 .f32) (k : FVec Ideal S1x512x128 .f32)
abbrev half : EReal := Ideal.ofBits .f32 0x3F000000#32
abbrev eps : EReal := Ideal.ofBits .f32 0x358637BD#32
abbrev one : EReal := Ideal.ofBits .bf16 0x3F80#16
abbrev zero : EReal := Ideal.ofBits .f32 0x00000000#32
abbrev perLane : EReal := Named.named (F := Ideal) κ "per_lane" (φ := .f32) 0x3BAAAAAB#32
abbrev scale : EReal := Named.named (F := Ideal) κ "scale" (φ := .f32) 0x3DD53B95#32
/-- The factor of a head's queries. -/
def rootQ (h : Fin 8) (r : Fin 512) : EReal := root perLane half eps (fun l => A (ix2 r (plainLane h l))) (fun l => A (ix2 r (rotaryLane h l))) * scale
/-- The factor of a head's keys. -/
def rootK (h : Fin 8) (r : Fin 512) : EReal := root perLane half eps (fun l => B (ix2 r (plainLane h l))) (fun l => k (ix3 (0 : Fin 1) r l))
/-- The queries' block. -/
def queries (h : Fin 8) (r : Fin 512) : Fin 256 → EReal :=
  halves (fun l => A (ix2 r (plainLane h l)) * gq (ix2 (0 : Fin 1) (lo l)) * rootQ A h r)
    (fun l => turned (fun l => A (ix2 r (rotaryLane h l))) (fun l => gq (ix2 (0 : Fin 1) (hi l))) (fun l => a (ix2 r l)) l * rootQ A h r)
/-- The keys' block. -/
def keys (h : Fin 8) (r : Fin 512) : Fin 256 → EReal :=
  halves (fun l => B (ix2 r (plainLane h l)) * gk (ix2 (0 : Fin 1) (lo l)) * rootK B k h r)
    (fun l => if l.val < 64 then turned (fun l => k (ix3 (0 : Fin 1) r l)) (fun l => gk (ix2 (0 : Fin 1) (hi l))) (fun l => a (ix2 r l)) l * rootK B k h r else zero)
/-- The values' block. -/
def values (h : Fin 8) (r : Fin 512) : Fin 256 → EReal := halves (fun l => B (ix2 r (rotaryLane h l))) (fun _ => one)
theorem halves_lo (a b : Fin 128 → EReal) (f : Fin 256) (l : Fin 128) (h : f.val = l.val) : halves a b f = a l := by
  unfold halves
  rw [dif_pos (by omega)]
  exact congrArg a (Fin.ext h)
theorem halves_hi (a b : Fin 128 → EReal) (f : Fin 256) (l : Fin 128) (h : f.val = 128 + l.val) : halves a b f = b l := by
  unfold halves
  rw [dif_neg (by omega)]
  exact congrArg b (Fin.ext (by change f.val - 128 = l.val; omega))

variable (h : Fin 8) (r : Fin 512) (f : Fin 256) (l : Fin 128) (x : S1x1x512x128.Idx) (o o' : ℕ) (hs : S512x2048.Slices ![0, o] S512x128) (hs' : S512x2048.Slices ![0, o'] S512x128)
theorem values_lo (h3 : f.val = l.val) : values B h r f = B (ix2 r (rotaryLane h l)) := halves_lo _ _ _ l h3
theorem values_hi (h3 : f.val = 128 + l.val) : values B h r f = one := halves_hi _ _ _ l h3
theorem ones_store (h3 : f.val = 128 + l.val) :
    (shapeCast S1x1x512x128 (broadcast S512x128 (FloatOps.ofBits FTy.bf16 0x3F80#16 : Ideal .bf16)) shapeCasts_S512x128_S1x1x512x128 x : EReal) = values B h r f :=
  (filled_at _ x).trans (values_hi B h r f l h3).symm
theorem plain_lanes (h1 : o = 256 * h.val) :
    (fun l => (extractStridedSlice S512x128 ![0, o] A hs (ix2 r l) : EReal)) = fun l => A (ix2 r (plainLane h l)) :=
  funext fun l => lanes_at A o hs r l (plainLane h l) (by simp only [plainLane, h1])
theorem rotary_lanes (h1 : o' = 256 * h.val + 128) :
    (fun l => (extractStridedSlice S512x128 ![0, o'] A hs' (ix2 r l) : EReal)) = fun l => A (ix2 r (rotaryLane h l)) :=
  funext fun l => lanes_at A o' hs' r l (rotaryLane h l) (by simp only [rotaryLane, h1])
theorem values_store (h2 : r.val = (x 2).val) (hl : l.val = (x 3).val) (h3 : f.val = l.val) (h1 : o' = 256 * h.val + 128) :
    (shapeCast S1x1x512x128 (truncf FTy.bf16 (extractStridedSlice S512x128 ![0, o'] B hs') bitsLt_bf16_f32) shapeCasts_S512x128_S1x1x512x128 x : EReal) = values B h r f :=
  (copied_at _ x r l h2 hl).trans ((congrFun (rotary_lanes B h r o' hs' h1) l).trans (values_lo B h r f l h3).symm)
theorem times_at (e : FVec Ideal S512x1 .f32) (s : EReal) (z : Fin 1) : (mulf e (broadcast S512x1 (s : Ideal .f32)) (ix2 r z) : EReal) = e (ix2 r z) * s := by
  pointwise
/-- The queries' factors. -/
theorem rootQ_at (h1 : o = 256 * h.val) (h1' : o' = 256 * h.val + 128) :
    (mulf (roots (extractStridedSlice S512x128 ![0, o] A hs) (extractStridedSlice S512x128 ![0, o'] A hs') perLane half eps) (broadcast S512x1 scale) (ix2 r (0 : Fin 1)) : EReal)
      = rootQ A h r := by
  refine (times_at r _ scale 0).trans (congrArg (· * scale) ((roots_at _ _ _ _ _ r 0).trans ?_))
  rw [plain_lanes A h r o hs h1, rotary_lanes A h r o' hs' h1']
theorem queries_plain (h2 : r.val = (x 2).val) (hl : l.val = (x 3).val) (h3 : f.val = l.val) (h1 : o = 256 * h.val) (h1' : o' = 256 * h.val + 128) :
    (shapeCast S1x1x512x128 (truncf FTy.bf16 (mulf (mulf (extractStridedSlice S512x128 ![0, o] A hs) (broadcastTo S512x128 (extractStridedSlice S1x128 ![0, 0] (shapeCast S1x256 gq shapeCasts_S1x256_S1x256) slices_S1x256_o0_0_S1x128)
      broadcasts_S1x128_S512x128)) (broadcastTo S512x128 (mulf (roots (extractStridedSlice S512x128 ![0, o] A hs) (extractStridedSlice S512x128 ![0, o'] A hs') perLane half eps) (broadcast S512x1 scale)) broadcasts_S512x1_S512x128)) bitsLt_bf16_f32) shapeCasts_S512x128_S1x1x512x128 x : EReal)
      = queries A gq a h r f := by
  refine (plain_at _ gq _ x r l h2 hl).trans (Eq.trans ?_ (halves_lo _ _ _ l h3).symm)
  rw [rootQ_at A h r o o' hs hs' h1 h1', congrFun (plain_lanes A h r o hs h1) l]
theorem queries_rotary (h2 : r.val = (x 2).val) (hl : l.val = (x 3).val) (h3 : f.val = 128 + l.val) (h1 : o = 256 * h.val) (h1' : o' = 256 * h.val + 128) :
    (shapeCast S1x1x512x128 (truncf FTy.bf16 (mulf (rotated (extractStridedSlice S512x128 ![0, o'] A hs') gq a) (broadcastTo S512x128
      (mulf (roots (extractStridedSlice S512x128 ![0, o] A hs) (extractStridedSlice S512x128 ![0, o'] A hs') perLane half eps) (broadcast S512x1 scale)) broadcasts_S512x1_S512x128)) bitsLt_bf16_f32) shapeCasts_S512x128_S1x1x512x128 x : EReal)
      = queries A gq a h r f := by
  refine (rotary_at _ _ x r l h2 hl).trans (Eq.trans ?_ (halves_hi _ _ _ l h3).symm)
  rw [rootQ_at A h r o o' hs hs' h1 h1', rotated_at, rotary_lanes A h r o' hs' h1']
theorem key_lanes : (fun l => (shapeCast S512x128 k shapeCasts_S1x512x128_S512x128 (ix2 r l) : EReal)) = fun l => k (ix3 (0 : Fin 1) r l) := by
  funext l
  pointwise
theorem rootK_at (h1 : o = 256 * h.val) :
    (roots (extractStridedSlice S512x128 ![0, o] B hs) (shapeCast S512x128 k shapeCasts_S1x512x128_S512x128) perLane half eps (ix2 r (0 : Fin 1)) : EReal) = rootK B k h r := by
  refine (roots_at _ _ _ _ _ r 0).trans ?_
  rw [plain_lanes B h r o hs h1, key_lanes]
  rfl
theorem keys_plain (h2 : r.val = (x 2).val) (hl : l.val = (x 3).val) (h3 : f.val = l.val) (h1 : o = 256 * h.val) :
    (shapeCast S1x1x512x128 (truncf FTy.bf16 (mulf (mulf (extractStridedSlice S512x128 ![0, o] B hs) (broadcastTo S512x128 (extractStridedSlice S1x128 ![0, 0] (shapeCast S1x256 gk shapeCasts_S1x256_S1x256) slices_S1x256_o0_0_S1x128)
      broadcasts_S1x128_S512x128)) (broadcastTo S512x128 (roots (extractStridedSlice S512x128 ![0, o] B hs) (shapeCast S512x128 k shapeCasts_S1x512x128_S512x128) perLane half eps) broadcasts_S512x1_S512x128)) bitsLt_bf16_f32) shapeCasts_S512x128_S1x1x512x128 x : EReal)
      = keys B gk a k h r f := by
  refine (plain_at _ gk _ x r l h2 hl).trans (Eq.trans ?_ (halves_lo _ _ _ l h3).symm)
  rw [rootK_at B k h r o hs h1, congrFun (plain_lanes B h r o hs h1) l]
theorem keys_rotary (h2 : r.val = (x 2).val) (hl : l.val = (x 3).val) (h3 : f.val = 128 + l.val) (h1 : o = 256 * h.val) :
    (shapeCast S1x1x512x128 (truncf FTy.bf16 (select (cmpi CmpIPredicate.slt (iota Kind.tc S512x128 32 [1] iota_S512x128_d1_w32) (broadcast S512x128 64#32))
      (mulf (rotated (shapeCast S512x128 k shapeCasts_S1x512x128_S512x128) gk a) (broadcastTo S512x128 (roots (extractStridedSlice S512x128 ![0, o] B hs) (shapeCast S512x128 k shapeCasts_S1x512x128_S512x128) perLane half eps) broadcasts_S512x1_S512x128))
      (broadcast S512x128 zero)) bitsLt_bf16_f32) shapeCasts_S512x128_S1x1x512x128 x : EReal)
      = keys B gk a k h r f := by
  refine (masked_at _ _ _ x r l h2 hl).trans (Eq.trans ?_ (halves_hi _ _ _ l h3).symm)
  rw [rootK_at B k h r o hs h1, rotated_at, key_lanes]
end Blocks

variable (m : (ℓ : Loc nD τ sig) → Buf (Elt Ideal) ℓ) (c : Dev nD) (t : Fin cfg0.N)

/-- The queries' projection. -/
abbrev projQ : FVec Ideal S512x2048 .f32 := k0_pay1 (F := Ideal) (X0_0 m c t) (iblk m c 4 t) (iblk m c 6 t)
/-- The keys' and values' projection. -/
abbrev projK : FVec Ideal S512x2048 .f32 := k0_pay3 (F := Ideal) (k0_pay2 (X0_1 m c t) (iblk m c 5 t)) (iblk m c 7 t)

/-- The values' block, as the body leaves it. -/
theorem after12 (y : S1x8x512x256.Idx) : (dats m 0 c).after 12 t y = values (projK m c t) (y 1) (y 2) (y 3) := by
  rw [after0_12]
  frame_out
  canon_tiles x h
  all_goals open_payloads
  all_goals first
    | have e : (y 3).val = 128 + (x 3).val := by with_reducible exact h3
      exact ones_store _ (y 1) (y 2) (y 3) (x 3) x e
    | have e : (y 3).val = (x 3).val := by with_reducible exact h3
      exact values_store _ (y 1) (y 2) (y 3) (x 3) x _ _ h2 rfl e (by omega)
/-- The queries' block, as the body leaves it. -/
theorem after10 (y : S1x8x512x256.Idx) : (dats m 0 c).after 10 t y = queries (projQ m c t) (iblk m c 8 t) (iblk m c 3 t) (y 1) (y 2) (y 3) := by
  rw [after0_10]
  unfold outsAt0
  dsimp only
  frame_out
  canon_tiles x h
  all_goals open_payloads
  all_goals first
    | have e : (y 3).val = 128 + (x 3).val := by with_reducible exact h3
      exact queries_rotary _ _ _ (y 1) (y 2) (y 3) (x 3) x _ _ _ _ h2 rfl e (by omega) (by omega)
    | have e : (y 3).val = (x 3).val := by with_reducible exact h3
      exact queries_plain _ _ _ (y 1) (y 2) (y 3) (x 3) x _ _ _ _ h2 rfl e (by omega) (by omega)
/-- The keys' block, as the body leaves it. -/
theorem after11 (y : S1x8x512x256.Idx) : (dats m 0 c).after 11 t y = keys (projK m c t) (iblk m c 9 t) (iblk m c 3 t) (iblk m c 2 t) (y 1) (y 2) (y 3) := by
  rw [after0_11]
  frame_out
  canon_tiles x h
  all_goals open_payloads
  all_goals first
    | have e : (y 3).val = 128 + (x 3).val := by with_reducible exact h3
      exact keys_rotary _ _ _ _ (y 1) (y 2) (y 3) (x 3) x _ _ h2 rfl e (by omega)
    | have e : (y 3).val = (x 3).val := by with_reducible exact h3
      exact keys_plain _ _ _ _ (y 1) (y 2) (y 3) (x 3) x _ _ h2 rfl e (by omega)

end Cert.PrepKernelIdeal.Body
-- ==== Proof.PrepHost.lean ====
/- The head preparation over the extended reals: what the host lays out for the kernel, and the blocks it takes. -/
module

public import proofs.«01_k».proof.Proof.PrepBlocks

@[expose] public section
set_option maxRecDepth 16384
set_option maxHeartbeats 1600000
noncomputable section
open Idealize.ShloMosaic Idealize.ShloMosaic.TcCoe Idealize.SL.Sem
open Idealize.ShloMosaic.Pipeline (Dat)
namespace Cert.PrepKernelIdeal.Body
open Cert.PrepKernelIdeal Cert.PrepKernelIdeal.Gen Cert.Prep

/-- A row of the queries' projection. -/
theorem pay1_at (x : Vec Ideal S1x512x512 .f32) (g : Vec Ideal S1x512 .f32) (w : Vec Ideal S512x2048 .bf16) (r : Fin 512) (n : Fin 2048) :
    (k0_pay1 (F := Ideal) x g w (ix2 r n) : EReal)
      = ∑ k : Fin 512, unit (Ideal.ofBits .f32 0x44000000#32) (fun k => x (ix3 (0 : Fin 1) r k)) (fun k => g (ix2 (0 : Fin 1) k)) k * w (ix2 k n) := by
  unfold unit
  pointwise [k0_pay1]
/-- A row of the keys' and values' projection. -/
theorem pay3_at (x : Vec Ideal S1x512x256 .f32) (g : Vec Ideal S1x256 .f32) (w : Vec Ideal S256x2048 .bf16) (r : Fin 512) (n : Fin 2048) :
    (k0_pay3 (F := Ideal) (k0_pay2 x g) w (ix2 r n) : EReal)
      = ∑ k : Fin 256, unit (Ideal.ofBits .f32 0x43800000#32) (fun k => x (ix3 (0 : Fin 1) r k)) (fun k => g (ix2 (0 : Fin 1) k)) k * w (ix2 k n) := by
  unfold unit
  pointwise [k0_pay2, k0_pay3]

/-- The blocks' places. -/
theorem idx : ∀ t : Fin cfg0.N, win0_0.index t = ![t.val / 16, t.val % 16, 4] ∧ win0_1.index t = ![t.val / 16, t.val % 16, 10] ∧ win0_2.index t = ![t.val / 16, t.val % 16, 22]
    ∧ win0_3.index t = ![t.val % 16, 0] ∧ win0_4.index t = ![0, 0] ∧ win0_5.index t = ![0, 0] ∧ win0_6.index t = ![0, 0] ∧ win0_7.index t = ![0, 0]
    ∧ win0_8.index t = ![0, 0] ∧ win0_9.index t = ![0, 0]
    ∧ win0_10.index t = ![t.val / 16, 0, t.val % 16, 0] ∧ win0_11.index t = ![t.val / 16, 0, t.val % 16, 0] ∧ win0_12.index t = ![t.val / 16, 0, t.val % 16, 0] :=
  (by decide +kernel : ∀ t : Fin grid0.N, _)

variable (m : (ℓ : Loc nD τ sig) → Buf (Elt Ideal) ℓ) (c : Dev nD)

/-- The shared product with its last sixty-four columns repeated behind it, their halves exchanged. -/
def longH (h : FVec Ideal S5x8192x2880 .f32) : FVec Ideal S5x8192x2944 .f32 :=
  concatenate S5x8192x2944 2 [⟨S5x8192x2880, h⟩, ⟨S5x8192x64, concatenate S5x8192x64 2
    [⟨S5x8192x32, extractStridedSlice S5x8192x32 ![0, 0, 32] (extractStridedSlice S5x8192x64 ![0, 0, 2816] h slices_S5x8192x2880_S5x8192x64_0_0_2816) slices_S5x8192x64_S5x8192x32_0_0_32⟩,
     ⟨S5x8192x32, extractStridedSlice S5x8192x32 ![0, 0, 0] (extractStridedSlice S5x8192x64 ![0, 0, 2816] h slices_S5x8192x2880_S5x8192x64_0_0_2816) slices_S5x8192x64_S5x8192x32_0_0_0⟩]
    concatenates_S5x8192x32_S5x8192x32_S5x8192x64_d2⟩] concatenates_S5x8192x2880_S5x8192x64_S5x8192x2944_d2
theorem host_h : V m c main_v4 = longH (m ((c : Thread nD τ).loc main_arg0)) := by
  unfold_abbrev_sides
  simp only [StableHlo.after_cons, StableHlo.after_nil]
  after_results_simp <;> (try dsimp only [Matrix.cons_val]) <;> (try after_results_simp) <;> rfl
/-- The queries' weights, each head's rotary columns repeated with their halves exchanged. -/
def longW (w : FVec Ideal S512x1536 .f32) : FVec Ideal S512x2048 .bf16 :=
  truncf .bf16 (shapeCast S512x2048 (concatenate S512x8x256 2
    [⟨S512x8x128, extractStridedSlice S512x8x128 ![0, 0, 0] (shapeCast S512x8x192 w shapeCasts_S512x1536_S512x8x192) slices_S512x8x192_S512x8x128_0_0_0⟩,
     ⟨S512x8x64, extractStridedSlice S512x8x64 ![0, 0, 128] (shapeCast S512x8x192 w shapeCasts_S512x1536_S512x8x192) slices_S512x8x192_S512x8x64_0_0_128⟩,
     ⟨S512x8x64, concatenate S512x8x64 2
      [⟨S512x8x32, extractStridedSlice S512x8x32 ![0, 0, 32] (extractStridedSlice S512x8x64 ![0, 0, 128] (shapeCast S512x8x192 w shapeCasts_S512x1536_S512x8x192) slices_S512x8x192_S512x8x64_0_0_128) slices_S512x8x64_S512x8x32_0_0_32⟩,
       ⟨S512x8x32, extractStridedSlice S512x8x32 ![0, 0, 0] (extractStridedSlice S512x8x64 ![0, 0, 128] (shapeCast S512x8x192 w shapeCasts_S512x1536_S512x8x192) slices_S512x8x192_S512x8x64_0_0_128) slices_S512x8x64_S512x8x32_0_0_0⟩]
      concatenates_S512x8x32_S512x8x32_S512x8x64_d2⟩] concatenates_S512x8x128_S512x8x64_S512x8x64_S512x8x256_d2) shapeCasts_S512x8x256_S512x2048) bitsLt_bf16_f32
theorem host_w : V m c main_v13 = longW (m ((c : Thread nD τ).loc main_arg2)) := by
  unfold_abbrev_sides
  simp only [StableHlo.after_cons, StableHlo.after_nil]
  after_results_simp <;> (try dsimp only [Matrix.cons_val]) <;> (try after_results_simp) <;> rfl
theorem host_wkv : V m c main_v34 = (truncf .bf16 (m ((c : Thread nD τ).loc main_arg4) : FVec Ideal S256x2048 .f32) bitsLt_bf16_f32 : FVec Ideal S256x2048 .bf16) := by
  unfold_abbrev_sides
  simp only [StableHlo.after_cons, StableHlo.after_nil]
  after_results_simp <;> (try dsimp only [Matrix.cons_val]) <;> (try after_results_simp) <;> rfl
/-- A head's gains, the rotary ones repeated with their halves exchanged. -/
def longG (g : FVec Ideal S192 .f32) : FVec Ideal S1x256 .f32 :=
  shapeCast S1x256 (concatenate S256 0
    [⟨S128, extractStridedSlice S128 ![0] g slices_S192_S128_0⟩,
     ⟨S64, extractStridedSlice S64 ![128] g slices_S192_S64_128⟩,
     ⟨S64, concatenate S64 0
      [⟨S32, extractStridedSlice S32 ![32] (extractStridedSlice S64 ![128] g slices_S192_S64_128) slices_S64_S32_32⟩,
       ⟨S32, extractStridedSlice S32 ![0] (extractStridedSlice S64 ![128] g slices_S192_S64_128) slices_S64_S32_0⟩]
      concatenates_S32_S32_S64_d0⟩] concatenates_S128_S64_S64_S256_d0) shapeCasts_S256_S1x256
theorem host_gq : V m c main_v41 = longG (m ((c : Thread nD τ).loc main_arg5)) := by
  unfold_abbrev_sides
  simp only [StableHlo.after_cons, StableHlo.after_nil]
  after_results_simp <;> (try dsimp only [Matrix.cons_val]) <;> (try after_results_simp) <;> rfl
theorem host_gk : V m c main_v48 = longG (m ((c : Thread nD τ).loc main_arg6)) := by
  unfold_abbrev_sides
  simp only [StableHlo.after_cons, StableHlo.after_nil]
  after_results_simp <;> (try dsimp only [Matrix.cons_val]) <;> (try after_results_simp) <;> rfl
theorem host_gl : V m c main_v49 = (shapeCast S1x512 (m ((c : Thread nD τ).loc main_arg1) : FVec Ideal S512 .f32) shapeCasts_S512_S1x512 : FVec Ideal S1x512 .f32) := by
  unfold_abbrev_sides
  simp only [StableHlo.after_cons, StableHlo.after_nil]
  after_results_simp <;> (try dsimp only [Matrix.cons_val]) <;> (try after_results_simp) <;> rfl
theorem host_gc : V m c main_v50 = (shapeCast S1x256 (m ((c : Thread nD τ).loc main_arg3) : FVec Ideal S256 .f32) shapeCasts_S256_S1x256 : FVec Ideal S1x256 .f32) := by
  unfold_abbrev_sides
  simp only [StableHlo.after_cons, StableHlo.after_nil]
  after_results_simp <;> (try dsimp only [Matrix.cons_val]) <;> (try after_results_simp) <;> rfl
/-- The angles, a position's and a frequency's product. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
          (mulf (broadcastInDim S32 ![] bcast_S_S32 (constant S_ .f32 0x40000000#32)) (sitofp .f32 (iotaInDim S32 32 0)))))
          (broadcastInDim S32 ![] bcast_S_S32 (constant S_ .f32 0x42800000#32))))))
/-- The cosines twice, the sines taken from zero, the sines. -/
def turns : FVec Ideal S8192x128 .f32 :=
  concatenate S8192x128 1 [⟨S8192x32, Host.cos (F := Ideal) angles⟩, ⟨S8192x32, Host.cos (F := Ideal) angles⟩, ⟨S8192x32, Host.negf (Host.sin (F := Ideal) angles)⟩, ⟨S8192x32, Host.sin (F := Ideal) angles⟩]
    concatenates_S8192x32_S8192x32_S8192x32_S8192x32_S8192x128_d1
theorem host_cs : V m c main_v33 = turns := by
  unfold_abbrev_sides
  simp only [StableHlo.after_cons, StableHlo.after_nil]
  after_results_simp <;> (try dsimp only [Matrix.cons_val]) <;> (try after_results_simp) <;> rfl

theorem src_cases (l : Fin 128) : (l.val < 64 ∧ (src l).val = l.val) ∨ (64 ≤ l.val ∧ l.val < 96 ∧ (src l).val = l.val - 32) ∨ (96 ≤ l.val ∧ (src l).val = l.val - 96) := by
  unfold src
  split_ifs <;> dsimp only <;> omega
theorem longH_front (h : FVec Ideal S5x8192x2880 .f32) (s : Fin 5) (i : Fin 8192) (n : Fin 2944) (hn : n.val < 2880) :
    (longH h (ix3 s i n) : EReal) = h (ix3 s i ⟨n.val, hn⟩) := by
  pointwise [longH]
  rw [dif_pos hn]
theorem longH_rot (h : FVec Ideal S5x8192x2880 .f32) (s : Fin 5) (i : Fin 8192) (l : Fin 128) :
    (longH h (ix3 s i (⟨2816 + l.val, by omega⟩ : Fin 2944)) : EReal) = h (ix3 s i (⟨2816 + (src l).val, by omega⟩ : Fin 2880)) := by
  pointwise [longH]
  have e := src_cases l
  split_ifs <;> exact congrArg (fun n => h (ix3 s i n)) (Fin.ext (by dsimp only; omega))
theorem longW_plain (w : FVec Ideal S512x1536 .f32) (k : Fin 512) (h : Fin 8) (l : Fin 128) :
    (longW w (ix2 k (plainLane h l)) : EReal) = w (ix2 k (⟨192 * h.val + (front l).val, by have := (front l).isLt; omega⟩ : Fin 1536)) := by
  pointwise [longW]
  unfold plainLane front
  dsimp only
  have e : (256 * h.val + l.val) % 256 = l.val := by omega
  have d : (256 * h.val + l.val) / 256 = h.val := by omega
  split_ifs <;> first | exact congrArg (fun n => w (ix2 k n)) (Fin.ext (by dsimp only; omega)) | (exfalso; omega)
theorem longW_rotary (w : FVec Ideal S512x1536 .f32) (k : Fin 512) (h : Fin 8) (l : Fin 128) :
    (longW w (ix2 k (rotaryLane h l)) : EReal) = w (ix2 k (⟨192 * h.val + (back (src l)).val, by have := (back (src l)).isLt; omega⟩ : Fin 1536)) := by
  pointwise [longW]
  unfold rotaryLane back
  dsimp only
  have s := src_cases l
  have e : (256 * h.val + 128 + l.val) % 256 = 128 + l.val := by omega
  have d : (256 * h.val + 128 + l.val) / 256 = h.val := by omega
  split_ifs <;> first | exact congrArg (fun n => w (ix2 k n)) (Fin.ext (by dsimp only; omega)) | (exfalso; omega)
theorem longG_lo (g : FVec Ideal S192 .f32) (l : Fin 128) : (longG g (ix2 (0 : Fin 1) (lo l)) : EReal) = g (ix1 (front l)) := by
  pointwise [longG]
  unfold lo front
  dsimp only
  split_ifs <;> first | rfl | (exfalso; omega)
theorem longG_hi (g : FVec Ideal S192 .f32) (l : Fin 128) : (longG g (ix2 (0 : Fin 1) (hi l)) : EReal) = g (ix1 (back (src l))) := by
  pointwise [longG]
  unfold hi back
  dsimp only
  have s := src_cases l
  split_ifs <;> first | exact congrArg (fun n => g (ix1 n)) (Fin.ext (by dsimp only; omega)) | (exfalso; omega)
section
variable (cs sn : Fin 32 → EReal) (l : Fin 128)
theorem table_one (j : Fin 32) (h : l.val < 64) (hj : j.val = l.val % 32) : cs j = table cs sn l := by
  rw [table, if_pos h]; exact congrArg cs (Fin.ext hj)
theorem table_two (j : Fin 32) (h : 64 ≤ l.val ∧ l.val < 96) (hj : j.val = l.val % 32) : -sn j = table cs sn l := by
  rw [table, if_neg (by omega), if_pos h.2]; exact congrArg (fun j => -sn j) (Fin.ext hj)
theorem table_three (j : Fin 32) (h : 96 ≤ l.val) (hj : j.val = l.val % 32) : sn j = table cs sn l := by
  rw [table, if_neg (by omega), if_neg (by omega)]; exact congrArg sn (Fin.ext hj)
end
theorem turns_at (i : Fin 8192) (l : Fin 128) : (turns (ix2 i l) : EReal)
    = table (fun j => Ideal.cos (angles (ix2 i j))) (fun j => Ideal.sin (angles (ix2 i j))) l := by
  have hl := l.isLt
  generalize hT : table _ _ l = T
  pointwise [turns]
  by_cases h : l.val < 32
  · rw [dif_pos h]
    exact (table_one (fun j => Ideal.cos (angles (ix2 i j))) (fun j => Ideal.sin (angles (ix2 i j))) l ⟨l.val, h⟩ (by omega) (by dsimp only; omega)).trans hT
  by_cases h' : l.val - 32 < 32
  · rw [dif_neg h, dif_pos h']
    exact (table_one (fun j => Ideal.cos (angles (ix2 i j))) (fun j => Ideal.sin (angles (ix2 i j))) l ⟨l.val - 32, h'⟩ (by omega) (by dsimp only; omega)).trans hT
  by_cases h'' : l.val - 32 - 32 < 32
  · rw [dif_neg h, dif_neg h', dif_pos h'']
    exact (table_two (fun j => Ideal.cos (angles (ix2 i j))) (fun j => Ideal.sin (angles (ix2 i j))) l ⟨l.val - 32 - 32, h''⟩ (by omega) (by dsimp only; omega)).trans hT
  · rw [dif_neg h, dif_neg h', dif_neg h'']
    exact (table_three (fun j => Ideal.cos (angles (ix2 i j))) (fun j => Ideal.sin (angles (ix2 i j))) l ⟨l.val - 32 - 32 - 32, by omega⟩ (by omega) (by dsimp only; omega)).trans hT

variable (t : Fin cfg0.N)
theorem iblk0 (r : Fin 512) (k : Fin 512) (s : Fin 5) (i : Fin 8192) (hs : s.val = t.val / 16) (hi : i.val = t.val % 16 * 512 + r.val) :
    (X0_0 m c t : FVec Ideal S1x512x512 .f32) (ix3 (0 : Fin 1) r k) = (m ((c : Thread nD τ).loc main_arg0) : FVec Ideal S5x8192x2880 .f32) (ix3 s i (⟨2048 + k.val, by omega⟩ : Fin 2880)) := by
  refine Eq.trans ?_ ((congrFun (host_h m c) (ix3 s i (⟨2048 + k.val, by omega⟩ : Fin 2944))).trans (longH_front _ s i _ (by dsimp only; omega)))
  unfold X0_0 Pipeline.Window.fill
  rw [dif_pos (moved0_0 t _)]
  blk_ext [iblk, idx t]
theorem iblk1 (r : Fin 512) (k : Fin 256) (s : Fin 5) (i : Fin 8192) (hs : s.val = t.val / 16) (hi : i.val = t.val % 16 * 512 + r.val) :
    (X0_1 m c t : FVec Ideal S1x512x256 .f32) (ix3 (0 : Fin 1) r k) = (m ((c : Thread nD τ).loc main_arg0) : FVec Ideal S5x8192x2880 .f32) (ix3 s i (⟨2560 + k.val, by omega⟩ : Fin 2880)) := by
  refine Eq.trans ?_ ((congrFun (host_h m c) (ix3 s i (⟨2560 + k.val, by omega⟩ : Fin 2944))).trans (longH_front _ s i _ (by dsimp only; omega)))
  unfold X0_1 Pipeline.Window.fill
  rw [dif_pos (moved0_1 t _)]
  blk_ext [iblk, idx t]
theorem iblk2 (r : Fin 512) (l : Fin 128) (s : Fin 5) (i : Fin 8192) (hs : s.val = t.val / 16) (hi : i.val = t.val % 16 * 512 + r.val) :
    (iblk m c 2 t : FVec Ideal S1x512x128 .f32) (ix3 (0 : Fin 1) r l) = (m ((c : Thread nD τ).loc main_arg0) : FVec Ideal S5x8192x2880 .f32) (ix3 s i (⟨2816 + (src l).val, by omega⟩ : Fin 2880)) := by
  refine Eq.trans ?_ ((congrFun (host_h m c) (ix3 s i (⟨2816 + l.val, by omega⟩ : Fin 2944))).trans (longH_rot _ s i l))
  blk_ext [iblk, idx t]
theorem iblk3 (r : Fin 512) (l : Fin 128) (i : Fin 8192) (hi : i.val = t.val % 16 * 512 + r.val) :
    ((iblk m c 3 t : FVec Ideal S512x128 .f32) (ix2 r l) : EReal) = table (fun j => Ideal.cos (angles (ix2 i j))) (fun j => Ideal.sin (angles (ix2 i j))) l := by
  refine Eq.trans ?_ ((congrFun (host_cs m c) (ix2 i l)).trans (turns_at i l))
  blk_ext [iblk, idx t]
theorem iblk4 (k : Fin 512) : ((iblk m c 4 t : FVec Ideal S1x512 .f32) (ix2 (0 : Fin 1) k) : EReal) = (m ((c : Thread nD τ).loc main_arg1) : FVec Ideal S512 .f32) (ix1 k) := by
  refine Eq.trans (?_ : _ = (V m c main_v49 : FVec Ideal S1x512 .f32) (ix2 (0 : Fin 1) k)) ?_
  · blk_ext [iblk, idx t]
  · rw [host_gl]; pointwise
theorem iblk5 (k : Fin 256) : ((iblk m c 5 t : FVec Ideal S1x256 .f32) (ix2 (0 : Fin 1) k) : EReal) = (m ((c : Thread nD τ).loc main_arg3) : FVec Ideal S256 .f32) (ix1 k) := by
  refine Eq.trans (?_ : _ = (V m c main_v50 : FVec Ideal S1x256 .f32) (ix2 (0 : Fin 1) k)) ?_
  · blk_ext [iblk, idx t]
  · rw [host_gc]; pointwise
theorem iblk6 (k : Fin 512) (n : Fin 2048) : ((iblk m c 6 t : FVec Ideal S512x2048 .bf16) (ix2 k n) : EReal) = longW (m ((c : Thread nD τ).loc main_arg2)) (ix2 k n) := by
  refine Eq.trans ?_ (congrFun (host_w m c) (ix2 k n))
  blk_ext [iblk, idx t]
theorem iblk7 (k : Fin 256) (n : Fin 2048) : ((iblk m c 7 t : FVec Ideal S256x2048 .bf16) (ix2 k n) : EReal) = (m ((c : Thread nD τ).loc main_arg4) : FVec Ideal S256x2048 .f32) (ix2 k n) := by
  refine Eq.trans (?_ : _ = (V m c main_v34 : FVec Ideal S256x2048 .bf16) (ix2 k n)) ?_
  · blk_ext [iblk, idx t]
  · rw [host_wkv]; pointwise
theorem iblk8 (l : Fin 256) : ((iblk m c 8 t : FVec Ideal S1x256 .f32) (ix2 (0 : Fin 1) l) : EReal) = longG (m ((c : Thread nD τ).loc main_arg5)) (ix2 (0 : Fin 1) l) := by
  refine Eq.trans ?_ (congrFun (host_gq m c) (ix2 (0 : Fin 1) l))
  blk_ext [iblk, idx t]
theorem iblk9 (l : Fin 256) : ((iblk m c 9 t : FVec Ideal S1x256 .f32) (ix2 (0 : Fin 1) l) : EReal) = longG (m ((c : Thread nD τ).loc main_arg6)) (ix2 (0 : Fin 1) l) := by
  refine Eq.trans ?_ (congrFun (host_gk m c) (ix2 (0 : Fin 1) l))
  blk_ext [iblk, idx t]

end Cert.PrepKernelIdeal.Body
end
-- ==== Proof.PrepFinal.lean ====
/- The head preparation over the extended reals: the three arrays the kernel leaves. -/
module

public import proofs.«01_k».proof.Proof.PrepHost

@[expose] public section
set_option maxRecDepth 16384
set_option maxHeartbeats 1600000
noncomputable section
open Idealize.ShloMosaic Idealize.ShloMosaic.TcCoe Idealize.SL.Sem
open Idealize.ShloMosaic.Pipeline (Dat)
namespace Cert.PrepKernelIdeal.Body
open Cert.PrepKernelIdeal Cert.PrepKernelIdeal.Gen Cert.Prep

variable (m : (ℓ : Loc nD τ sig) → Buf (Elt Ideal) ℓ) (c : Dev nD) (t : Fin cfg0.N)
/-! ## The three arrays -/

theorem per_lane_is : perLane = (((1 / 192 : ℝ)) : EReal) := IdealRules.named_const.ideal_named_scalar _ _ _ _ rfl
theorem scale_is : scale = (((Real.sqrt 192)⁻¹ * (Real.log 2)⁻¹ : ℝ) : EReal) := IdealRules.named_const.ideal_named_scalar _ _ _ _ rfl

/-- A block's sequence. -/
def seqAt : Fin 5 := ⟨t.val / 16, by have : t.val < 80 := t.isLt; omega⟩
/-- The position a block's row is. -/
def posAt (r : Fin 512) : Fin 8192 := ⟨t.val % 16 * 512 + r.val, by omega⟩

/-- A block's projection for the queries, in the arguments. -/
theorem projQ_plain (r : Fin 512) (h : Fin 8) (l : Fin 128) : (projQ m c t (ix2 r (plainLane h l)) : EReal)
    = qRow (m ((c : Thread nD τ).loc main_arg0)) (m ((c : Thread nD τ).loc main_arg1)) (m ((c : Thread nD τ).loc main_arg2)) (seqAt t) (posAt t r) h (front l) := by
  unfold projQ qRow
  rw [pay1_at]
  refine Finset.sum_congr rfl fun k _ => congrArg₂ (· * ·) ?_ ((iblk6 m c t k _).trans (longW_plain _ k h l))
  exact congrArg₂ (fun x g => unit _ x g k) (funext fun k => iblk0 m c t r k (seqAt t) (posAt t r) rfl rfl) (funext fun k => iblk4 m c t k)
theorem projQ_rotary (r : Fin 512) (h : Fin 8) (l : Fin 128) : (projQ m c t (ix2 r (rotaryLane h l)) : EReal)
    = qRow (m ((c : Thread nD τ).loc main_arg0)) (m ((c : Thread nD τ).loc main_arg1)) (m ((c : Thread nD τ).loc main_arg2)) (seqAt t) (posAt t r) h (back (src l)) := by
  unfold projQ qRow
  rw [pay1_at]
  refine Finset.sum_congr rfl fun k _ => congrArg₂ (· * ·) ?_ ((iblk6 m c t k _).trans (longW_rotary _ k h l))
  exact congrArg₂ (fun x g => unit _ x g k) (funext fun k => iblk0 m c t r k (seqAt t) (posAt t r) rfl rfl) (funext fun k => iblk4 m c t k)
/-- A block's projection for the keys and values, in the arguments. -/
theorem projK_at (r : Fin 512) (n : Fin 2048) : (projK m c t (ix2 r n) : EReal)
    = kvRow (m ((c : Thread nD τ).loc main_arg0)) (m ((c : Thread nD τ).loc main_arg3)) (m ((c : Thread nD τ).loc main_arg4)) (seqAt t) (posAt t r) n := by
  unfold projK kvRow
  rw [pay3_at]
  refine Finset.sum_congr rfl fun k _ => congrArg₂ (· * ·) ?_ (iblk7 m c t k _)
  exact congrArg₂ (fun x g => unit _ x g k) (funext fun k => iblk1 m c t r k (seqAt t) (posAt t r) rfl rfl) (funext fun k => iblk5 m c t k)

/-- A block of the queries, in the arguments. -/
theorem queries_blk (h : Fin 8) (r : Fin 512) (f : Fin 256) : queries (projQ m c t) (iblk m c 8 t) (iblk m c 3 t) h r f
    = qOut (m ((c : Thread nD τ).loc main_arg0)) (m ((c : Thread nD τ).loc main_arg1)) (m ((c : Thread nD τ).loc main_arg2)) (m ((c : Thread nD τ).loc main_arg5)) (fun i j => angles (ix2 i j)) (seqAt t) h (posAt t r) f := by
  have e1 : (fun l => (projQ m c t (ix2 r (plainLane h l)) : EReal)) = _ := funext fun l => projQ_plain m c t r h l
  have e2 : (fun l => (projQ m c t (ix2 r (rotaryLane h l)) : EReal)) = _ := funext fun l => projQ_rotary m c t r h l
  have e3 : (fun l => ((iblk m c 8 t : FVec Ideal S1x256 .f32) (ix2 (0 : Fin 1) (lo l)) : EReal)) = _ := funext fun l => (iblk8 m c t (lo l)).trans (longG_lo _ l)
  have e4 : (fun l => ((iblk m c 8 t : FVec Ideal S1x256 .f32) (ix2 (0 : Fin 1) (hi l)) : EReal)) = _ := funext fun l => (iblk8 m c t (hi l)).trans (longG_hi _ l)
  have e5 : (fun l => ((iblk m c 3 t : FVec Ideal S512x128 .f32) (ix2 r l) : EReal)) = _ := funext fun l => iblk3 m c t r l (posAt t r) rfl
  unfold queries rootQ qOut
  rw [e1, e2, e4, e5]
  refine Eq.trans ?_ (query_eq perLane scale per_lane_is scale_is _ _ _ _ f)
  refine congrArg (fun a => halves a _ f) (funext fun l => ?_)
  exact congrArg₂ (fun a b => a * b * _) (congrFun e1 l) (congrFun e3 l)
/-- A block of the keys, in the arguments. -/
theorem keys_blk (h : Fin 8) (r : Fin 512) (f : Fin 256) : keys (projK m c t) (iblk m c 9 t) (iblk m c 3 t) (iblk m c 2 t) h r f
    = kOut (m ((c : Thread nD τ).loc main_arg0)) (m ((c : Thread nD τ).loc main_arg3)) (m ((c : Thread nD τ).loc main_arg4)) (m ((c : Thread nD τ).loc main_arg6)) (fun i j => angles (ix2 i j)) (seqAt t) h (posAt t r) f := by
  have e1 : (fun l => (projK m c t (ix2 r (plainLane h l)) : EReal)) = fun l => kRow (m ((c : Thread nD τ).loc main_arg0)) (m ((c : Thread nD τ).loc main_arg3)) (m ((c : Thread nD τ).loc main_arg4)) (seqAt t) (posAt t r) h (front l) :=
    funext fun l => (projK_at m c t r _).trans (kRow_front _ _ _ _ _ _ l).symm
  have e2 : (fun l => ((iblk m c 2 t : FVec Ideal S1x512x128 .f32) (ix3 (0 : Fin 1) r l) : EReal)) = fun l => kRow (m ((c : Thread nD τ).loc main_arg0)) (m ((c : Thread nD τ).loc main_arg3)) (m ((c : Thread nD τ).loc main_arg4)) (seqAt t) (posAt t r) h (back (src l)) :=
    funext fun l => (iblk2 m c t r l (seqAt t) (posAt t r) rfl rfl).trans (kRow_back _ _ _ _ _ _ (src l)).symm
  have e3 : (fun l => ((iblk m c 9 t : FVec Ideal S1x256 .f32) (ix2 (0 : Fin 1) (lo l)) : EReal)) = _ := funext fun l => (iblk9 m c t (lo l)).trans (longG_lo _ l)
  have e4 : (fun l => ((iblk m c 9 t : FVec Ideal S1x256 .f32) (ix2 (0 : Fin 1) (hi l)) : EReal)) = _ := funext fun l => (iblk9 m c t (hi l)).trans (longG_hi _ l)
  have e5 : (fun l => ((iblk m c 3 t : FVec Ideal S512x128 .f32) (ix2 r l) : EReal)) = _ := funext fun l => iblk3 m c t r l (posAt t r) rfl
  unfold keys rootK kOut
  rw [e1, e2, e4, e5]
  refine Eq.trans ?_ (key_eq perLane zero per_lane_is _ _ _ _ f)
  refine congrArg (fun a => halves a _ f) (funext fun l => ?_)
  exact congrArg₂ (fun a b => a * b * _) (congrFun e1 l) (congrFun e3 l)
/-- A block of the values, in the arguments. -/
theorem values_blk (h : Fin 8) (r : Fin 512) (f : Fin 256) : values (projK m c t) h r f
    = vOut (m ((c : Thread nD τ).loc main_arg0)) (m ((c : Thread nD τ).loc main_arg3)) (m ((c : Thread nD τ).loc main_arg4)) (seqAt t) h (posAt t r) f := by
  unfold values vOut
  exact congrArg (fun a => halves a _ f) (funext fun l => projK_at m c t r _)

/-- The queries' array. -/
theorem final10 : (dats m 0 c).arrAt 10 (cfgs 0).N = (arr (qOut (m ((c : Thread nD τ).loc main_arg0)) (m ((c : Thread nD τ).loc main_arg1)) (m ((c : Thread nD τ).loc main_arg2)) (m ((c : Thread nD τ).loc main_arg5)) (fun i j => angles (ix2 i j))) : FVec Ideal S5x8x8192x256 .bf16) := by
  refine (dats m 0 c).arrAt_eq_of_covers 10 _ (by decide +kernel) fun t _ y => ?_
  blk_simp
  rw [after10]
  obtain ⟨z, h, r, f, rfl⟩ : ∃ (z : Fin 1) (h : Fin 8) (r : Fin 512) (f : Fin 256), y = ix4 z h r f := ⟨y 0, y 1, y 2, y 3, by funext a; fin_cases a <;> rfl⟩
  have ht : t.val < 80 := t.isLt
  have h0 : (((cfg0.win 10).blk t).view.emb (ix4 z h r f) : S5x8x8192x256.Idx) 0 = seqAt t := by
    apply Fin.ext; unfold seqAt; blk_simp [idx t]
  have h1 : (((cfg0.win 10).blk t).view.emb (ix4 z h r f) : S5x8x8192x256.Idx) 1 = h := by
    apply Fin.ext; blk_simp [idx t]
  have h2 : (((cfg0.win 10).blk t).view.emb (ix4 z h r f) : S5x8x8192x256.Idx) 2 = posAt t r := by
    apply Fin.ext; unfold posAt; blk_simp [idx t]
  have h3 : (((cfg0.win 10).blk t).view.emb (ix4 z h r f) : S5x8x8192x256.Idx) 3 = f := by
    apply Fin.ext; blk_simp [idx t]
  exact (queries_blk m c t h r f).trans (arr_at _ _ _ _ _ _ h0 h1 h2 h3).symm
/-- The keys' array. -/
theorem final11 : (dats m 0 c).arrAt 11 (cfgs 0).N = (arr (kOut (m ((c : Thread nD τ).loc main_arg0)) (m ((c : Thread nD τ).loc main_arg3)) (m ((c : Thread nD τ).loc main_arg4)) (m ((c : Thread nD τ).loc main_arg6)) (fun i j => angles (ix2 i j))) : FVec Ideal S5x8x8192x256 .bf16) := by
  refine (dats m 0 c).arrAt_eq_of_covers 11 _ (by decide +kernel) fun t _ y => ?_
  blk_simp
  rw [after11]
  obtain ⟨z, h, r, f, rfl⟩ : ∃ (z : Fin 1) (h : Fin 8) (r : Fin 512) (f : Fin 256), y = ix4 z h r f := ⟨y 0, y 1, y 2, y 3, by funext a; fin_cases a <;> rfl⟩
  have ht : t.val < 80 := t.isLt
  have h0 : (((cfg0.win 11).blk t).view.emb (ix4 z h r f) : S5x8x8192x256.Idx) 0 = seqAt t := by
    apply Fin.ext; unfold seqAt; blk_simp [idx t]
  have h1 : (((cfg0.win 11).blk t).view.emb (ix4 z h r f) : S5x8x8192x256.Idx) 1 = h := by
    apply Fin.ext; blk_simp [idx t]
  have h2 : (((cfg0.win 11).blk t).view.emb (ix4 z h r f) : S5x8x8192x256.Idx) 2 = posAt t r := by
    apply Fin.ext; unfold posAt; blk_simp [idx t]
  have h3 : (((cfg0.win 11).blk t).view.emb (ix4 z h r f) : S5x8x8192x256.Idx) 3 = f := by
    apply Fin.ext; blk_simp [idx t]
  exact (keys_blk m c t h r f).trans (arr_at _ _ _ _ _ _ h0 h1 h2 h3).symm
/-- The values' array. -/
theorem final12 : (dats m 0 c).arrAt 12 (cfgs 0).N = (arr (vOut (m ((c : Thread nD τ).loc main_arg0)) (m ((c : Thread nD τ).loc main_arg3)) (m ((c : Thread nD τ).loc main_arg4))) : FVec Ideal S5x8x8192x256 .bf16) := by
  refine (dats m 0 c).arrAt_eq_of_covers 12 _ (by decide +kernel) fun t _ y => ?_
  blk_simp
  rw [after12]
  obtain ⟨z, h, r, f, rfl⟩ : ∃ (z : Fin 1) (h : Fin 8) (r : Fin 512) (f : Fin 256), y = ix4 z h r f := ⟨y 0, y 1, y 2, y 3, by funext a; fin_cases a <;> rfl⟩
  have ht : t.val < 80 := t.isLt
  have h0 : (((cfg0.win 12).blk t).view.emb (ix4 z h r f) : S5x8x8192x256.Idx) 0 = seqAt t := by
    apply Fin.ext; unfold seqAt; blk_simp [idx t]
  have h1 : (((cfg0.win 12).blk t).view.emb (ix4 z h r f) : S5x8x8192x256.Idx) 1 = h := by
    apply Fin.ext; blk_simp [idx t]
  have h2 : (((cfg0.win 12).blk t).view.emb (ix4 z h r f) : S5x8x8192x256.Idx) 2 = posAt t r := by
    apply Fin.ext; unfold posAt; blk_simp [idx t]
  have h3 : (((cfg0.win 12).blk t).view.emb (ix4 z h r f) : S5x8x8192x256.Idx) 3 = f := by
    apply Fin.ext; blk_simp [idx t]
  exact (values_blk m c t h r f).trans (arr_at _ _ _ _ _ _ h0 h1 h2 h3).symm

end Cert.PrepKernelIdeal.Body
end
-- ==== Proof.PrepRef.lean ====
/- The head preparation's reference over the extended reals: its three arrays, entry by entry. -/
module

public import proofs.«01_k».proof.Defs
public import proofs.«01_k».proof.Proof.Gen.PrepReferenceIdeal.Run
public import proofs.«01_k».proof.Proof.PrepMath
public import Idealize.ShloMosaic.Lib.Pointwise
public import Idealize.ShloMosaic.Lib.Pipeline.ValueKit

@[expose] public section
set_option maxRecDepth 16384
set_option maxHeartbeats 1600000
noncomputable section
open Idealize.ShloMosaic Idealize.ShloMosaic.TcCoe Idealize.SL.Sem
namespace Cert.PrepRef
open Cert.PrepReferenceIdeal Cert.PrepReferenceIdeal.Gen Cert.PrepReferenceIdeal.Value Cert.Prep

/-- The angles, a position's and a frequency's product. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
          (mulf (broadcastInDim S32 ![] bcast_S_S32 (constant S_ .f32 0x40000000#32)) (sitofp .f32 (iotaInDim S32 32 0)))))
          (broadcastInDim S32 ![] bcast_S_S32 (constant S_ .f32 0x42800000#32))))))
/-- The norm of the 512 latent entries. -/
def latQ (h : FVec Ideal S5x8192x2880 .f32) (g : FVec Ideal S512 .f32) : FVec Ideal S5x8192x512 .f32 :=
  mulf (mulf (extractStridedSlice S5x8192x512 ![0, 0, 2048] h slices_S5x8192x2880_S5x8192x512_0_0_2048) (broadcastInDim S5x8192x512 ![0, 1, 2] bcast_S5x8192x1_S5x8192x512_0_1_2
      (Host.rsqrt (addf (Host.divf (broadcastInDim S5x8192x1 ![0, 1] bcast_S5x8192_S5x8192x1_0_1
        (Host.reduceAdd (mulf (extractStridedSlice S5x8192x512 ![0, 0, 2048] h slices_S5x8192x2880_S5x8192x512_0_0_2048) (extractStridedSlice S5x8192x512 ![0, 0, 2048] h slices_S5x8192x2880_S5x8192x512_0_0_2048)) (constant S_ .f32 0x00000000#32) reducesTo_S5x8192x512_S5x8192_d2 h_S_))
        (broadcastInDim S5x8192x1 ![] bcast_S_S5x8192x1 (constant S_ .f32 0x44000000#32))) (broadcastInDim S5x8192x1 ![] bcast_S_S5x8192x1 (constant S_ .f32 0x358637BD#32))))))
    (broadcastInDim S5x8192x512 ![0, 1, 2] bcast_S1x1x512_S5x8192x512_0_1_2 (broadcastInDim S1x1x512 ![2] bcast_S512_S1x1x512_2 g))
theorem latQ_at (h : FVec Ideal S5x8192x2880 .f32) (g : FVec Ideal S512 .f32) (s : Fin 5) (i : Fin 8192) (k : Fin 512) :
    (latQ h g (ix3 s i k) : EReal) = unit (Ideal.ofBits .f32 0x44000000#32) (fun k => h (ix3 s i (⟨2048 + k.val, by omega⟩ : Fin 2880))) (fun k => g (ix1 k)) k := by
  unfold unit
  pointwise [latQ]
/-- The queries, head by head. -/
def projQ (h : FVec Ideal S5x8192x2880 .f32) (g : FVec Ideal S512 .f32) (w : FVec Ideal S512x1536 .f32) : FVec Ideal S5x8192x8x192 .f32 :=
  shapeCast S5x8192x8x192 (Host.dotGeneral dot_S5x8192x512_S512x1536_S5x8192x1536_2_0_01_1_n_n none (latQ h g) w) shapeCasts_S5x8192x1536_S5x8192x8x192
theorem projQ_at (h : FVec Ideal S5x8192x2880 .f32) (g : FVec Ideal S512 .f32) (w : FVec Ideal S512x1536 .f32) (s : Fin 5) (i : Fin 8192) (a : Fin 8) (e : Fin 192) :
    (projQ h g w (ix4 s i a e) : EReal) = qRow h g w s i a e := by
  unfold qRow
  pointwise [projQ]
  refine Finset.sum_congr rfl fun k _ => congrArg₂ (· * ·) (latQ_at h g s i k) (congrArg (fun n => w (ix2 k n)) (Fin.ext (by dsimp only; omega)))
/-- The norm of the 256 latent entries. -/
def latC (h : FVec Ideal S5x8192x2880 .f32) (g : FVec Ideal S256 .f32) : FVec Ideal S5x8192x256 .f32 :=
  mulf (mulf (extractStridedSlice S5x8192x256 ![0, 0, 2560] h slices_S5x8192x2880_S5x8192x256_0_0_2560) (broadcastInDim S5x8192x256 ![0, 1, 2] bcast_S5x8192x1_S5x8192x256_0_1_2
      (Host.rsqrt (addf (Host.divf (broadcastInDim S5x8192x1 ![0, 1] bcast_S5x8192_S5x8192x1_0_1
        (Host.reduceAdd (mulf (extractStridedSlice S5x8192x256 ![0, 0, 2560] h slices_S5x8192x2880_S5x8192x256_0_0_2560) (extractStridedSlice S5x8192x256 ![0, 0, 2560] h slices_S5x8192x2880_S5x8192x256_0_0_2560)) (constant S_ .f32 0x00000000#32) reducesTo_S5x8192x256_S5x8192_d2 h_S_))
        (broadcastInDim S5x8192x1 ![] bcast_S_S5x8192x1 (constant S_ .f32 0x43800000#32))) (broadcastInDim S5x8192x1 ![] bcast_S_S5x8192x1 (constant S_ .f32 0x358637BD#32))))))
    (broadcastInDim S5x8192x256 ![0, 1, 2] bcast_S1x1x256_S5x8192x256_0_1_2 (broadcastInDim S1x1x256 ![2] bcast_S256_S1x1x256_2 g))
theorem latC_at (h : FVec Ideal S5x8192x2880 .f32) (g : FVec Ideal S256 .f32) (s : Fin 5) (i : Fin 8192) (k : Fin 256) :
    (latC h g (ix3 s i k) : EReal) = unit (Ideal.ofBits .f32 0x43800000#32) (fun k => h (ix3 s i (⟨2560 + k.val, by omega⟩ : Fin 2880))) (fun k => g (ix1 k)) k := by
  unfold unit
  pointwise [latC]
/-- The keys' plain lanes and the values, head by head. -/
def projC (h : FVec Ideal S5x8192x2880 .f32) (g : FVec Ideal S256 .f32) (w : FVec Ideal S256x2048 .f32) : FVec Ideal S5x8192x8x256 .f32 :=
  shapeCast S5x8192x8x256 (Host.dotGeneral dot_S5x8192x256_S256x2048_S5x8192x2048_2_0_01_1_n_n none (latC h g) w) shapeCasts_S5x8192x2048_S5x8192x8x256
theorem projC_at (h : FVec Ideal S5x8192x2880 .f32) (g : FVec Ideal S256 .f32) (w : FVec Ideal S256x2048 .f32) (s : Fin 5) (i : Fin 8192) (a : Fin 8) (e : Fin 256) :
    (projC h g w (ix4 s i a e) : EReal) = kvRow h g w s i (⟨256 * a.val + e.val, by omega⟩ : Fin 2048) := by
  unfold kvRow
  pointwise [projC]
  refine Finset.sum_congr rfl fun k _ => congrArg₂ (· * ·) (latC_at h g s i k) (congrArg (fun n => w (ix2 k n)) (Fin.ext (by dsimp only; omega)))
/-- The keys before their norm: the projected lanes, then the lanes all heads share. -/
def cat (h : FVec Ideal S5x8192x2880 .f32) (g : FVec Ideal S256 .f32) (w : FVec Ideal S256x2048 .f32) : FVec Ideal S5x8192x8x192 .f32 :=
  concatenate S5x8192x8x192 3 [⟨S5x8192x8x128, extractStridedSlice S5x8192x8x128 ![0, 0, 0, 0] (projC h g w) slices_S5x8192x8x256_S5x8192x8x128_0_0_0_0⟩,
    ⟨S5x8192x8x64, broadcastInDim S5x8192x8x64 ![0, 1, 2, 3] bcast_S5x8192x1x64_S5x8192x8x64_0_1_2_3 (broadcastInDim S5x8192x1x64 ![0, 1, 3] bcast_S5x8192x64_S5x8192x1x64_0_1_3
      (extractStridedSlice S5x8192x64 ![0, 0, 2816] h slices_S5x8192x2880_S5x8192x64_0_0_2816))⟩] concatenates_S5x8192x8x128_S5x8192x8x64_S5x8192x8x192_d3
theorem cat_at (h : FVec Ideal S5x8192x2880 .f32) (g : FVec Ideal S256 .f32) (w : FVec Ideal S256x2048 .f32) (s : Fin 5) (i : Fin 8192) (a : Fin 8) (e : Fin 192) :
    (cat h g w (ix4 s i a e) : EReal) = kRow h g w s i a e := by
  generalize hK : kRow h g w s i a e = K
  pointwise [cat]
  by_cases c : e.val < 128
  · rw [dif_pos c]
    rw [kRow, dif_pos c] at hK
    exact (projC_at h g w s i a _).trans hK
  · rw [dif_neg c]
    rw [kRow, dif_neg c] at hK
    exact hK
/-- The norm of each head's 192 lanes. -/
def nrm (x : FVec Ideal S5x8192x8x192 .f32) (g : FVec Ideal S192 .f32) : FVec Ideal S5x8192x8x192 .f32 :=
  mulf (mulf x (broadcastInDim S5x8192x8x192 ![0, 1, 2, 3] bcast_S5x8192x8x1_S5x8192x8x192_0_1_2_3
      (Host.rsqrt (addf (Host.divf (broadcastInDim S5x8192x8x1 ![0, 1, 2] bcast_S5x8192x8_S5x8192x8x1_0_1_2
        (Host.reduceAdd (mulf x x) (constant S_ .f32 0x00000000#32) reducesTo_S5x8192x8x192_S5x8192x8_d3 h_S_))
        (broadcastInDim S5x8192x8x1 ![] bcast_S_S5x8192x8x1 (constant S_ .f32 0x43400000#32))) (broadcastInDim S5x8192x8x1 ![] bcast_S_S5x8192x8x1 (constant S_ .f32 0x358637BD#32))))))
    (broadcastInDim S5x8192x8x192 ![0, 1, 2, 3] bcast_S1x1x1x192_S5x8192x8x192_0_1_2_3 (broadcastInDim S1x1x1x192 ![3] bcast_S192_S1x1x1x192_3 g))
theorem nrm_at (x : FVec Ideal S5x8192x8x192 .f32) (g : FVec Ideal S192 .f32) (s : Fin 5) (i : Fin 8192) (a : Fin 8) (e : Fin 192) :
    (nrm x g (ix4 s i a e) : EReal) = unit (Ideal.ofBits .f32 0x43400000#32) (fun e => x (ix4 s i a e)) (fun e => g (ix1 e)) e := by
  unfold unit
  pointwise [nrm]
theorem spin_mid (cs sn : Fin 32 → EReal) (t : Fin 192 → EReal) (e : Fin 192) (j : Fin 32) (a b : Fin 192) (h : 128 ≤ e.val ∧ e.val < 160) (ha : a.val = e.val) (hb : b.val = e.val + 32)
    (hj : j.val = e.val - 128) : t a * cs j - t b * sn j = spin cs sn t e := by
  rw [spin, dif_neg (by omega), dif_pos h.2]
  exact congrArg₂ (· - ·) (congrArg₂ (· * ·) (congrArg t (Fin.ext ha)) (congrArg cs (Fin.ext hj))) (congrArg₂ (· * ·) (congrArg t (Fin.ext hb)) (congrArg sn (Fin.ext hj)))
theorem spin_last (cs sn : Fin 32 → EReal) (t : Fin 192 → EReal) (e : Fin 192) (j : Fin 32) (a b : Fin 192) (h : 160 ≤ e.val) (ha : a.val = e.val) (hb : b.val = e.val - 32)
    (hj : j.val = e.val - 160) : t a * cs j + t b * sn j = spin cs sn t e := by
  rw [spin, dif_neg (by omega), dif_neg (by omega)]
  exact congrArg₂ (· + ·) (congrArg₂ (· * ·) (congrArg t (Fin.ext ha)) (congrArg cs (Fin.ext hj))) (congrArg₂ (· * ·) (congrArg t (Fin.ext hb)) (congrArg sn (Fin.ext hj)))
/-- The rotation of each head's last 64 lanes. -/
def rot (x : FVec Ideal S5x8192x8x192 .f32) : FVec Ideal S5x8192x8x192 .f32 :=
  concatenate S5x8192x8x192 3 [⟨S5x8192x8x128, extractStridedSlice S5x8192x8x128 ![0, 0, 0, 0] x slices_S5x8192x8x192_S5x8192x8x128_0_0_0_0⟩,
    ⟨S5x8192x8x32, subf (F := Ideal)
      (mulf (extractStridedSlice S5x8192x8x32 ![0, 0, 0, 128] x slices_S5x8192x8x192_S5x8192x8x32_0_0_0_128)
        (broadcastInDim S5x8192x8x32 ![0, 1, 2, 3] bcast_S1x8192x1x32_S5x8192x8x32_0_1_2_3 (broadcastInDim S1x8192x1x32 ![1, 3] bcast_S8192x32_S1x8192x1x32_1_3 (Host.cos angles))))
      (mulf (extractStridedSlice S5x8192x8x32 ![0, 0, 0, 160] x slices_S5x8192x8x192_S5x8192x8x32_0_0_0_160)
        (broadcastInDim S5x8192x8x32 ![0, 1, 2, 3] bcast_S1x8192x1x32_S5x8192x8x32_0_1_2_3 (broadcastInDim S1x8192x1x32 ![1, 3] bcast_S8192x32_S1x8192x1x32_1_3 (Host.sin angles))))⟩,
    ⟨S5x8192x8x32, addf (F := Ideal)
      (mulf (extractStridedSlice S5x8192x8x32 ![0, 0, 0, 160] x slices_S5x8192x8x192_S5x8192x8x32_0_0_0_160)
        (broadcastInDim S5x8192x8x32 ![0, 1, 2, 3] bcast_S1x8192x1x32_S5x8192x8x32_0_1_2_3 (broadcastInDim S1x8192x1x32 ![1, 3] bcast_S8192x32_S1x8192x1x32_1_3 (Host.cos angles))))
      (mulf (extractStridedSlice S5x8192x8x32 ![0, 0, 0, 128] x slices_S5x8192x8x192_S5x8192x8x32_0_0_0_128)
        (broadcastInDim S5x8192x8x32 ![0, 1, 2, 3] bcast_S1x8192x1x32_S5x8192x8x32_0_1_2_3 (broadcastInDim S1x8192x1x32 ![1, 3] bcast_S8192x32_S1x8192x1x32_1_3 (Host.sin angles))))⟩] concatenates_S5x8192x8x128_S5x8192x8x32_S5x8192x8x32_S5x8192x8x192_d3
theorem rot_at (x : FVec Ideal S5x8192x8x192 .f32) (s : Fin 5) (i : Fin 8192) (a : Fin 8) (e : Fin 192) :
    (rot x (ix4 s i a e) : EReal) = spin (fun j => Ideal.cos (angles (ix2 i j))) (fun j => Ideal.sin (angles (ix2 i j))) (fun e => x (ix4 s i a e)) e := by
  generalize hK : spin _ _ _ e = K
  pointwise [rot]
  by_cases c : e.val < 128
  · rw [dif_pos c]
    rw [spin, dif_pos c] at hK
    exact hK
  rw [dif_neg c]
  by_cases c' : e.val - 128 < 32
  · rw [dif_pos c']
    exact (spin_mid _ _ _ e ⟨e.val - 128, c'⟩ ⟨128 + (e.val - 128), by omega⟩ ⟨160 + (e.val - 128), by omega⟩ (by omega) (by dsimp only; omega) (by dsimp only; omega) rfl).trans hK
  · rw [dif_neg c']
    exact (spin_last _ _ _ e ⟨e.val - 128 - 32, by omega⟩ ⟨160 + (e.val - 128 - 32), by omega⟩ ⟨128 + (e.val - 128 - 32), by omega⟩ (by omega) (by dsimp only; omega) (by dsimp only; omega)
      (by dsimp only; omega)).trans hK
/-- The queries' array. -/
def resQ (h : FVec Ideal S5x8192x2880 .f32) (gl : FVec Ideal S512 .f32) (w : FVec Ideal S512x1536 .f32) (g : FVec Ideal S192 .f32) : FVec Ideal S5x8x8192x256 .bf16 :=
  transpose S5x8x8192x256 [0, 2, 1, 3] (truncf .bf16 (concatenate S5x8192x8x256 3
    [⟨S5x8192x8x192, Host.divf (F := Ideal) (rot (nrm (projQ h gl w) g)) (broadcastInDim S5x8192x8x192 ![] bcast_S_S5x8192x8x192 (mulf (Host.sqrt (constant S_ .f32 0x43400000#32)) (Host.log (constant S_ .f32 0x40000000#32))))⟩,
     ⟨S5x8192x8x64, extractStridedSlice S5x8192x8x64 ![0, 0, 0, 128] (Host.divf (F := Ideal) (rot (nrm (projQ h gl w) g)) (broadcastInDim S5x8192x8x192 ![] bcast_S_S5x8192x8x192 (mulf (Host.sqrt (constant S_ .f32 0x43400000#32)) (Host.log (constant S_ .f32 0x40000000#32))))) slices_S5x8192x8x192_S5x8192x8x64_0_0_0_128⟩]
    concatenates_S5x8192x8x192_S5x8192x8x64_S5x8192x8x256_d3) bitsLt_bf16_f32) transposes_S5x8192x8x256_S5x8x8192x256_0_2_1_3
theorem resQ_at (h : FVec Ideal S5x8192x2880 .f32) (gl : FVec Ideal S512 .f32) (w : FVec Ideal S512x1536 .f32) (g : FVec Ideal S192 .f32) (s : Fin 5) (a : Fin 8) (i : Fin 8192) (f : Fin 256) :
    (resQ h gl w g (ix4 s a i f) : EReal) = qOut h gl w g (fun i j => angles (ix2 i j)) s a i f := by
  have e : ∀ e, (rot (nrm (projQ h gl w) g) (ix4 s i a e) : EReal) = spin (fun j => Ideal.cos (angles (ix2 i j))) (fun j => Ideal.sin (angles (ix2 i j))) (unit (Ideal.ofBits .f32 0x43400000#32) (qRow h gl w s i a) (fun e => g (ix1 e))) e := by
    intro e
    rw [rot_at]
    congr 1
    funext e
    rw [nrm_at]
    congr 1
    exact funext fun e => projQ_at h gl w s i a e
  generalize hK : qOut _ _ _ _ _ s a i f = K
  pointwise [resQ]
  by_cases c : f.val < 192
  · rw [dif_pos c, e, ← hK, qOut, lane, dif_pos c]
  · rw [dif_neg c, e, ← hK, qOut, lane, dif_neg c]
    exact congrArg (fun n => Ideal.div (spin _ _ _ n) _) (Fin.ext (by dsimp only; omega))
/-- The keys' array. -/
def resK (h : FVec Ideal S5x8192x2880 .f32) (gc : FVec Ideal S256 .f32) (w : FVec Ideal S256x2048 .f32) (g : FVec Ideal S192 .f32) : FVec Ideal S5x8x8192x256 .bf16 :=
  transpose S5x8x8192x256 [0, 2, 1, 3] (truncf .bf16 (concatenate S5x8192x8x256 3
    [⟨S5x8192x8x192, rot (nrm (cat h gc w) g)⟩, ⟨S5x8192x8x64, broadcastInDim S5x8192x8x64 ![] bcast_S_S5x8192x8x64 (constant (F := Ideal) S_ .f32 0x00000000#32)⟩]
    concatenates_S5x8192x8x192_S5x8192x8x64_S5x8192x8x256_d3) bitsLt_bf16_f32) transposes_S5x8192x8x256_S5x8x8192x256_0_2_1_3
theorem resK_at (h : FVec Ideal S5x8192x2880 .f32) (gc : FVec Ideal S256 .f32) (w : FVec Ideal S256x2048 .f32) (g : FVec Ideal S192 .f32) (s : Fin 5) (a : Fin 8) (i : Fin 8192) (f : Fin 256) :
    (resK h gc w g (ix4 s a i f) : EReal) = kOut h gc w g (fun i j => angles (ix2 i j)) s a i f := by
  have e : ∀ e, (rot (nrm (cat h gc w) g) (ix4 s i a e) : EReal) = spin (fun j => Ideal.cos (angles (ix2 i j))) (fun j => Ideal.sin (angles (ix2 i j))) (unit (Ideal.ofBits .f32 0x43400000#32) (kRow h gc w s i a) (fun e => g (ix1 e))) e := by
    intro e
    rw [rot_at]
    congr 1
    funext e
    rw [nrm_at]
    congr 1
    exact funext fun e => cat_at h gc w s i a e
  generalize hK : kOut _ _ _ _ _ s a i f = K
  pointwise [resK]
  by_cases c : f.val < 192
  · rw [dif_pos c, e, ← hK, kOut, if_pos c, lane, dif_pos c]
  · rw [dif_neg c, ← hK, kOut, if_neg c]
    simp
/-- The values' array. -/
def resV (h : FVec Ideal S5x8192x2880 .f32) (gc : FVec Ideal S256 .f32) (w : FVec Ideal S256x2048 .f32) : FVec Ideal S5x8x8192x256 .bf16 :=
  transpose S5x8x8192x256 [0, 2, 1, 3] (truncf .bf16 (concatenate S5x8192x8x256 3
    [⟨S5x8192x8x128, extractStridedSlice S5x8192x8x128 ![0, 0, 0, 128] (projC h gc w) slices_S5x8192x8x256_S5x8192x8x128_0_0_0_128⟩,
     ⟨S5x8192x8x128, broadcastInDim S5x8192x8x128 ![] bcast_S_S5x8192x8x128 (constant (F := Ideal) S_ .f32 0x3F800000#32)⟩]
    concatenates_S5x8192x8x128_S5x8192x8x128_S5x8192x8x256_d3) bitsLt_bf16_f32) transposes_S5x8192x8x256_S5x8x8192x256_0_2_1_3
theorem resV_at (h : FVec Ideal S5x8192x2880 .f32) (gc : FVec Ideal S256 .f32) (w : FVec Ideal S256x2048 .f32) (s : Fin 5) (a : Fin 8) (i : Fin 8192) (f : Fin 256) :
    (resV h gc w (ix4 s a i f) : EReal) = vOut h gc w s a i f := by
  generalize hK : vOut _ _ _ s a i f = K
  pointwise [resV]
  by_cases c : f.val < 128
  · rw [dif_pos c, projC_at, ← hK, vOut, halves, dif_pos c]
    exact congrArg (fun n => kvRow h gc w s i n) (Fin.ext (by unfold rotaryLane; dsimp only; omega))
  · rw [dif_neg c, ← hK, vOut, halves, dif_neg c]
    simp

variable (m : (ℓ : Loc nD τ sig) → Buf (Elt Ideal) ℓ) (c : Dev nD)
theorem res0 : res_main_v146 m c = resQ (m ((c : Thread nD τ).loc main_arg0)) (m ((c : Thread nD τ).loc main_arg1)) (m ((c : Thread nD τ).loc main_arg2)) (m ((c : Thread nD τ).loc main_arg5)) := rfl
theorem res1 : res_main_v147 m c = resK (m ((c : Thread nD τ).loc main_arg0)) (m ((c : Thread nD τ).loc main_arg3)) (m ((c : Thread nD τ).loc main_arg4)) (m ((c : Thread nD τ).loc main_arg6)) := rfl

end Cert.PrepRef
end
-- ==== Proof.PrepCall.lean ====
/- The head preparation: its claims. -/
module

public import proofs.«01_k».proof.Defs
public import proofs.«01_k».proof.Proof.Gen.PrepKernel.Frame
public import proofs.«01_k».proof.Proof.Gen.PrepKernelIdeal.Frame
public import proofs.«01_k».proof.Proof.PrepFinal
public import proofs.«01_k».proof.Proof.PrepRef
public import Idealize.ShloMosaic.Adequacy
public import Idealize.ShloMosaic.Init

@[expose] public section
set_option maxRecDepth 16384
set_option maxHeartbeats 1600000
noncomputable section
open Idealize.ShloMosaic Idealize.ShloMosaic.TcCoe Idealize.SL.Sem
namespace Cert.PrepCall
open Cert.Prep

/-- Both programs turn by the same angles. -/
theorem angles_eq : Cert.PrepRef.angles = Cert.PrepKernelIdeal.Body.angles := rfl
theorem queries_eq (h : FVec Ideal ⟨3, ![5, 8192, 2880]⟩ .f32) (gl : FVec Ideal ⟨1, ![512]⟩ .f32) (w : FVec Ideal ⟨2, ![512, 1536]⟩ .f32) (g : FVec Ideal ⟨1, ![192]⟩ .f32) :
    arr (qOut h gl w g (fun i j => Cert.PrepKernelIdeal.Body.angles (ix2 i j))) = Cert.PrepRef.resQ h gl w g := by
  funext y
  obtain ⟨s, a, i, f, rfl⟩ : ∃ (s : Fin 5) (a : Fin 8) (i : Fin 8192) (f : Fin 256), y = ix4 s a i f := ⟨y 0, y 1, y 2, y 3, by funext a; fin_cases a <;> rfl⟩
  rw [← angles_eq]
  exact (Cert.PrepRef.resQ_at h gl w g s a i f).symm
theorem keys_eq (h : FVec Ideal ⟨3, ![5, 8192, 2880]⟩ .f32) (gc : FVec Ideal ⟨1, ![256]⟩ .f32) (w : FVec Ideal ⟨2, ![256, 2048]⟩ .f32) (g : FVec Ideal ⟨1, ![192]⟩ .f32) :
    arr (kOut h gc w g (fun i j => Cert.PrepKernelIdeal.Body.angles (ix2 i j))) = Cert.PrepRef.resK h gc w g := by
  funext y
  obtain ⟨s, a, i, f, rfl⟩ : ∃ (s : Fin 5) (a : Fin 8) (i : Fin 8192) (f : Fin 256), y = ix4 s a i f := ⟨y 0, y 1, y 2, y 3, by funext a; fin_cases a <;> rfl⟩
  rw [← angles_eq]
  exact (Cert.PrepRef.resK_at h gc w g s a i f).symm
theorem values_eq (h : FVec Ideal ⟨3, ![5, 8192, 2880]⟩ .f32) (gc : FVec Ideal ⟨1, ![256]⟩ .f32) (w : FVec Ideal ⟨2, ![256, 2048]⟩ .f32) :
    arr (vOut h gc w) = Cert.PrepRef.resV h gc w := by
  funext y
  obtain ⟨s, a, i, f, rfl⟩ : ∃ (s : Fin 5) (a : Fin 8) (i : Fin 8192) (f : Fin 256), y = ix4 s a i f := ⟨y 0, y 1, y 2, y 3, by funext a; fin_cases a <;> rfl⟩
  exact (Cert.PrepRef.resV_at h gc w s a i f).symm

/-- The kernel terminates, its arguments kept. -/
theorem frame_p : Cert.quiescent_PrepKernel := fun m g _ => Cert.PrepKernel.Gen.frame m g
/-- So does its ideal. -/
theorem frame_pi : Cert.quiescent_PrepKernelIdeal := fun m g _ => Cert.PrepKernelIdeal.Gen.frame m g
/-- So does the reference, which has no semaphore. -/
theorem frame_ri : Cert.quiescent_PrepReferenceIdeal := fun m g _ =>
  (θ_run Cert.PrepReferenceIdeal.defs _ _).mono (fun r hr => ⟨fun c => (hr c).2.2.2, sem_eq_zero_of_no_sems (by decide) r.2⟩)
    (Cert.PrepReferenceIdeal.Value.run m g)
/-- The two literals are the two constants, rounded. -/
theorem preserves : Cert.preserves_PrepKernel_PrepKernelIdeal :=
  ⟨IdealRules.named_const.statement Cert.PrepKernelIdeal.κ "per_lane" .f32 0x3BAAAAAB#32 ((1 / 192 : ℝ) : EReal) rfl,
    IdealRules.named_const.statement Cert.PrepKernelIdeal.κ "scale" .f32 0x3DD53B95#32 (((Real.sqrt 192)⁻¹ * (Real.log 2)⁻¹ : ℝ) : EReal) rfl⟩
/-- The kernel and the reference leave the same arrays. -/
theorem algebraic : Cert.algebraic_PrepKernelIdeal_PrepReferenceIdeal := by
  intro m g m' g' _ h
  refine ⟨fun c => Cert.PrepRef.resQ (m ((c.tc : Thread _ _).loc Cert.PrepKernelIdeal.main_arg0)) (m ((c.tc : Thread _ _).loc Cert.PrepKernelIdeal.main_arg1)) (m ((c.tc : Thread _ _).loc Cert.PrepKernelIdeal.main_arg2)) (m ((c.tc : Thread _ _).loc Cert.PrepKernelIdeal.main_arg5)),
    fun c => Cert.PrepRef.resK (m ((c.tc : Thread _ _).loc Cert.PrepKernelIdeal.main_arg0)) (m ((c.tc : Thread _ _).loc Cert.PrepKernelIdeal.main_arg3)) (m ((c.tc : Thread _ _).loc Cert.PrepKernelIdeal.main_arg4)) (m ((c.tc : Thread _ _).loc Cert.PrepKernelIdeal.main_arg6)),
    fun c => Cert.PrepRef.resV (m ((c.tc : Thread _ _).loc Cert.PrepKernelIdeal.main_arg0)) (m ((c.tc : Thread _ _).loc Cert.PrepKernelIdeal.main_arg3)) (m ((c.tc : Thread _ _).loc Cert.PrepKernelIdeal.main_arg4)), ?_, ?_⟩
  · refine (θ_run Cert.PrepKernelIdeal.defs _ _).mono (fun r hr c => ⟨(hr c).1.trans ?_, (hr c).2.1.trans ?_, (hr c).2.2.1.trans ?_, (hr c).2.2.2⟩) (Cert.PrepKernelIdeal.Value.run_blocks m g)
    · exact (Cert.PrepKernelIdeal.Body.final10 m c).trans (queries_eq ..)
    · exact (Cert.PrepKernelIdeal.Body.final11 m c).trans (keys_eq ..)
    · exact (Cert.PrepKernelIdeal.Body.final12 m c).trans (values_eq ..)
  · refine (θ_run Cert.PrepReferenceIdeal.defs _ _).mono (fun r hr c => ⟨(hr c).1.trans ?_, (hr c).2.1.trans ?_, (hr c).2.2.1.trans ?_, (hr c).2.2.2⟩) (Cert.PrepReferenceIdeal.Value.run m' g')
    · obtain ⟨e0, e1, e2, e3, e4, e5, e6⟩ := h c
      refine (Cert.PrepRef.res0 m' c).trans ?_
      rw [e0, e1, e2, e5]
    · obtain ⟨e0, e1, e2, e3, e4, e5, e6⟩ := h c
      refine (Cert.PrepRef.res1 m' c).trans ?_
      rw [e0, e3, e4, e6]
    · obtain ⟨e0, e1, e2, e3, e4, e5, e6⟩ := h c
      rw [e0, e3, e4]; rfl

end Cert.PrepCall
end
-- ==== Proof.RecPieces.lean ====
/- The convolution over positions: every place's four neighbours, weighed, and the bias. -/
module

public import Idealize.ShloMosaic.Lib.Pointwise
public import Idealize.ShloMosaic.Lib.Pipeline.ValueKit

@[expose] public section
noncomputable section
open Idealize.ShloMosaic
namespace Cert.Rec

/-- The entry `k` places into the rows that begin with two rows of zeros: zero outside the sequence. -/
def row (h : FVec Ideal ⟨3, ![5, 8192, 2944]⟩ .f32) (s : Fin 5) (j : Fin 1024) (k : ℕ) : EReal :=
  if c : 2 ≤ k ∧ k < 8194 then h (ix3 s (⟨k - 2, by omega⟩ : Fin 8192) (⟨j.val, by omega⟩ : Fin 2944)) else 0

/-- The convolved entry. -/
def convolved (h : FVec Ideal ⟨3, ![5, 8192, 2944]⟩ .f32) (w : FVec Ideal ⟨2, ![4, 1024]⟩ .f32) (b : FVec Ideal ⟨1, ![1024]⟩ .f32)
    (s : Fin 5) (n : Fin 8192) (j : Fin 1024) : EReal :=
  b (ix1 j) + w (ix2 (0 : Fin 4) j) * row h s j n.val + w (ix2 (1 : Fin 4) j) * row h s j (n.val + 1)
    + w (ix2 (2 : Fin 4) j) * row h s j (n.val + 2) + w (ix2 (3 : Fin 4) j) * row h s j (n.val + 3)

/-- The bias may come first or last. -/
theorem bias_first (b x y z u : EReal) : b + x + y + z + u = x + y + z + u + b := by
  rw [add_comm _ b]; simp only [add_assoc]

/-- The array. -/
def conved (h : FVec Ideal ⟨3, ![5, 8192, 2944]⟩ .f32) (w : FVec Ideal ⟨2, ![4, 1024]⟩ .f32) (b : FVec Ideal ⟨1, ![1024]⟩ .f32) :
    FVec Ideal ⟨3, ![5, 8192, 1024]⟩ .f32 := fun y => convolved h w b (y 0) (y 1) (y 2)

end Cert.Rec
end
-- ==== Proof.RecIdealRun.lean ====
/- The call that convolves and scans forward, over the extended reals: the run of its body. Of what it leaves only the convolved rows are
   named; the scan's rows and the working buffers may hold anything. -/
module

public import proofs.«01_k».proof.Proof.RecPieces
public import proofs.«01_k».proof.Proof.Gen.RecKernelIdeal.Skeleton
public import proofs.«01_k».proof.Proof.Gen.RecKernelIdeal.Loops
public import proofs.«01_k».proof.Proof.Gen.RecKernelIdeal.Frame
public import Idealize.ShloMosaic.Lib.Pipeline.FrameBody
public import Idealize.ShloMosaic.Lib.Pipeline.Value
public import Idealize.ShloMosaic.Lib.Claim
public import Idealize.ShloMosaic.Lib.Tactic
public import Idealize.ShloMosaic.Lib.WordCmp

@[expose] public section

set_option maxRecDepth 16384

noncomputable section

namespace Cert.RecKernelIdeal.Body

open Cert.RecKernelIdeal Cert.RecKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

/-- The three stores into the padded rows: the rows before the block, the block, the rows after it, the last store first. -/
def stores (i : grid0.Coords) (x0 : Vec F S1x512x1024 .f32) (x1 x2 : Vec F S1x8x1024 .f32) : List (View.Piece (Elt F) S528x1024 .f32) :=
  [⟨Rect.unit ![520, 0] S8x1024.size inb_S528x1024_S8x1024_520_0, k0_pay9 i (View.ld x2 (Rect.unit ![0, 0, 0] S1x8x1024.size inb_S1x8x1024_S1x8x1024_0_0_0))⟩,
   ⟨Rect.unit ![8, 0] S512x1024.size inb_S528x1024_S512x1024_8_0, k0_pay8 (View.ld x0 (Rect.unit ![0, 0, 0] S1x512x1024.size inb_S1x512x1024_S1x512x1024_0_0_0))⟩,
   ⟨Rect.unit ![0, 0] S8x1024.size inb_S528x1024_S8x1024_0_0, k0_pay7 i (View.ld x1 (Rect.unit ![0, 0, 0] S1x8x1024.size inb_S1x8x1024_S1x8x1024_0_0_0))⟩]

/-- The padded rows after the three stores. -/
def padded (i : grid0.Coords) (x0 : Vec F S1x512x1024 .f32) (x1 x2 : Vec F S1x8x1024 .f32) : Vec F S528x1024 .f32 :=
  View.canon (stores i x0 x1 x2)

/-- The convolved rows: the bias, and the four taps times the padded rows from the sixth, seventh, eighth and ninth on. -/
def conv (i : grid0.Coords) (x0 : Vec F S1x512x1024 .f32) (x1 x2 : Vec F S1x8x1024 .f32) (x3 : Vec F S4x1024 .f32) (x4 : Vec F S1x1024 .f32) : Vec F S1x512x1024 .f32 :=
  k0_pay12 (k0_pay10 (View.ld x4 (Rect.unit ![0, 0] S1x1024.size inb_S1x1024_S1x1024_0_0)))
    (View.ld x3 (Rect.unit ![0, 0] S1x1024.size inb_S4x1024_S1x1024_0_0)) (View.ld (padded i x0 x1 x2) (Rect.unit ![6, 0] S512x1024.size inb_S528x1024_S512x1024_6_0))
    (View.ld x3 (Rect.unit ![1, 0] S1x1024.size inb_S4x1024_S1x1024_1_0)) (View.ld (padded i x0 x1 x2) (Rect.unit ![7, 0] S512x1024.size inb_S528x1024_S512x1024_7_0))
    (View.ld x3 (Rect.unit ![2, 0] S1x1024.size inb_S4x1024_S1x1024_2_0)) (View.ld (padded i x0 x1 x2) (Rect.unit ![8, 0] S512x1024.size inb_S528x1024_S512x1024_8_0))
    (View.ld x3 (Rect.unit ![3, 0] S1x1024.size inb_S4x1024_S1x1024_3_0)) (View.ld (padded i x0 x1 x2) (Rect.unit ![9, 0] S512x1024.size inb_S528x1024_S512x1024_9_0))

set_option maxHeartbeats 8000000 in
/-- The body, from its input blocks at any contents and everything else at anything, ends with the inputs as they were and
    the convolved rows in their block. -/
theorem body_triple (c : Dev nD) (E : Set ℕ) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S8x128x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S528x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S8x1024 .f32) (harg16 : arg16.IsWhole)
    (x0 : Vec F S1x512x1024 .f32) (x1 : Vec F S1x8x1024 .f32) (x2 : Vec F S1x8x1024 .f32) (x3 : Vec F S4x1024 .f32) (x4 : Vec F S1x1024 .f32) (x5 : Vec F S8x128x256 .bf16) (x6 : Vec F S1x1024 .f32) (x7 : Vec F S1x1024 .f32) (x8 : Vec F S1x1024 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare (conv i x0 x1 x2 x3 x4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_lru_fwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_lru_fwd_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold cc0_lru_fwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, Hk⟩
  subst hf0 hf1 hf2 hf3 hf4 hf5 hf6 hf7 hf8
  by_cases h : Scalar.cmpi .ne (Scalar.extui (Scalar.cmpi .eq (BitVec.ofNat 32 (i 1).val) 0#32) : BitVec 32) 0#32 = 1#1
  all_goals
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; iexists _; isplitr
      swap; · iexact H9
      ipureintro; rfl
    isplitl [H10]
    · iexists _; isplitr
      swap; · iexact H10
      ipureintro
      first | unfold body_triple.sl.H10_1 | unfold body_triple.sl.H10_1_1
      rw [View.read_writes_junk_eq_canon, View.canon_unit_zero (by decide)]
      first
        | (unfold body_triple.sl.v27 body_triple.sl.v33 body_triple.sl.v38 body_triple.sl.v43; simp only [View.readCov_eq_canon']; rfl)
        | (unfold body_triple.sl.v27_1 body_triple.sl.v33_1 body_triple.sl.v38_1 body_triple.sl.v43_1; simp only [View.readCov_eq_canon']; rfl)
        | trace_state
    isplitl [H11]
    · iexists _; iexists _; isplitr
      swap; · iexact H11
      ipureintro; rfl
    isplitl [H12]
    · iexists _; iexists _; isplitr
      swap; · iexact H12
      ipureintro; rfl
    isplitl [H13]
    · iexists _; iexists _; isplitr
      swap; · iexact H13
      ipureintro; rfl
    iexists _; iexists _; isplitr
    swap; · iexact H14
    ipureintro; rfl

variable (m : (ℓ : Loc nD τ sig) → Buf (Elt F) ℓ) (ρ : Dev nD → PrngReg)

/-- The window whose blocks are left unnamed: the scan's. -/
def unnamed : Fin cfg0.W → Bool
  | ⟨9, _⟩ => true
  | _ => false

/-- What the run leaves where: the arrays as the call finds them, each input's block in place, the convolved rows at the
    body's result. What stands for the scan's block is never read. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => conv (grid0.coords t) (X0_0 m c t) (X0_1 m c t) (X0_2 m c t) (iblk m c 3 t) (iblk m c 4 t)
    | ⟨10, _⟩ => conv (grid0.coords t) (X0_0 m c t) (X0_1 m c t) (X0_2 m c t) (iblk m c 3 t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = X0_0 m c t := by dsimp only [dats]
theorem after1 (c : Dev nD) (t : Fin cfg0.N) : (dats m 0 c).after 1 t = X0_1 m c t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after10 (c : Dev nD) (t : Fin cfg0.N) : (dats m 0 c).after 10 t = conv (grid0.coords t) (X0_0 m c t) (X0_1 m c t) (X0_2 m c t) (iblk m c 3 t) (iblk m c 4 t) := by dsimp only [dats]
theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the run keeps beside the blocks: the four working buffers at any contents, and the generator's register. -/
theorem kept_eq (c : Dev nD) : (Pipeline.ΦA spec0 c : sProp (MT nD τ sig Unit (Elt F) ℕ (UR sig nD τ) ℕ))
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
        ∗ ∃ r, prngReg c r) := by
  unfold Pipeline.ΦA; rw [scopedRest0_eq]; simp only [owns_whole]; try rfl

/-- The body at a point, from the blocks there. -/
theorem at_point (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X)
    ∗ (∃ d, owns (c : Thread nD τ) (st0_10 t) fullShare ((dats m 0 c).before 10 t d)))
      ⊢ wp frame (wpE (defs₀ (F := F)) Variants.none c none) Set.univ (bodyAt0 t) (fun _ =>
        iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t)
        ∗ owns (c : Thread nD τ) (st0_8 t) fullShare ((dats m 0 c).after 8 t)
        ∗ (∃ X, owns (c : Thread nD τ) (st0_9 t) fullShare X)
        ∗ owns (c : Thread nD τ) (st0_10 t) fullShare ((dats m 0 c).after 10 t))) := by
  unfold bodyAt0
  simp only [before0, before1, before2, before3, before4, before5, before6, before7, before8]
  rw [show (dats m 0 c).Φ t.succ = (dats m 0 c).Φ t.castSucc from rfl,
    show (dats m 0 c).Φ t.castSucc = Pipeline.ΦA spec0 c from rfl, kept_eq,
    show (dats m 0 c).owesAt () t.succ = (dats m 0 c).owesAt () t.castSucc from rfl, after0, after1, after2, after3, after4, after5, after6, after7, after8, after10]
  iintro ⟨⟨⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ (grid0.coords t) _ _ _ _ _ _ _ _ _ _ _ _ _ _ _ _ _ _ _ _ _ _ _ _ _ _ _ _ _ _ (X0_0 m c t) (X0_1 m c t) (X0_2 m c t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [S0]; · iexact S0
  isplitl [S1]; · iexact S1
  isplitl [S2]; · iexact S2
  isplitl [S3]; · iexact S3
  iintro ⟨H0, H1, H2, H3, H4, H5, H6, H7, H8, H9, H10, S0, S1, S2, S3⟩
  isplitl [S0 S1 S2 S3 Hr]
  · isplitr [Hr]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row_eq (t : Fin cfg0.N) : defs₀ (F := F) .tc cfg0.body (cfg0.bodyArgs t (cfg0.slots t)) = bodyAt0 t := by
  unfold defs₀; rw [Defs.onTc_tc]

/-- Which is what the pipeline asks of the body at every point. -/
theorem obligation (c : Dev nD) : BodyObligation (dats (F := F) m 0 c) (defs₀ (F := F)) Variants.none () Set.univ unnamed := fun t => by
  rw [bigSep_W0, bigSep_W0, row_eq]
  simp only [show unnamed 0 = false from rfl, show unnamed 1 = false from rfl, show unnamed 2 = false from rfl, show unnamed 3 = false from rfl, show unnamed 4 = false from rfl, show unnamed 5 = false from rfl, show unnamed 6 = false from rfl, show unnamed 7 = false from rfl, show unnamed 8 = false from rfl, show unnamed 9 = true from rfl, show unnamed 10 = false from rfl]
  exact triple_restated (at_point m c t) rfl .rfl fun _ => .rfl

set_option backward.isDefEq.respectTransparency.types false in
set_option maxHeartbeats 800000 in
/-- The run: the arrays but the scan's end at what the proof data says, every other array as the call finds it. -/
theorem run : θ_run defs (onTc (τ := τ) (main (F := F))) (s₀ m ρ)
    (fun r => Pipeline.RDat.FramePost cfg0 (fun c => (dats m 0 c).toRForget unnamed) (V m) r ∧ r.2.sem = fun _ => 0) :=
  Pipeline.θ_run_frame_forget_shared (Q' := _) cfgs (dats m) (0 : Fin 1) launch₀0 defs₀ Variants.none unnamed m ρ main
    (hbody := fun c => (obligation m c).loose) (hq := fun _ _ _ => rfl) (howed := fun _ _ => rfl) (V := V m) (hmain := hmain m Variants.none)
    (hA := A_eq m) (hΦ := fun _ _ => rfl)

/-- A named window's array at the end. -/
theorem named (c : Dev nD) {w : Fin cfg0.W} (hw : unnamed w = false) {f} (h : ((dats m 0 c).toRForget unnamed).ArrAt w cfg0.N f) :
    f = (dats m 0 c).arrAt w cfg0.N := (Pipeline.Dat.toRForget_arrAt_iff _ hw _ _).mp h

/-- So the arguments end as they were, and the convolved rows at what the proof data says. -/
theorem ends : θ_run defs (onTc (τ := τ) (main (F := F))) ⟨m, fun _ => 0, ρ⟩ (fun r => (∀ c : Dev nD,
      r.2.mem ((c.tc : Thread nD τ).loc main_v6_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ ⟨h, hs⟩ => ⟨fun c => ⟨named m c rfl ((h c).1 10),
      (named m c rfl ((h c).1 2)).trans (((dats m 0 c).arrAt_in 2 rfl _).trans ((A_eq m c 2).trans (V_main_arg0 m c))),
      (named m c rfl ((h c).1 3)).trans (((dats m 0 c).arrAt_in 3 rfl _).trans ((A_eq m c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩, hs⟩) (run m ρ)

end Cert.RecKernelIdeal.Body

end
-- ==== Proof.RecBlocks.lean ====
/- The convolution over the extended reals: the padded rows of a grid point and the convolved block, entry by entry. -/
module

public import proofs.«01_k».proof.Proof.RecIdealRun
public import proofs.«01_k».proof.Proof.RecPieces
public import Idealize.ShloMosaic.Lib.Pointwise
public import Idealize.ShloMosaic.Lib.Pipeline.ValueKit
public import Idealize.ShloMosaic.Lib.Pipeline.ReadBack
public import Idealize.ShloMosaic.PureOps.Ideal.Laws

@[expose] public section
set_option maxRecDepth 16384
noncomputable section
open Idealize.ShloMosaic Idealize.ShloMosaic.TcCoe Idealize.SL.Sem
open Idealize.ShloMosaic.Pipeline (Dat)
namespace Cert.RecKernelIdeal.Body
open Cert.RecKernelIdeal Cert.RecKernelIdeal.Gen Cert.Rec

section Rows
variable (i : grid0.Coords) (x0 : FVec Ideal S1x512x1024 .f32) (x1 x2 : FVec Ideal S1x8x1024 .f32)

/-- A padded row: of the rows before, of the block, or of the rows after. -/
def line (p : Fin 528) (j : Fin 1024) : EReal :=
  if c : p.val < 8 then (if (i 1).val = 0 then 0 else x1 (ix3 (0 : Fin 1) (⟨p.val, c⟩ : Fin 8) j))
  else if c' : p.val < 520 then x0 (ix3 (0 : Fin 1) (⟨p.val - 8, by omega⟩ : Fin 512) j)
  else (if (i 1).val = 15 then 0 else x2 (ix3 (0 : Fin 1) (⟨p.val - 520, by omega⟩ : Fin 8) j))
theorem own_at (x : S512x1024.Idx) (p : Fin 528) (j : Fin 1024) (hp : p.val = 8 + (x 0).val) (hj : j.val = (x 1).val) :
    (k0_pay8 (F := Ideal) x0 x : EReal) = line i x0 x1 x2 p j := by
  have hx : (x 0).val < 512 := (x 0).isLt
  generalize hK : line i x0 x1 x2 p j = K
  rw [line, dif_neg (by omega), dif_pos (by omega)] at hK
  rw [← hK]
  pointwise [k0_pay8]
  obtain rfl : j = x 1 := Fin.ext hj
  exact congrArg (fun n => x0 (ix3 (0 : Fin 1) n (x 1))) (Fin.ext (by dsimp only; omega))
theorem first_at : ∀ n : Fin 16, Scalar.cmpi .eq (BitVec.ofNat 32 n.val) 0#32 = if n.val = 0 then 1#1 else 0#1 := by decide +kernel
theorem last_at : ∀ n : Fin 16, Scalar.cmpi .eq (BitVec.ofNat 32 n.val) 15#32 = if n.val = 15 then 1#1 else 0#1 := by decide +kernel
theorem before_at (x : S8x1024.Idx) (p : Fin 528) (j : Fin 1024) (hp : p.val = (x 0).val) (hj : j.val = (x 1).val) :
    (k0_pay7 (F := Ideal) i x1 x : EReal) = line i x0 x1 x2 p j := by
  have hx : (x 0).val < 8 := (x 0).isLt
  generalize hK : line i x0 x1 x2 p j = K
  rw [line, dif_pos (by omega)] at hK
  rw [← hK]
  have e := first_at (i 1)
  unfold k0_pay7
  dsimp only
  by_cases c : (i 1).val = 0
  · rw [if_pos c] at e ⊢
    rw [e]
    pointwise
  · rw [if_neg c] at e ⊢
    rw [e]
    pointwise
    obtain rfl : j = x 1 := Fin.ext hj
    exact congrArg (fun n => x1 (ix3 (0 : Fin 1) n (x 1))) (Fin.ext (by dsimp only; omega))
theorem behind_at (x : S8x1024.Idx) (p : Fin 528) (j : Fin 1024) (hp : p.val = 520 + (x 0).val) (hj : j.val = (x 1).val) :
    (k0_pay9 (F := Ideal) i x2 x : EReal) = line i x0 x1 x2 p j := by
  have hx : (x 0).val < 8 := (x 0).isLt
  generalize hK : line i x0 x1 x2 p j = K
  rw [line, dif_neg (by omega), dif_neg (by omega)] at hK
  rw [← hK]
  have e := last_at (i 1)
  unfold k0_pay9
  dsimp only
  by_cases c : (i 1).val = 15
  · rw [if_pos c] at e ⊢
    rw [e]
    pointwise
  · rw [if_neg c] at e ⊢
    rw [e]
    pointwise
    obtain rfl : j = x 1 := Fin.ext hj
    exact congrArg (fun n => x2 (ix3 (0 : Fin 1) n (x 1))) (Fin.ext (by dsimp only; omega))
/-- The three stores fill the padded rows. -/
theorem cover (y : S528x1024.Idx) : ∃ p ∈ stores (F := Ideal) i x0 x1 x2, y ∈ p.1.set := by
  have h0 : (y 0).val < 528 := (y 0).isLt
  have h1 : (y 1).val < 1024 := (y 1).isLt
  unfold stores
  by_cases c : (y 0).val < 8
  · refine ⟨_, .tail _ (.tail _ (.head _)), (Rect.mem_set_unit (inb := inb_S528x1024_S8x1024_0_0)).mpr fun a => ?_⟩
    match a with
    | ⟨0, _⟩ => exact ⟨Nat.zero_le _, by show (y 0).val < 0 + 8; omega⟩
    | ⟨1, _⟩ => exact ⟨Nat.zero_le _, by show (y 1).val < 0 + 1024; omega⟩
  by_cases c' : (y 0).val < 520
  · refine ⟨_, .tail _ (.head _), (Rect.mem_set_unit (inb := inb_S528x1024_S512x1024_8_0)).mpr fun a => ?_⟩
    match a with
    | ⟨0, _⟩ => exact ⟨by show 8 ≤ (y 0).val; omega, by show (y 0).val < 8 + 512; omega⟩
    | ⟨1, _⟩ => exact ⟨Nat.zero_le _, by show (y 1).val < 0 + 1024; omega⟩
  · refine ⟨_, .head _, (Rect.mem_set_unit (inb := inb_S528x1024_S8x1024_520_0)).mpr fun a => ?_⟩
    match a with
    | ⟨0, _⟩ => exact ⟨by show 520 ≤ (y 0).val; omega, by show (y 0).val < 520 + 8; omega⟩
    | ⟨1, _⟩ => exact ⟨Nat.zero_le _, by show (y 1).val < 0 + 1024; omega⟩
/-- Reading a whole block is the block. -/
theorem ld_own : View.ld (Val := Elt Ideal) (e' := .f32) x0 (Rect.unit ![0, 0, 0] S1x512x1024.size inb_S1x512x1024_S1x512x1024_0_0_0) = x0 :=
  funext fun x => congrArg x0 (funext fun a => Fin.ext (by match a with | ⟨0, _⟩ => exact Nat.zero_add _ |>.trans (Nat.one_mul _) | ⟨1, _⟩ => exact Nat.zero_add _ |>.trans (Nat.one_mul _) | ⟨2, _⟩ => exact Nat.zero_add _ |>.trans (Nat.one_mul _)))
theorem ld_eight (z : FVec Ideal S1x8x1024 .f32) : View.ld (Val := Elt Ideal) (e' := .f32) z (Rect.unit ![0, 0, 0] S1x8x1024.size inb_S1x8x1024_S1x8x1024_0_0_0) = z :=
  funext fun x => congrArg z (funext fun a => Fin.ext (by match a with | ⟨0, _⟩ => exact Nat.zero_add _ |>.trans (Nat.one_mul _) | ⟨1, _⟩ => exact Nat.zero_add _ |>.trans (Nat.one_mul _) | ⟨2, _⟩ => exact Nat.zero_add _ |>.trans (Nat.one_mul _)))
theorem padded_line (y : S528x1024.Idx) : (padded (F := Ideal) i x0 x1 x2 y : EReal) = line i x0 x1 x2 (y 0) (y 1) :=
  View.canon_apply_of_pieces (Val := Elt Ideal) (e := .f32) (fun y : S528x1024.Idx => line i x0 x1 x2 (y 0) (y 1)) (stores (F := Ideal) i x0 x1 x2) (fun p hp x => by
    unfold stores at hp
    rw [ld_own, ld_eight, ld_eight] at hp
    rcases List.mem_cons.mp hp with rfl | hp
    · exact behind_at i x0 x1 x2 x _ _ (by show 520 + 1 * (x 0).val = _; omega) (by show 0 + 1 * (x 1).val = _; omega)
    rcases List.mem_cons.mp hp with rfl | hp
    · exact own_at i x0 x1 x2 x _ _ (by show 8 + 1 * (x 0).val = _; omega) (by show 0 + 1 * (x 1).val = _; omega)
    rcases List.mem_cons.mp hp with rfl | hp
    · exact before_at i x0 x1 x2 x _ _ (by show 0 + 1 * (x 0).val = _; omega) (by show 0 + 1 * (x 1).val = _; omega)
    · exact absurd hp List.not_mem_nil) y (cover i x0 x1 x2 y)
end Rows

/-- The convolved block, from padded rows. -/
theorem conv_at (i : grid0.Coords) (x0 : FVec Ideal S1x512x1024 .f32) (x1 x2 : FVec Ideal S1x8x1024 .f32) (x3 : FVec Ideal S4x1024 .f32) (x4 : FVec Ideal S1x1024 .f32)
    (r : Fin 512) (j : Fin 1024) :
    (conv (F := Ideal) i x0 x1 x2 x3 x4 (ix3 (0 : Fin 1) r j) : EReal)
      = x4 (ix2 (0 : Fin 1) j) + x3 (ix2 (0 : Fin 4) j) * line i x0 x1 x2 ⟨6 + r.val, by omega⟩ j + x3 (ix2 (1 : Fin 4) j) * line i x0 x1 x2 ⟨7 + r.val, by omega⟩ j
        + x3 (ix2 (2 : Fin 4) j) * line i x0 x1 x2 ⟨8 + r.val, by omega⟩ j + x3 (ix2 (3 : Fin 4) j) * line i x0 x1 x2 ⟨9 + r.val, by omega⟩ j := by
  have e := padded_line i x0 x1 x2
  unfold conv
  generalize padded (F := Ideal) i x0 x1 x2 = u at e ⊢
  pointwise [k0_pay12, k0_pay11, k0_pay10]
  rw [e, e, e, e]
  rfl

variable (m : (ℓ : Loc nD τ sig) → Buf (Elt Ideal) ℓ) (c : Dev nD) (t : Fin cfg0.N)
/-- The blocks' places. -/
theorem idx : ∀ t : Fin cfg0.N, win0_0.index t = ![t.val / 16, t.val % 16, 0] ∧ win0_1.index t = ![t.val / 16, 64 * (t.val % 16) - 1, 0]
    ∧ win0_3.index t = ![0, 0] ∧ win0_4.index t = ![0, 0] ∧ win0_10.index t = ![t.val / 16, t.val % 16, 0] :=
  (by decide +kernel : ∀ t : Fin grid0.N, _)
theorem idx2 : ∀ t : Fin cfg0.N, t.val % 16 ≠ 15 → win0_2.index t = ![t.val / 16, 64 * (t.val % 16) + 64, 0] :=
  (by decide +kernel : ∀ t : Fin grid0.N, _)
theorem column : ∀ t : Fin cfg0.N, (grid0.coords t 1).val = t.val % 16 := (by decide +kernel : ∀ t : Fin grid0.N, _)
theorem blk0 (r : Fin 512) (j : Fin 1024) (s : Fin 5) (n : Fin 8192) (k : Fin 2944) (hs : s.val = t.val / 16) (hn : n.val = 512 * (t.val % 16) + r.val) (hk : k.val = j.val) :
    (X0_0 m c t : FVec Ideal S1x512x1024 .f32) (ix3 (0 : Fin 1) r j) = (m ((c : Thread nD τ).loc main_arg0) : FVec Ideal S5x8192x2944 .f32) (ix3 s n k) := by
  unfold X0_0 Pipeline.Window.fill
  rw [dif_pos (moved0_0 t _), ← V_main_arg0 m c]
  blk_ext [iblk, idx t]
theorem blk1 (r : Fin 8) (j : Fin 1024) (s : Fin 5) (n : Fin 8192) (k : Fin 2944) (h0 : t.val % 16 ≠ 0) (hs : s.val = t.val / 16)
    (hn : n.val + 8 = 512 * (t.val % 16) + r.val) (hk : k.val = j.val) :
    (X0_1 m c t : FVec Ideal S1x8x1024 .f32) (ix3 (0 : Fin 1) r j) = (m ((c : Thread nD τ).loc main_arg0) : FVec Ideal S5x8192x2944 .f32) (ix3 s n k) := by
  unfold X0_1 Pipeline.Window.fill
  rw [dif_pos (moved0_1 t _), ← V_main_arg0 m c]
  blk_ext [iblk, idx t]
theorem blk2 (r : Fin 8) (j : Fin 1024) (s : Fin 5) (n : Fin 8192) (k : Fin 2944) (h0 : t.val % 16 ≠ 15) (hs : s.val = t.val / 16)
    (hn : n.val = 512 * (t.val % 16) + 512 + r.val) (hk : k.val = j.val) :
    (X0_2 m c t : FVec Ideal S1x8x1024 .f32) (ix3 (0 : Fin 1) r j) = (m ((c : Thread nD τ).loc main_arg0) : FVec Ideal S5x8192x2944 .f32) (ix3 s n k) := by
  unfold X0_2 Pipeline.Window.fill
  rw [dif_pos (moved0_2 t _), ← V_main_arg0 m c]
  blk_ext [iblk, idx2 t h0]
theorem blk3 (a : Fin 4) (j : Fin 1024) :
    (iblk m c 3 t : FVec Ideal S4x1024 .f32) (ix2 a j) = (m ((c : Thread nD τ).loc main_arg1) : FVec Ideal S4x1024 .f32) (ix2 a j) := by
  rw [← V_main_arg1 m c]
  blk_ext [iblk, idx t]
theorem host_b : V m c main_v2 = (shapeCast S1x1024 (m ((c : Thread nD τ).loc main_arg2) : FVec Ideal S1024 .f32) shapeCasts_S1024_S1x1024 : FVec Ideal S1x1024 .f32) := by
  unfold_abbrev_sides
  simp only [StableHlo.after_cons, StableHlo.after_nil]
  after_results_simp <;> (try dsimp only [Matrix.cons_val]) <;> (try after_results_simp) <;> rfl
theorem blk4 (j : Fin 1024) :
    (iblk m c 4 t : FVec Ideal S1x1024 .f32) (ix2 (0 : Fin 1) j) = (m ((c : Thread nD τ).loc main_arg2) : FVec Ideal S1024 .f32) (ix1 j) := by
  have e : (iblk m c 4 t : FVec Ideal S1x1024 .f32) (ix2 (0 : Fin 1) j) = (V m c main_v2 : FVec Ideal S1x1024 .f32) (ix2 (0 : Fin 1) j) := by
    blk_ext [iblk, idx t]
  rw [e, host_b]
  pointwise

/-- A point's padded rows, in the argument: from the sixth on they are the sequence's rows from the point's first place,
    two zero rows standing before the sequence and zero rows after it. -/
theorem line_at (p : Fin 528) (j : Fin 1024) (s : Fin 5) (hs : s.val = t.val / 16) (h6 : 6 ≤ p.val) :
    line (grid0.coords t) (X0_0 m c t) (X0_1 m c t) (X0_2 m c t) p j
      = row (m ((c : Thread nD τ).loc main_arg0)) s j (512 * (t.val % 16) + (p.val - 6)) := by
  have hp : p.val < 528 := p.isLt
  have hc := column t
  unfold line row
  by_cases a : p.val < 8
  · rw [dif_pos a, hc]
    by_cases b : t.val % 16 = 0
    · rw [if_pos b, dif_neg (by omega)]
    · rw [if_neg b, dif_pos (by omega)]
      exact blk1 m c t _ _ _ _ _ b hs (by dsimp only; omega) rfl
  rw [dif_neg a]
  by_cases a' : p.val < 520
  · rw [dif_pos a', dif_pos (by omega)]
    exact blk0 m c t _ _ _ _ _ hs (by dsimp only; omega) rfl
  · rw [dif_neg a', hc]
    by_cases b : t.val % 16 = 15
    · rw [if_pos b, dif_neg (by omega)]
    · rw [if_neg b, dif_pos (by omega)]
      exact blk2 m c t _ _ _ _ _ b hs (by dsimp only; omega) rfl

/-- A point's convolved block, in the arguments. -/
theorem conv_blk (r : Fin 512) (j : Fin 1024) (s : Fin 5) (n : Fin 8192) (hs : s.val = t.val / 16) (hn : n.val = 512 * (t.val % 16) + r.val) :
    (conv (F := Ideal) (grid0.coords t) (X0_0 m c t) (X0_1 m c t) (X0_2 m c t) (iblk m c 3 t) (iblk m c 4 t) (ix3 (0 : Fin 1) r j) : EReal)
      = convolved (m ((c : Thread nD τ).loc main_arg0)) (m ((c : Thread nD τ).loc main_arg1)) (m ((c : Thread nD τ).loc main_arg2)) s n j := by
  have e := fun p h => line_at m c t p j s hs h
  rw [conv_at, e _ (by dsimp only; omega), e _ (by dsimp only; omega), e _ (by dsimp only; omega), e _ (by dsimp only; omega)]
  unfold convolved
  have e3 := fun a => blk3 m c t a j
  refine congrArg₂ (· + ·) (congrArg₂ (· + ·) (congrArg₂ (· + ·) (congrArg₂ (· + ·) (blk4 m c t j) (congrArg₂ (· * ·) (e3 0) ?_)) (congrArg₂ (· * ·) (e3 1) ?_))
    (congrArg₂ (· * ·) (e3 2) ?_)) (congrArg₂ (· * ·) (e3 3) ?_)
  all_goals exact congrArg (row _ s j) (by dsimp only; omega)

/-- The convolution's array. -/
theorem final10 : (dats m 0 c).arrAt 10 (cfgs 0).N
    = (conved (m ((c : Thread nD τ).loc main_arg0)) (m ((c : Thread nD τ).loc main_arg1)) (m ((c : Thread nD τ).loc main_arg2)) : FVec Ideal S5x8192x1024 .f32) := by
  refine (dats m 0 c).arrAt_eq_of_covers 10 _ (by decide +kernel) fun t _ y => ?_
  blk_simp
  rw [after10]
  obtain ⟨r, j, rfl⟩ : ∃ (r : Fin 512) (j : Fin 1024), y = ix3 (0 : Fin 1) r j :=
    ⟨y 1, y 2, by funext a; fin_cases a; exacts [Subsingleton.elim (α := Fin 1) _ _, rfl, rfl]⟩
  have ht : t.val < 80 := t.isLt
  have h0 : (((cfg0.win 10).blk t).view.emb (ix3 (0 : Fin 1) r j) : S5x8192x1024.Idx) 0 = (⟨t.val / 16, by omega⟩ : Fin 5) := by
    apply Fin.ext; blk_simp [idx t]; rfl
  have h1 : (((cfg0.win 10).blk t).view.emb (ix3 (0 : Fin 1) r j) : S5x8192x1024.Idx) 1 = (⟨512 * (t.val % 16) + r.val, by omega⟩ : Fin 8192) := by
    apply Fin.ext; blk_simp [idx t]; dsimp only; omega
  have h2 : (((cfg0.win 10).blk t).view.emb (ix3 (0 : Fin 1) r j) : S5x8192x1024.Idx) 2 = j := by
    apply Fin.ext; blk_simp [idx t]
  refine (conv_blk m c t r j ⟨t.val / 16, by omega⟩ ⟨512 * (t.val % 16) + r.val, by omega⟩ rfl rfl).trans ?_
  unfold conved
  exact (congr (congrArg₂ (convolved _ _ _) h0 h1) h2).symm

end Cert.RecKernelIdeal.Body
end
-- ==== Proof.RecRef.lean ====
/- The convolution's reference over the extended reals, entry by entry. -/
module

public import proofs.«01_k».proof.Proof.Gen.RecReferenceIdeal.Run
public import proofs.«01_k».proof.Proof.RecPieces
public import Idealize.ShloMosaic.Lib.Pointwise
public import Idealize.ShloMosaic.Lib.Pipeline.ValueKit

@[expose] public section
set_option maxRecDepth 16384
set_option maxHeartbeats 1600000
noncomputable section
open Idealize.ShloMosaic Idealize.ShloMosaic.TcCoe Idealize.SL.Sem
namespace Cert.RecRef
open Cert.RecReferenceIdeal Cert.RecReferenceIdeal.Gen Cert.RecReferenceIdeal.Value Cert.Rec

/-- The integer zero is the zero. -/
theorem zero_int : (FloatOps.sitofp FTy.f32 0#32 : Ideal .f32) = (0 : EReal) := by
  change (((0#32 : BitVec 32).toInt : ℝ) : EReal) = 0
  simp
/-- The rows with two zero rows before them and one after. -/
def long (h : FVec Ideal S5x8192x2944 .f32) : FVec Ideal S5x8195x1024 .f32 :=
  pad S5x8195x1024 ![0, 2, 0] ![0, 1, 0] ![0, 0, 0] (extractStridedSlice S5x8192x1024 ![0, 0, 0] h slices_S5x8192x2944_S5x8192x1024_0_0_0)
    (sitofp .f32 (constantI S_ 32 0#32)) pads_S5x8192x1024_S5x8195x1024_000_210_000 h_S_
theorem long_at (h : FVec Ideal S5x8192x2944 .f32) (s : Fin 5) (n : Fin 8195) (j : Fin 1024) : (long h (ix3 s n j) : EReal) = row h s j n.val := by
  generalize hK : row h s j n.val = K
  pointwise [long]
  by_cases c : 2 ≤ n.val ∧ n.val < 8194
  · rw [row, dif_pos c] at hK
    rw [dif_pos (by omega)]
    exact hK
  · rw [row, dif_neg c] at hK
    rw [dif_neg (by omega), ← hK]
    exact zero_int
/-- A tap, at every place. -/
def tap (o : ℕ) (w : FVec Ideal S4x1024 .f32) (hs : S4x1024.Slices ![o, 0] S1x1024) : FVec Ideal S5x8192x1024 .f32 :=
  broadcastInDim S5x8192x1024 ![0, 1, 2] bcast_S1x1x1024_S5x8192x1024_0_1_2 (broadcastInDim S1x1x1024 ![2] bcast_S1024_S1x1x1024_2
    (shapeCast _ (extractStridedSlice S1x1024 ![o, 0] w hs) shapeCasts_S1x1024_S1024))
/-- The reference's array. -/
def res (h : FVec Ideal S5x8192x2944 .f32) (w : FVec Ideal S4x1024 .f32) (b : FVec Ideal S1024 .f32) : FVec Ideal S5x8192x1024 .f32 :=
  addf (addf (addf (addf
    (mulf (tap 0 w slices_S4x1024_S1x1024_0_0) (extractStridedSlice S5x8192x1024 ![0, 0, 0] (long h) slices_S5x8195x1024_S5x8192x1024_0_0_0))
    (mulf (tap 1 w slices_S4x1024_S1x1024_1_0) (extractStridedSlice S5x8192x1024 ![0, 1, 0] (long h) slices_S5x8195x1024_S5x8192x1024_0_1_0)))
    (mulf (tap 2 w slices_S4x1024_S1x1024_2_0) (extractStridedSlice S5x8192x1024 ![0, 2, 0] (long h) slices_S5x8195x1024_S5x8192x1024_0_2_0)))
    (mulf (tap 3 w slices_S4x1024_S1x1024_3_0) (extractStridedSlice S5x8192x1024 ![0, 3, 0] (long h) slices_S5x8195x1024_S5x8192x1024_0_3_0)))
    (broadcastInDim S5x8192x1024 ![0, 1, 2] bcast_S1x1x1024_S5x8192x1024_0_1_2 (broadcastInDim S1x1x1024 ![2] bcast_S1024_S1x1x1024_2 b))
theorem res_at (h : FVec Ideal S5x8192x2944 .f32) (w : FVec Ideal S4x1024 .f32) (b : FVec Ideal S1024 .f32) (s : Fin 5) (n : Fin 8192) (j : Fin 1024) :
    (res h w b (ix3 s n j) : EReal) = convolved h w b s n j := by
  have e := fun n => long_at h s n j
  unfold convolved
  rw [bias_first]
  pointwise [res, tap]
  simp only [e, Nat.add_comm 1, Nat.add_comm 2, Nat.add_comm 3]
theorem res_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = res (m ((c.tc : Thread nD τ).loc main_arg0)) (m ((c.tc : Thread nD τ).loc main_arg1)) (m ((c.tc : Thread nD τ).loc main_arg2)) :=
  (θ_run defs _ _).mono (fun r hr c => (hr c).1) (run m ρ)

end Cert.RecRef
end
-- ==== Proof.RecCall.lean ====
/- The call that convolves and scans forward: the claims of its convolution. -/
module

public import proofs.«01_k».proof.Defs
public import proofs.«01_k».proof.Proof.RecRun
public import proofs.«01_k».proof.Proof.RecBlocks
public import proofs.«01_k».proof.Proof.RecRef
public import Idealize.ShloMosaic.Adequacy
public import Idealize.ShloMosaic.Init

@[expose] public section
set_option maxRecDepth 16384
set_option maxHeartbeats 1600000
noncomputable section
open Idealize.ShloMosaic Idealize.ShloMosaic.TcCoe Idealize.SL.Sem
namespace Cert.RecCall
open Cert.Rec

/-- The reference's array is the same. -/
theorem res_eq (h : FVec Ideal ⟨3, ![5, 8192, 2944]⟩ .f32) (w : FVec Ideal ⟨2, ![4, 1024]⟩ .f32) (b : FVec Ideal ⟨1, ![1024]⟩ .f32) :
    Cert.RecRef.res h w b = conved h w b := by
  funext y
  obtain ⟨s, n, j, rfl⟩ : ∃ (s : Fin 5) (n : Fin 8192) (j : Fin 1024), y = ix3 s n j := ⟨y 0, y 1, y 2, by funext a; fin_cases a <;> rfl⟩
  exact Cert.RecRef.res_at h w b s n j

/-- The kernel terminates, its arguments kept. -/
theorem frame_p : Cert.quiescent_RecKernel := fun m g _ =>
  (θ_run Cert.RecKernel.defs _ _).mono (fun r hr => ⟨fun c => (hr.1 c).2, hr.2⟩) (Cert.RecKernel.Body.ends m g)
/-- So does its ideal. -/
theorem frame_pi : Cert.quiescent_RecKernelIdeal := fun m g _ =>
  (θ_run Cert.RecKernelIdeal.defs _ _).mono (fun r hr => ⟨fun c => (hr.1 c).2, hr.2⟩) (Cert.RecKernelIdeal.Body.ends m g)
/-- So does the reference, which has no semaphore. -/
theorem frame_ri : Cert.quiescent_RecReferenceIdeal := fun m g _ =>
  (θ_run Cert.RecReferenceIdeal.defs _ _).mono (fun r hr => ⟨fun c => (hr c).2, sem_eq_zero_of_no_sems (by decide) r.2⟩)
    (Cert.RecReferenceIdeal.Value.run m g)
/-- The kernel and the reference leave the same convolution. -/
theorem algebraic : Cert.algebraic_RecKernelIdeal_RecReferenceIdeal := by
  intro m g m' g' _ h
  refine ⟨fun c => conved (m ((c.tc : Thread _ _).loc Cert.RecKernelIdeal.main_arg0)) (m ((c.tc : Thread _ _).loc Cert.RecKernelIdeal.main_arg1))
    (m ((c.tc : Thread _ _).loc Cert.RecKernelIdeal.main_arg2)), ?_, ?_⟩
  · exact (θ_run Cert.RecKernelIdeal.defs _ _).mono (fun r hr c => ⟨(hr.1 c).1.trans (Cert.RecKernelIdeal.Body.final10 m c), (hr.1 c).2⟩)
      (Cert.RecKernelIdeal.Body.ends m g)
  · refine (θ_run Cert.RecReferenceIdeal.defs _ _).mono (fun r hr c => ⟨(hr c).1.trans ?_, (hr c).2⟩) (Cert.RecReferenceIdeal.Value.run m' g')
    obtain ⟨e0, e1, e2, _⟩ := h c
    refine Eq.trans ?_ (res_eq _ _ _)
    rw [e0, e1, e2]
    rfl

end Cert.RecCall
end
-- ==== Proof.lean ====
/- The proof of the claims: the calls' own claims, put together. -/
module

public import proofs.«01_k».proof.Defs
public import proofs.«01_k».proof.Proof.Attention
public import proofs.«01_k».proof.Proof.InCall
public import proofs.«01_k».proof.Proof.NormCall
public import proofs.«01_k».proof.Proof.MixCall
public import proofs.«01_k».proof.Proof.PrepCall
public import proofs.«01_k».proof.Proof.RecCall
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.MixReferenceIdeal.Run
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.Pre_finite_mix
public import proofs.«01_k».proof.Proof.Gen.PrepKernel
public import proofs.«01_k».proof.Proof.Gen.PrepKernel.Skeleton
public import proofs.«01_k».proof.Proof.Gen.PrepKernel.Launch
public import proofs.«01_k».proof.Proof.Gen.PrepKernel.Points
public import proofs.«01_k».proof.Proof.Gen.PrepKernel.Frame
public import proofs.«01_k».proof.Proof.Gen.PrepKernelIdeal
public import proofs.«01_k».proof.Proof.Gen.PrepKernelIdeal.Skeleton
public import proofs.«01_k».proof.Proof.Gen.PrepKernelIdeal.Launch
public import proofs.«01_k».proof.Proof.Gen.PrepKernelIdeal.Points
public import proofs.«01_k».proof.Proof.Gen.PrepKernelIdeal.Frame
public import proofs.«01_k».proof.Proof.Gen.PrepKernelIdeal.Value
public import proofs.«01_k».proof.Proof.Gen.PrepReferenceIdeal
public import proofs.«01_k».proof.Proof.Gen.PrepReferenceIdeal.Run
public import proofs.«01_k».proof.Proof.Gen.RecKernel
public import proofs.«01_k».proof.Proof.Gen.RecKernel.Skeleton
public import proofs.«01_k».proof.Proof.Gen.RecKernel.Launch
public import proofs.«01_k».proof.Proof.Gen.RecKernel.Points
public import proofs.«01_k».proof.Proof.Gen.RecKernel.Frame
public import proofs.«01_k».proof.Proof.Gen.RecKernelIdeal
public import proofs.«01_k».proof.Proof.Gen.RecKernelIdeal.Skeleton
public import proofs.«01_k».proof.Proof.Gen.RecKernelIdeal.Launch
public import proofs.«01_k».proof.Proof.Gen.RecKernelIdeal.Points
public import proofs.«01_k».proof.Proof.Gen.RecKernelIdeal.Frame
public import proofs.«01_k».proof.Proof.Gen.RecReferenceIdeal
public import proofs.«01_k».proof.Proof.Gen.RecReferenceIdeal.Run
public import Idealize.ShloMosaic.Adequacy
public import Idealize.ShloMosaic.Init

@[expose] public section

noncomputable section

namespace Cert.Proof

/-- Every claim of the statement holds. -/
theorem claim : Cert.Claim :=
  ⟨Cert.Kernel.Gen.facts, Cert.KernelIdeal.Gen.facts, Cert.ReferenceIdeal.Gen.facts,
    Cert.InKernel.Gen.facts, Cert.InKernelIdeal.Gen.facts, Cert.InReferenceIdeal.Gen.facts,
    Cert.NormKernel.Gen.facts, Cert.NormKernelIdeal.Gen.facts, Cert.NormReferenceIdeal.Gen.facts, Cert.MixKernel.Gen.facts, Cert.MixKernelIdeal.Gen.facts, Cert.MixReferenceIdeal.Gen.facts,
    Cert.PrepKernel.Gen.facts, Cert.PrepKernelIdeal.Gen.facts, Cert.PrepReferenceIdeal.Gen.facts,
    Cert.RecKernel.Gen.facts, Cert.RecKernelIdeal.Gen.facts, Cert.RecReferenceIdeal.Gen.facts,
    Cert.Pre_finite.Gen.facts, Cert.Pre_finite_mix.Gen.facts,
    Cert.Attention.frame_p, Cert.Attention.frame_pi, Cert.Attention.frame_pif, Cert.Attention.frame_ri, Cert.Attention.frame_rif,
    Cert.InCall.frame_p, Cert.InCall.frame_pi, Cert.InCall.frame_ri,
    Cert.NormCall.frame_p, Cert.NormCall.frame_pi, Cert.NormCall.frame_ri,
    Cert.MixCall.frame_p, Cert.MixCall.frame_pi, Cert.MixCall.frame_pif, Cert.MixCall.frame_ri, Cert.MixCall.frame_rif,
    Cert.PrepCall.frame_p, Cert.PrepCall.frame_pi, Cert.PrepCall.frame_ri,
    Cert.RecCall.frame_p, Cert.RecCall.frame_pi, Cert.RecCall.frame_ri,
    trivial, Cert.Attention.algebraic, trivial, Cert.InCall.algebraic, trivial, Cert.NormCall.algebraic, trivial, Cert.MixCall.algebraic,
    Cert.PrepCall.preserves, Cert.PrepCall.algebraic, trivial, Cert.RecCall.algebraic⟩

end Cert.Proof

end
